-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Fold (m : (ℓ : Loc Cert.Fold.nD Cert.Fold.τ Cert.Fold.sig) → Buf (Elt Bits) ℓ) : Prop :=
  True

def Pre_FoldIdeal (m : (ℓ : Loc Cert.FoldIdeal.nD Cert.FoldIdeal.τ Cert.FoldIdeal.sig) → Buf (Elt Ideal) ℓ) : Prop :=
  True

def Pre_FoldReferenceIdeal (m : (ℓ : Loc Cert.FoldReferenceIdeal.nD Cert.FoldReferenceIdeal.τ Cert.FoldReferenceIdeal.sig) → Buf (Elt Ideal) ℓ) : Prop :=
  True

def Pre_Adaln (m : (ℓ : Loc Cert.Adaln.nD Cert.Adaln.τ Cert.Adaln.sig) → Buf (Elt Bits) ℓ) : Prop :=
  True

def Pre_AdalnIdeal (m : (ℓ : Loc Cert.AdalnIdeal.nD Cert.AdalnIdeal.τ Cert.AdalnIdeal.sig) → Buf (Elt Ideal) ℓ) : Prop :=
  True

def Pre_AdalnIdeal_adaln_finite [hPre_adaln_finite : Cert.Pre_adaln_finite.Facts] (m : (ℓ : Loc Cert.AdalnIdeal.nD Cert.AdalnIdeal.τ Cert.AdalnIdeal.sig) → Buf (Elt Ideal) ℓ) : Prop :=
  ∀ c : Dev Cert.AdalnIdeal.nD,
    (Cert.Pre_adaln_finite.fn (F := Ideal) (m ((c.tc : Thread Cert.AdalnIdeal.nD Cert.AdalnIdeal.τ).loc Cert.AdalnIdeal.main_arg0)) (m ((c.tc : Thread Cert.AdalnIdeal.nD Cert.AdalnIdeal.τ).loc Cert.AdalnIdeal.main_arg1)) (m ((c.tc : Thread Cert.AdalnIdeal.nD Cert.AdalnIdeal.τ).loc Cert.AdalnIdeal.main_arg2))) = (fun _ => 1#1)

def Pre_AdalnReferenceIdeal (m : (ℓ : Loc Cert.AdalnReferenceIdeal.nD Cert.AdalnReferenceIdeal.τ Cert.AdalnReferenceIdeal.sig) → Buf (Elt Ideal) ℓ) : Prop :=
  True

def Pre_AdalnReferenceIdeal_adaln_finite [hPre_adaln_finite : Cert.Pre_adaln_finite.Facts] (m : (ℓ : Loc Cert.AdalnReferenceIdeal.nD Cert.AdalnReferenceIdeal.τ Cert.AdalnReferenceIdeal.sig) → Buf (Elt Ideal) ℓ) : Prop :=
  ∀ c : Dev Cert.AdalnReferenceIdeal.nD,
    (Cert.Pre_adaln_finite.fn (F := Ideal) (m ((c.tc : Thread Cert.AdalnReferenceIdeal.nD Cert.AdalnReferenceIdeal.τ).loc Cert.AdalnReferenceIdeal.main_arg0)) (m ((c.tc : Thread Cert.AdalnReferenceIdeal.nD Cert.AdalnReferenceIdeal.τ).loc Cert.AdalnReferenceIdeal.main_arg1)) (m ((c.tc : Thread Cert.AdalnReferenceIdeal.nD Cert.AdalnReferenceIdeal.τ).loc Cert.AdalnReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5))
      ∧ r.2.sem = fun _ => 0)

def quiescent_Fold [hFold : Cert.Fold.Facts] : Prop :=
  ∀ (m : (ℓ : Loc Cert.Fold.nD Cert.Fold.τ Cert.Fold.sig) → Buf (Elt Bits) ℓ) (g : Dev Cert.Fold.nD → PrngReg), Pre_Fold m →
    θ_run (Cert.Fold.defs (F := Bits)) (onTc (τ := Cert.Fold.τ) (Cert.Fold.main (F := Bits))) ⟨m, fun _ => 0, g⟩ (fun r => (∀ c : Dev Cert.Fold.nD,
      r.2.mem ((c.tc : Thread Cert.Fold.nD Cert.Fold.τ).loc Cert.Fold.main_arg0) = m ((c.tc : Thread Cert.Fold.nD Cert.Fold.τ).loc Cert.Fold.main_arg0)
      ∧ r.2.mem ((c.tc : Thread Cert.Fold.nD Cert.Fold.τ).loc Cert.Fold.main_arg1) = m ((c.tc : Thread Cert.Fold.nD Cert.Fold.τ).loc Cert.Fold.main_arg1)
      ∧ r.2.mem ((c.tc : Thread Cert.Fold.nD Cert.Fold.τ).loc Cert.Fold.main_arg2) = m ((c.tc : Thread Cert.Fold.nD Cert.Fold.τ).loc Cert.Fold.main_arg2))
      ∧ r.2.sem = fun _ => 0)

def quiescent_FoldIdeal [hFoldIdeal : Cert.FoldIdeal.Facts] : Prop :=
  ∀ (m : (ℓ : Loc Cert.FoldIdeal.nD Cert.FoldIdeal.τ Cert.FoldIdeal.sig) → Buf (Elt Ideal) ℓ) (g : Dev Cert.FoldIdeal.nD → PrngReg), Pre_FoldIdeal m →
    θ_run (Cert.FoldIdeal.defs (F := Ideal)) (onTc (τ := Cert.FoldIdeal.τ) (Cert.FoldIdeal.main (F := Ideal))) ⟨m, fun _ => 0, g⟩ (fun r => (∀ c : Dev Cert.FoldIdeal.nD,
      r.2.mem ((c.tc : Thread Cert.FoldIdeal.nD Cert.FoldIdeal.τ).loc Cert.FoldIdeal.main_arg0) = m ((c.tc : Thread Cert.FoldIdeal.nD Cert.FoldIdeal.τ).loc Cert.FoldIdeal.main_arg0)
      ∧ r.2.mem ((c.tc : Thread Cert.FoldIdeal.nD Cert.FoldIdeal.τ).loc Cert.FoldIdeal.main_arg1) = m ((c.tc : Thread Cert.FoldIdeal.nD Cert.FoldIdeal.τ).loc Cert.FoldIdeal.main_arg1)
      ∧ r.2.mem ((c.tc : Thread Cert.FoldIdeal.nD Cert.FoldIdeal.τ).loc Cert.FoldIdeal.main_arg2) = m ((c.tc : Thread Cert.FoldIdeal.nD Cert.FoldIdeal.τ).loc Cert.FoldIdeal.main_arg2))
      ∧ r.2.sem = fun _ => 0)

def quiescent_FoldReferenceIdeal [hFoldReferenceIdeal : Cert.FoldReferenceIdeal.Facts] : Prop :=
  ∀ (m : (ℓ : Loc Cert.FoldReferenceIdeal.nD Cert.FoldReferenceIdeal.τ Cert.FoldReferenceIdeal.sig) → Buf (Elt Ideal) ℓ) (g : Dev Cert.FoldReferenceIdeal.nD → PrngReg), Pre_FoldReferenceIdeal m →
    θ_run (Cert.FoldReferenceIdeal.defs (F := Ideal)) (onTc (τ := Cert.FoldReferenceIdeal.τ) (Cert.FoldReferenceIdeal.main (F := Ideal))) ⟨m, fun _ => 0, g⟩ (fun r => (∀ c : Dev Cert.FoldReferenceIdeal.nD,
      r.2.mem ((c.tc : Thread Cert.FoldReferenceIdeal.nD Cert.FoldReferenceIdeal.τ).loc Cert.FoldReferenceIdeal.main_arg0) = m ((c.tc : Thread Cert.FoldReferenceIdeal.nD Cert.FoldReferenceIdeal.τ).loc Cert.FoldReferenceIdeal.main_arg0)
      ∧ r.2.mem ((c.tc : Thread Cert.FoldReferenceIdeal.nD Cert.FoldReferenceIdeal.τ).loc Cert.FoldReferenceIdeal.main_arg1) = m ((c.tc : Thread Cert.FoldReferenceIdeal.nD Cert.FoldReferenceIdeal.τ).loc Cert.FoldReferenceIdeal.main_arg1)
      ∧ r.2.mem ((c.tc : Thread Cert.FoldReferenceIdeal.nD Cert.FoldReferenceIdeal.τ).loc Cert.FoldReferenceIdeal.main_arg2) = m ((c.tc : Thread Cert.FoldReferenceIdeal.nD Cert.FoldReferenceIdeal.τ).loc Cert.FoldReferenceIdeal.main_arg2))
      ∧ r.2.sem = fun _ => 0)

def quiescent_Adaln [hAdaln : Cert.Adaln.Facts] : Prop :=
  ∀ (m : (ℓ : Loc Cert.Adaln.nD Cert.Adaln.τ Cert.Adaln.sig) → Buf (Elt Bits) ℓ) (g : Dev Cert.Adaln.nD → PrngReg), Pre_Adaln m →
    θ_run (Cert.Adaln.defs (F := Bits)) (onTc (τ := Cert.Adaln.τ) (Cert.Adaln.main (F := Bits))) ⟨m, fun _ => 0, g⟩ (fun r => (∀ c : Dev Cert.Adaln.nD,
      r.2.mem ((c.tc : Thread Cert.Adaln.nD Cert.Adaln.τ).loc Cert.Adaln.main_arg0) = m ((c.tc : Thread Cert.Adaln.nD Cert.Adaln.τ).loc Cert.Adaln.main_arg0)
      ∧ r.2.mem ((c.tc : Thread Cert.Adaln.nD Cert.Adaln.τ).loc Cert.Adaln.main_arg1) = m ((c.tc : Thread Cert.Adaln.nD Cert.Adaln.τ).loc Cert.Adaln.main_arg1)
      ∧ r.2.mem ((c.tc : Thread Cert.Adaln.nD Cert.Adaln.τ).loc Cert.Adaln.main_arg2) = m ((c.tc : Thread Cert.Adaln.nD Cert.Adaln.τ).loc Cert.Adaln.main_arg2))
      ∧ r.2.sem = fun _ => 0)

def quiescent_AdalnIdeal [hAdalnIdeal : Cert.AdalnIdeal.Facts] : Prop :=
  ∀ (m : (ℓ : Loc Cert.AdalnIdeal.nD Cert.AdalnIdeal.τ Cert.AdalnIdeal.sig) → Buf (Elt Ideal) ℓ) (g : Dev Cert.AdalnIdeal.nD → PrngReg), Pre_AdalnIdeal m →
    θ_run (Cert.AdalnIdeal.defs (F := Ideal)) (onTc (τ := Cert.AdalnIdeal.τ) (Cert.AdalnIdeal.main (F := Ideal))) ⟨m, fun _ => 0, g⟩ (fun r => (∀ c : Dev Cert.AdalnIdeal.nD,
      r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
      ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
      ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ r.2.sem = fun _ => 0)

def quiescent_AdalnIdeal_pre_adaln_finite [hAdalnIdeal : Cert.AdalnIdeal.Facts] [hPre_adaln_finite : Cert.Pre_adaln_finite.Facts] : Prop :=
  ∀ (m : (ℓ : Loc Cert.AdalnIdeal.nD Cert.AdalnIdeal.τ Cert.AdalnIdeal.sig) → Buf (Elt Ideal) ℓ) (g : Dev Cert.AdalnIdeal.nD → PrngReg), Pre_AdalnIdeal_adaln_finite m →
    θ_run (Cert.AdalnIdeal.defs (F := Ideal)) (onTc (τ := Cert.AdalnIdeal.τ) (Cert.AdalnIdeal.main (F := Ideal))) ⟨m, fun _ => 0, g⟩ (fun r => (∀ c : Dev Cert.AdalnIdeal.nD,
      r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
      ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
      ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ r.2.sem = fun _ => 0)

def quiescent_AdalnReferenceIdeal [hAdalnReferenceIdeal : Cert.AdalnReferenceIdeal.Facts] : Prop :=
  ∀ (m : (ℓ : Loc Cert.AdalnReferenceIdeal.nD Cert.AdalnReferenceIdeal.τ Cert.AdalnReferenceIdeal.sig) → Buf (Elt Ideal) ℓ) (g : Dev Cert.AdalnReferenceIdeal.nD → PrngReg), Pre_AdalnReferenceIdeal m →
    θ_run (Cert.AdalnReferenceIdeal.defs (F := Ideal)) (onTc (τ := Cert.AdalnReferenceIdeal.τ) (Cert.AdalnReferenceIdeal.main (F := Ideal))) ⟨m, fun _ => 0, g⟩ (fun r => (∀ c : Dev Cert.AdalnReferenceIdeal.nD,
      r.2.mem ((c.tc : Thread Cert.AdalnReferenceIdeal.nD Cert.AdalnReferenceIdeal.τ).loc Cert.AdalnReferenceIdeal.main_arg0) = m ((c.tc : Thread Cert.AdalnReferenceIdeal.nD Cert.AdalnReferenceIdeal.τ).loc Cert.AdalnReferenceIdeal.main_arg0)
      ∧ r.2.mem ((c.tc : Thread Cert.AdalnReferenceIdeal.nD Cert.AdalnReferenceIdeal.τ).loc Cert.AdalnReferenceIdeal.main_arg1) = m ((c.tc : Thread Cert.AdalnReferenceIdeal.nD Cert.AdalnReferenceIdeal.τ).loc Cert.AdalnReferenceIdeal.main_arg1)
      ∧ r.2.mem ((c.tc : Thread Cert.AdalnReferenceIdeal.nD Cert.AdalnReferenceIdeal.τ).loc Cert.AdalnReferenceIdeal.main_arg2) = m ((c.tc : Thread Cert.AdalnReferenceIdeal.nD Cert.AdalnReferenceIdeal.τ).loc Cert.AdalnReferenceIdeal.main_arg2))
      ∧ r.2.sem = fun _ => 0)

def quiescent_AdalnReferenceIdeal_pre_adaln_finite [hAdalnReferenceIdeal : Cert.AdalnReferenceIdeal.Facts] [hPre_adaln_finite : Cert.Pre_adaln_finite.Facts] : Prop :=
  ∀ (m : (ℓ : Loc Cert.AdalnReferenceIdeal.nD Cert.AdalnReferenceIdeal.τ Cert.AdalnReferenceIdeal.sig) → Buf (Elt Ideal) ℓ) (g : Dev Cert.AdalnReferenceIdeal.nD → PrngReg), Pre_AdalnReferenceIdeal_adaln_finite m →
    θ_run (Cert.AdalnReferenceIdeal.defs (F := Ideal)) (onTc (τ := Cert.AdalnReferenceIdeal.τ) (Cert.AdalnReferenceIdeal.main (F := Ideal))) ⟨m, fun _ => 0, g⟩ (fun r => (∀ c : Dev Cert.AdalnReferenceIdeal.nD,
      r.2.mem ((c.tc : Thread Cert.AdalnReferenceIdeal.nD Cert.AdalnReferenceIdeal.τ).loc Cert.AdalnReferenceIdeal.main_arg0) = m ((c.tc : Thread Cert.AdalnReferenceIdeal.nD Cert.AdalnReferenceIdeal.τ).loc Cert.AdalnReferenceIdeal.main_arg0)
      ∧ r.2.mem ((c.tc : Thread Cert.AdalnReferenceIdeal.nD Cert.AdalnReferenceIdeal.τ).loc Cert.AdalnReferenceIdeal.main_arg1) = m ((c.tc : Thread Cert.AdalnReferenceIdeal.nD Cert.AdalnReferenceIdeal.τ).loc Cert.AdalnReferenceIdeal.main_arg1)
      ∧ r.2.mem ((c.tc : Thread Cert.AdalnReferenceIdeal.nD Cert.AdalnReferenceIdeal.τ).loc Cert.AdalnReferenceIdeal.main_arg2) = m ((c.tc : Thread Cert.AdalnReferenceIdeal.nD Cert.AdalnReferenceIdeal.τ).loc Cert.AdalnReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v26_0)) (v1 : (c : Dev Cert.MixIdeal.nD) → Buf (Elt Ideal) ((c.tc : Thread Cert.MixIdeal.nD Cert.MixIdeal.τ).loc Cert.MixIdeal.main_v26_1)) (v2 : (c : Dev Cert.MixIdeal.nD) → Buf (Elt Ideal) ((c.tc : Thread Cert.MixIdeal.nD Cert.MixIdeal.τ).loc Cert.MixIdeal.main_v26_2)) (v3 : (c : Dev Cert.MixIdeal.nD) → Buf (Elt Ideal) ((c.tc : Thread Cert.MixIdeal.nD Cert.MixIdeal.τ).loc Cert.MixIdeal.main_v26_3)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v26_0) = v0 c
          ∧ r.2.mem ((c.tc : Thread Cert.MixIdeal.nD Cert.MixIdeal.τ).loc Cert.MixIdeal.main_v26_1) = v1 c
          ∧ r.2.mem ((c.tc : Thread Cert.MixIdeal.nD Cert.MixIdeal.τ).loc Cert.MixIdeal.main_v26_2) = v2 c
          ∧ r.2.mem ((c.tc : Thread Cert.MixIdeal.nD Cert.MixIdeal.τ).loc Cert.MixIdeal.main_v26_3) = v3 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v71) = v0 c
          ∧ r.2.mem ((c.tc : Thread Cert.MixReferenceIdeal.nD Cert.MixReferenceIdeal.τ).loc Cert.MixReferenceIdeal.main_v72) = v1 c
          ∧ r.2.mem ((c.tc : Thread Cert.MixReferenceIdeal.nD Cert.MixReferenceIdeal.τ).loc Cert.MixReferenceIdeal.main_v73) = v2 c
          ∧ r.2.mem ((c.tc : Thread Cert.MixReferenceIdeal.nD Cert.MixReferenceIdeal.τ).loc Cert.MixReferenceIdeal.main_v179) = v3 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5))

def preserves_Fold_FoldIdeal : Prop :=
  True

def algebraic_FoldIdeal_FoldReferenceIdeal [hFoldIdeal : Cert.FoldIdeal.Facts] [hFoldReferenceIdeal : Cert.FoldReferenceIdeal.Facts] : Prop :=
  ∀ (m : (ℓ : Loc Cert.FoldIdeal.nD Cert.FoldIdeal.τ Cert.FoldIdeal.sig) → Buf (Elt Ideal) ℓ) (g : Dev Cert.FoldIdeal.nD → PrngReg)
    (m' : (ℓ : Loc Cert.FoldReferenceIdeal.nD Cert.FoldReferenceIdeal.τ Cert.FoldReferenceIdeal.sig) → Buf (Elt Ideal) ℓ) (g' : Dev Cert.FoldReferenceIdeal.nD → PrngReg), Pre_FoldIdeal m →
    (∀ c : Dev Cert.FoldIdeal.nD,
      m' ((c.tc : Thread Cert.FoldReferenceIdeal.nD Cert.FoldReferenceIdeal.τ).loc Cert.FoldReferenceIdeal.main_arg0) = m ((c.tc : Thread Cert.FoldIdeal.nD Cert.FoldIdeal.τ).loc Cert.FoldIdeal.main_arg0)
      ∧ m' ((c.tc : Thread Cert.FoldReferenceIdeal.nD Cert.FoldReferenceIdeal.τ).loc Cert.FoldReferenceIdeal.main_arg1) = m ((c.tc : Thread Cert.FoldIdeal.nD Cert.FoldIdeal.τ).loc Cert.FoldIdeal.main_arg1)
      ∧ m' ((c.tc : Thread Cert.FoldReferenceIdeal.nD Cert.FoldReferenceIdeal.τ).loc Cert.FoldReferenceIdeal.main_arg2) = m ((c.tc : Thread Cert.FoldIdeal.nD Cert.FoldIdeal.τ).loc Cert.FoldIdeal.main_arg2)) →
    ∃ (v0 : (c : Dev Cert.FoldIdeal.nD) → Buf (Elt Ideal) ((c.tc : Thread Cert.FoldIdeal.nD Cert.FoldIdeal.τ).loc Cert.FoldIdeal.main_v4)),
      θ_run (Cert.FoldIdeal.defs (F := Ideal)) (onTc (τ := Cert.FoldIdeal.τ) (Cert.FoldIdeal.main (F := Ideal))) ⟨m, fun _ => 0, g⟩ (fun r => ∀ c : Dev Cert.FoldIdeal.nD,
          r.2.mem ((c.tc : Thread Cert.FoldIdeal.nD Cert.FoldIdeal.τ).loc Cert.FoldIdeal.main_v4) = v0 c
          ∧ r.2.mem ((c.tc : Thread Cert.FoldIdeal.nD Cert.FoldIdeal.τ).loc Cert.FoldIdeal.main_arg0) = m ((c.tc : Thread Cert.FoldIdeal.nD Cert.FoldIdeal.τ).loc Cert.FoldIdeal.main_arg0)
          ∧ r.2.mem ((c.tc : Thread Cert.FoldIdeal.nD Cert.FoldIdeal.τ).loc Cert.FoldIdeal.main_arg1) = m ((c.tc : Thread Cert.FoldIdeal.nD Cert.FoldIdeal.τ).loc Cert.FoldIdeal.main_arg1)
          ∧ r.2.mem ((c.tc : Thread Cert.FoldIdeal.nD Cert.FoldIdeal.τ).loc Cert.FoldIdeal.main_arg2) = m ((c.tc : Thread Cert.FoldIdeal.nD Cert.FoldIdeal.τ).loc Cert.FoldIdeal.main_arg2))
      ∧ θ_run (Cert.FoldReferenceIdeal.defs (F := Ideal)) (onTc (τ := Cert.FoldReferenceIdeal.τ) (Cert.FoldReferenceIdeal.main (F := Ideal))) ⟨m', fun _ => 0, g'⟩ (fun r => ∀ c : Dev Cert.FoldReferenceIdeal.nD,
          r.2.mem ((c.tc : Thread Cert.FoldReferenceIdeal.nD Cert.FoldReferenceIdeal.τ).loc Cert.FoldReferenceIdeal.main_v9) = v0 c
          ∧ r.2.mem ((c.tc : Thread Cert.FoldReferenceIdeal.nD Cert.FoldReferenceIdeal.τ).loc Cert.FoldReferenceIdeal.main_arg0) = m' ((c.tc : Thread Cert.FoldReferenceIdeal.nD Cert.FoldReferenceIdeal.τ).loc Cert.FoldReferenceIdeal.main_arg0)
          ∧ r.2.mem ((c.tc : Thread Cert.FoldReferenceIdeal.nD Cert.FoldReferenceIdeal.τ).loc Cert.FoldReferenceIdeal.main_arg1) = m' ((c.tc : Thread Cert.FoldReferenceIdeal.nD Cert.FoldReferenceIdeal.τ).loc Cert.FoldReferenceIdeal.main_arg1)
          ∧ r.2.mem ((c.tc : Thread Cert.FoldReferenceIdeal.nD Cert.FoldReferenceIdeal.τ).loc Cert.FoldReferenceIdeal.main_arg2) = m' ((c.tc : Thread Cert.FoldReferenceIdeal.nD Cert.FoldReferenceIdeal.τ).loc Cert.FoldReferenceIdeal.main_arg2))

def preserves_Adaln_AdalnIdeal : Prop :=
  True

def algebraic_AdalnIdeal_AdalnReferenceIdeal_pre_adaln_finite [hAdalnIdeal : Cert.AdalnIdeal.Facts] [hAdalnReferenceIdeal : Cert.AdalnReferenceIdeal.Facts] [hPre_adaln_finite : Cert.Pre_adaln_finite.Facts] : Prop :=
  ∀ (m : (ℓ : Loc Cert.AdalnIdeal.nD Cert.AdalnIdeal.τ Cert.AdalnIdeal.sig) → Buf (Elt Ideal) ℓ) (g : Dev Cert.AdalnIdeal.nD → PrngReg)
    (m' : (ℓ : Loc Cert.AdalnReferenceIdeal.nD Cert.AdalnReferenceIdeal.τ Cert.AdalnReferenceIdeal.sig) → Buf (Elt Ideal) ℓ) (g' : Dev Cert.AdalnReferenceIdeal.nD → PrngReg), Pre_AdalnIdeal_adaln_finite m →
    (∀ c : Dev Cert.AdalnIdeal.nD,
      m' ((c.tc : Thread Cert.AdalnReferenceIdeal.nD Cert.AdalnReferenceIdeal.τ).loc Cert.AdalnReferenceIdeal.main_arg0) = m ((c.tc : Thread Cert.AdalnIdeal.nD Cert.AdalnIdeal.τ).loc Cert.AdalnIdeal.main_arg0)
      ∧ m' ((c.tc : Thread Cert.AdalnReferenceIdeal.nD Cert.AdalnReferenceIdeal.τ).loc Cert.AdalnReferenceIdeal.main_arg1) = m ((c.tc : Thread Cert.AdalnIdeal.nD Cert.AdalnIdeal.τ).loc Cert.AdalnIdeal.main_arg1)
      ∧ m' ((c.tc : Thread Cert.AdalnReferenceIdeal.nD Cert.AdalnReferenceIdeal.τ).loc Cert.AdalnReferenceIdeal.main_arg2) = m ((c.tc : Thread Cert.AdalnIdeal.nD Cert.AdalnIdeal.τ).loc Cert.AdalnIdeal.main_arg2)) →
    ∃ (v0 : (c : Dev Cert.AdalnIdeal.nD) → Buf (Elt Ideal) ((c.tc : Thread Cert.AdalnIdeal.nD Cert.AdalnIdeal.τ).loc Cert.AdalnIdeal.main_v3)),
      θ_run (Cert.AdalnIdeal.defs (F := Ideal)) (onTc (τ := Cert.AdalnIdeal.τ) (Cert.AdalnIdeal.main (F := Ideal))) ⟨m, fun _ => 0, g⟩ (fun r => ∀ c : Dev Cert.AdalnIdeal.nD,
          r.2.mem ((c.tc : Thread Cert.AdalnIdeal.nD Cert.AdalnIdeal.τ).loc Cert.AdalnIdeal.main_v3) = v0 c
          ∧ r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
          ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
          ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ θ_run (Cert.AdalnReferenceIdeal.defs (F := Ideal)) (onTc (τ := Cert.AdalnReferenceIdeal.τ) (Cert.AdalnReferenceIdeal.main (F := Ideal))) ⟨m', fun _ => 0, g'⟩ (fun r => ∀ c : Dev Cert.AdalnReferenceIdeal.nD,
          r.2.mem ((c.tc : Thread Cert.AdalnReferenceIdeal.nD Cert.AdalnReferenceIdeal.τ).loc Cert.AdalnReferenceIdeal.main_v6) = v0 c
          ∧ r.2.mem ((c.tc : Thread Cert.AdalnReferenceIdeal.nD Cert.AdalnReferenceIdeal.τ).loc Cert.AdalnReferenceIdeal.main_arg0) = m' ((c.tc : Thread Cert.AdalnReferenceIdeal.nD Cert.AdalnReferenceIdeal.τ).loc Cert.AdalnReferenceIdeal.main_arg0)
          ∧ r.2.mem ((c.tc : Thread Cert.AdalnReferenceIdeal.nD Cert.AdalnReferenceIdeal.τ).loc Cert.AdalnReferenceIdeal.main_arg1) = m' ((c.tc : Thread Cert.AdalnReferenceIdeal.nD Cert.AdalnReferenceIdeal.τ).loc Cert.AdalnReferenceIdeal.main_arg1)
          ∧ r.2.mem ((c.tc : Thread Cert.AdalnReferenceIdeal.nD Cert.AdalnReferenceIdeal.τ).loc Cert.AdalnReferenceIdeal.main_arg2) = m' ((c.tc : Thread Cert.AdalnReferenceIdeal.nD Cert.AdalnReferenceIdeal.τ).loc Cert.AdalnReferenceIdeal.main_arg2))

def Claim : Prop :=
  ∃ (hKernel : Cert.Kernel.Facts) (hKernelIdeal : Cert.KernelIdeal.Facts) (hReferenceIdeal : Cert.ReferenceIdeal.Facts) (hMix : Cert.Mix.Facts) (hMixIdeal : Cert.MixIdeal.Facts) (hMixReferenceIdeal : Cert.MixReferenceIdeal.Facts) (hFold : Cert.Fold.Facts) (hFoldIdeal : Cert.FoldIdeal.Facts) (hFoldReferenceIdeal : Cert.FoldReferenceIdeal.Facts) (hAdaln : Cert.Adaln.Facts) (hAdalnIdeal : Cert.AdalnIdeal.Facts) (hAdalnReferenceIdeal : Cert.AdalnReferenceIdeal.Facts) (hPre_adaln_finite : Cert.Pre_adaln_finite.Facts),
    quiescent_Kernel (hKernel := hKernel)
    ∧ quiescent_KernelIdeal (hKernelIdeal := hKernelIdeal)
    ∧ quiescent_ReferenceIdeal (hReferenceIdeal := hReferenceIdeal)
    ∧ quiescent_Mix (hMix := hMix)
    ∧ quiescent_MixIdeal (hMixIdeal := hMixIdeal)
    ∧ quiescent_MixReferenceIdeal (hMixReferenceIdeal := hMixReferenceIdeal)
    ∧ quiescent_Fold (hFold := hFold)
    ∧ quiescent_FoldIdeal (hFoldIdeal := hFoldIdeal)
    ∧ quiescent_FoldReferenceIdeal (hFoldReferenceIdeal := hFoldReferenceIdeal)
    ∧ quiescent_Adaln (hAdaln := hAdaln)
    ∧ quiescent_AdalnIdeal (hAdalnIdeal := hAdalnIdeal)
    ∧ quiescent_AdalnIdeal_pre_adaln_finite (hAdalnIdeal := hAdalnIdeal) (hPre_adaln_finite := hPre_adaln_finite)
    ∧ quiescent_AdalnReferenceIdeal (hAdalnReferenceIdeal := hAdalnReferenceIdeal)
    ∧ quiescent_AdalnReferenceIdeal_pre_adaln_finite (hAdalnReferenceIdeal := hAdalnReferenceIdeal) (hPre_adaln_finite := hPre_adaln_finite)
    ∧ preserves_Kernel_KernelIdeal
    ∧ algebraic_KernelIdeal_ReferenceIdeal (hKernelIdeal := hKernelIdeal) (hReferenceIdeal := hReferenceIdeal)
    ∧ preserves_Mix_MixIdeal
    ∧ algebraic_MixIdeal_MixReferenceIdeal (hMixIdeal := hMixIdeal) (hMixReferenceIdeal := hMixReferenceIdeal)
    ∧ preserves_Fold_FoldIdeal
    ∧ algebraic_FoldIdeal_FoldReferenceIdeal (hFoldIdeal := hFoldIdeal) (hFoldReferenceIdeal := hFoldReferenceIdeal)
    ∧ preserves_Adaln_AdalnIdeal
    ∧ algebraic_AdalnIdeal_AdalnReferenceIdeal_pre_adaln_finite (hAdalnIdeal := hAdalnIdeal) (hAdalnReferenceIdeal := hAdalnReferenceIdeal) (hPre_adaln_finite := hPre_adaln_finite)
-- ==== Pre_adaln_finite.lean ====
abbrev S32x1024 : Shape := ⟨2, ![32, 1024]⟩
abbrev S1x1024x6144 : Shape := ⟨3, ![1, 1024, 6144]⟩
abbrev S1x6144 : Shape := ⟨2, ![1, 6144]⟩
abbrev S_ : Shape := ⟨0, ![]⟩

class Facts : Prop where
  bcast_S_S32x1024 : S_.BroadcastsInDim S32x1024 (![] : Fin 0 → Fin S32x1024.rank)
  reducesTo_S32x1024_S_d0_1 : S32x1024.ReducesTo [0, 1] S_
  h_S_ : 0 < S_.numel
  bcast_S_S1x1024x6144 : S_.BroadcastsInDim S1x1024x6144 (![] : Fin 0 → Fin S1x1024x6144.rank)
  reducesTo_S1x1024x6144_S_d0_1_2 : S1x1024x6144.ReducesTo [0, 1, 2] S_

variable [Facts]

def fn {F : FTy → Type} [FloatOps F] (main_arg0 : FVec F S32x1024 .f32) (main_arg1 : FVec F S1x1024x6144 .f32) (main_arg2 : FVec F S1x6144 .f32) : IVec S_ 1 :=
  let main_v0 : FVec F S32x1024 .f32 := Host.absf main_arg0
  let main_cst : FVec F S_ .f32 := constant S_ .f32 0x7F800000#32
  let main_v1 : FVec F S32x1024 .f32 := broadcastInDim S32x1024 ![] bcast_S_S32x1024 main_cst
  let main_v2 : IVec S32x1024 1 := cmpf .olt main_v0 main_v1
  let main_c : IVec S_ 1 := constantI S_ 1 1#1
  let main_v3 : IVec S_ 1 := (fun x v => Host.reduce IntOp.andi x v reducesTo_S32x1024_S_d0_1 h_S_) main_v2 main_c
  let main_v4 : FVec F S1x1024x6144 .f32 := Host.absf main_arg1
  let main_cst_0 : FVec F S_ .f32 := constant S_ .f32 0x7F800000#32
  let main_v5 : FVec F S1x1024x6144 .f32 := broadcastInDim S1x1024x6144 ![] bcast_S_S1x1024x6144 main_cst_0
  let main_v6 : IVec S1x1024x6144 1 := cmpf .olt main_v4 main_v5
  let main_c_1 : IVec S_ 1 := constantI S_ 1 1#1
  let main_v7 : IVec S_ 1 := (fun x v => Host.reduce IntOp.andi x v reducesTo_S1x1024x6144_S_d0_1_2 h_S_) main_v6 main_c_1
  let main_v8 : IVec S_ 1 := andi main_v3 main_v7
  main_v8
-- ==== Kernel.lean ====
abbrev S32x2048x1024 : Shape := ⟨3, ![32, 2048, 1024]⟩
abbrev S32x2x4x256x512 : Shape := ⟨5, ![32, 2, 4, 256, 512]⟩
abbrev S32x2048x512 : Shape := ⟨3, ![32, 2048, 512]⟩
abbrev S32x6x1024 : Shape := ⟨3, ![32, 6, 1024]⟩
abbrev S1x1024 : Shape := ⟨2, ![1, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S1x1x4x256x512 : Shape := ⟨5, ![1, 1, 4, 256, 512]⟩
abbrev S1x1024x512 : Shape := ⟨3, ![1, 1024, 512]⟩
abbrev S1x6x1024 : Shape := ⟨3, ![1, 6, 1024]⟩
abbrev S1x1x1x256x512 : Shape := ⟨5, ![1, 1, 1, 256, 512]⟩
abbrev S256x512 : Shape := ⟨2, ![256, 512]⟩
abbrev S512x1024 : Shape := ⟨2, ![512, 1024]⟩
abbrev S256x1024 : Shape := ⟨2, ![256, 1024]⟩
abbrev S1x256x512 : Shape := ⟨3, ![1, 256, 512]⟩
abbrev S1x1x1024 : Shape := ⟨3, ![1, 1, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 23
  | .vmem => 16
  | .smem => 0
  | _ => 0

abbrev bufTy : (tb : Table) → Fin (tcTables nBuf tb) → BufTy
  | .hbm, ⟨0, _⟩ => ⟨S32x2048x1024, .f32⟩
  | .hbm, ⟨1, _⟩ => ⟨S32x2x4x256x512, .bf16⟩
  | .hbm, ⟨2, _⟩ => ⟨S32x2048x512, .bf16⟩
  | .hbm, ⟨3, _⟩ => ⟨S32x6x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024x1024, .f32⟩
  | .hbm, ⟨8, _⟩ => ⟨S1x1024x4096, .f32⟩
  | .hbm, ⟨9, _⟩ => ⟨S1x4096x1024, .f32⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1024x1024, .f32⟩
  | .hbm, ⟨17, _⟩ => ⟨S1024x1024, .bf16⟩
  | .hbm, ⟨18, _⟩ => ⟨S1024x4096, .f32⟩
  | .hbm, ⟨19, _⟩ => ⟨S1024x4096, .bf16⟩
  | .hbm, ⟨20, _⟩ => ⟨S4096x1024, .f32⟩
  | .hbm, ⟨21, _⟩ => ⟨S4096x1024, .bf16⟩
  | .hbm, ⟨22, _⟩ => ⟨S32x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x4x256x512, .bf16⟩
  | .local _ .vmem, ⟨3, _⟩ => ⟨S1x1x4x256x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1024x1024, .bf16⟩
  | .local _ .vmem, ⟨12, _⟩ => ⟨S1024x4096, .bf16⟩
  | .local _ .vmem, ⟨13, _⟩ => ⟨S4096x1024, .bf16⟩
  | .local _ .vmem, ⟨14, _⟩ => ⟨S1x1024x1024, .f32⟩
  | .local _ .vmem, ⟨15, _⟩ => ⟨S1x1024x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![32, 2], ![false, false]⟩

def k0_off1 (i : grid0.Coords) (c0_i32_0 : BitVec 32) (c3_i32 : BitVec 32) : Fin 5 → Nat :=
  let c0 : Index := 0#32
  let c0_1 : Index := 0#32
  let arg1 : BitVec 32 := BitVec.ofNat 32 (i 1).val
  let c0_i32 : BitVec 32 := 0#32
  let v0 : BitVec 1 := Scalar.cmpi .eq arg1 c0_i32
  let v1 : BitVec 32 := Scalar.select v0 c0_i32_0 c3_i32
  let v2 : Index := Scalar.indexCast v1
  let c0_2 : Index := 0#32
  let c0_3 : Index := 0#32
  ![0, 0, v2.toNat, 0, 0]
def k0_off1_at (r : Fin 4) : BitVec 32 × BitVec 32 :=
  if r.val < 2 then
    if r.val < 1 then
      (0#32, 3#32)
    else
      (1#32, 2#32)
  else
    if r.val < 3 then
      (2#32, 1#32)
    else
      (3#32, 0#32)
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S32x2048x1024 : Shape := ⟨3, ![32, 2048, 1024]⟩
abbrev S32x2x4x256x512 : Shape := ⟨5, ![32, 2, 4, 256, 512]⟩
abbrev S32x2048x512 : Shape := ⟨3, ![32, 2048, 512]⟩
abbrev S32x6x1024 : Shape := ⟨3, ![32, 6, 1024]⟩
abbrev S1x1024 : Shape := ⟨2, ![1, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S32x1x1024 : Shape := ⟨3, ![32, 1, 1024]⟩
abbrev S32x1x4x256x512 : Shape := ⟨5, ![32, 1, 4, 256, 512]⟩
abbrev S32x4x256x512 : Shape := ⟨4, ![32, 4, 256, 512]⟩
abbrev S32x1024x512 : Shape := ⟨3, ![32, 1024, 512]⟩
abbrev S1024x1024 : Shape := ⟨2, ![1024, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1024x4096 : Shape := ⟨2, ![1024, 4096]⟩
abbrev S32x2048x4096 : Shape := ⟨3, ![32, 2048, 4096]⟩
abbrev S4096x1024 : Shape := ⟨2, ![4096, 1024]⟩

abbrev nBuf : Space → Nat
  | .hbm => 99
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2x4x256x512, .bf16⟩
  | .hbm, ⟨2, _⟩ => ⟨S32x2048x512, .bf16⟩
  | .hbm, ⟨3, _⟩ => ⟨S32x6x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024x1024, .f32⟩
  | .hbm, ⟨8, _⟩ => ⟨S1x1024x4096, .f32⟩
  | .hbm, ⟨9, _⟩ => ⟨S1x4096x1024, .f32⟩
  | .hbm, ⟨10, _⟩ => ⟨S32x1x1024, .f32⟩
  | .hbm, ⟨11, _⟩ => ⟨S32x1x1024, .f32⟩
  | .hbm, ⟨12, _⟩ => ⟨S32x1x1024, .f32⟩
  | .hbm, ⟨13, _⟩ => ⟨S32x1x1024, .f32⟩
  | .hbm, ⟨14, _⟩ => ⟨S32x2x4x256x512, .f32⟩
  | .hbm, ⟨15, _⟩ => ⟨S32x1x4x256x512, .f32⟩
  | .hbm, ⟨16, _⟩ => ⟨S32x4x256x512, .f32⟩
  | .hbm, ⟨17, _⟩ => ⟨S32x1024x512, .f32⟩
  | .hbm, ⟨18, _⟩ => ⟨S32x1x4x256x512, .f32⟩
  | .hbm, ⟨19, _⟩ => ⟨S32x1x4x256x512, .f32⟩
  | .hbm, ⟨20, _⟩ => ⟨S32x4x256x512, .f32⟩
  | .hbm, ⟨21, _⟩ => ⟨S32x1024x512, .f32⟩
  | .hbm, ⟨22, _⟩ => ⟨S32x2048x512, .f32⟩
  | .hbm, ⟨23, _⟩ => ⟨S32x2048x512, .f32⟩
  | .hbm, ⟨24, _⟩ => ⟨S32x2048x1024, .f32⟩
  | .hbm, ⟨25, _⟩ => ⟨S1024x1024, .f32⟩
  | .hbm, ⟨26, _⟩ => ⟨S32x2048x1024, .f32⟩
  | .hbm, ⟨27, _⟩ => ⟨S1024, .f32⟩
  | .hbm, ⟨28, _⟩ => ⟨S32x2048x1024, .f32⟩
  | .hbm, ⟨29, _⟩ => ⟨S_, .f32⟩
  | .hbm, ⟨30, _⟩ => ⟨S32x2048, .f32⟩
  | .hbm, ⟨31, _⟩ => ⟨S32x2048x1, .f32⟩
  | .hbm, ⟨32, _⟩ => ⟨S_, .f32⟩
  | .hbm, ⟨33, _⟩ => ⟨S32x2048x1, .f32⟩
  | .hbm, ⟨34, _⟩ => ⟨S32x2048x1, .f32⟩
  | .hbm, ⟨35, _⟩ => ⟨S_, .f32⟩
  | .hbm, ⟨36, _⟩ => ⟨S32x2048x1, .f32⟩
  | .hbm, ⟨37, _⟩ => ⟨S32x2048x1, .f32⟩
  | .hbm, ⟨38, _⟩ => ⟨S32x2048x1, .f32⟩
  | .hbm, ⟨39, _⟩ => ⟨S32x2048x1024, .f32⟩
  | .hbm, ⟨40, _⟩ => ⟨S32x2048x1024, .f32⟩
  | .hbm, ⟨41, _⟩ => ⟨S1x1x1024, .f32⟩
  | .hbm, ⟨42, _⟩ => ⟨S32x2048x1024, .f32⟩
  | .hbm, ⟨43, _⟩ => ⟨S32x2048x1024, .f32⟩
  | .hbm, ⟨44, _⟩ => ⟨S32x2048x1024, .f32⟩
  | .hbm, ⟨45, _⟩ => ⟨S32x2048x1024, .f32⟩
  | .hbm, ⟨46, _⟩ => ⟨S32x2048x1024, .f32⟩
  | .hbm, ⟨47, _⟩ => ⟨S1024, .f32⟩
  | .hbm, ⟨48, _⟩ => ⟨S32x2048x1024, .f32⟩
  | .hbm, ⟨49, _⟩ => ⟨S_, .f32⟩
  | .hbm, ⟨50, _⟩ => ⟨S32x2048, .f32⟩
  | .hbm, ⟨51, _⟩ => ⟨S32x2048x1, .f32⟩
  | .hbm, ⟨52, _⟩ => ⟨S_, .f32⟩
  | .hbm, ⟨53, _⟩ => ⟨S32x2048x1, .f32⟩
  | .hbm, ⟨54, _⟩ => ⟨S32x2048x1, .f32⟩
  | .hbm, ⟨55, _⟩ => ⟨S_, .f32⟩
  | .hbm, ⟨56, _⟩ => ⟨S32x2048x1, .f32⟩
  | .hbm, ⟨57, _⟩ => ⟨S32x2048x1, .f32⟩
  | .hbm, ⟨58, _⟩ => ⟨S32x2048x1, .f32⟩
  | .hbm, ⟨59, _⟩ => ⟨S32x2048x1024, .f32⟩
  | .hbm, ⟨60, _⟩ => ⟨S32x2048x1024, .f32⟩
  | .hbm, ⟨61, _⟩ => ⟨S1x1x1024, .f32⟩
  | .hbm, ⟨62, _⟩ => ⟨S32x2048x1024, .f32⟩
  | .hbm, ⟨63, _⟩ => ⟨S32x2048x1024, .f32⟩
  | .hbm, ⟨64, _⟩ => ⟨S_, .f32⟩
  | .hbm, ⟨65, _⟩ => ⟨S32x1x1024, .f32⟩
  | .hbm, ⟨66, _⟩ => ⟨S32x1x1024, .f32⟩
  | .hbm, ⟨67, _⟩ => ⟨S32x2048x1024, .f32⟩
  | .hbm, ⟨68, _⟩ => ⟨S32x2048x1024, .f32⟩
  | .hbm, ⟨69, _⟩ => ⟨S32x2048x1024, .f32⟩
  | .hbm, ⟨70, _⟩ => ⟨S32x2048x1024, .f32⟩
  | .hbm, ⟨71, _⟩ => ⟨S1024x4096, .f32⟩
  | .hbm, ⟨72, _⟩ => ⟨S32x2048x4096, .f32⟩
  | .hbm, ⟨73, _⟩ => ⟨S_, .f32⟩
  | .hbm, ⟨74, _⟩ => ⟨S32x2048x4096, .f32⟩
  | .hbm, ⟨75, _⟩ => ⟨S32x2048x4096, .f32⟩
  | .hbm, ⟨76, _⟩ => ⟨S32x2048x4096, .f32⟩
  | .hbm, ⟨77, _⟩ => ⟨S4096x1024, .f32⟩
  | .hbm, ⟨78, _⟩ => ⟨S32x2048x1024, .f32⟩
  | .hbm, ⟨79, _⟩ => ⟨S1024, .f32⟩
  | .hbm, ⟨80, _⟩ => ⟨S32x2048x1024, .f32⟩
  | .hbm, ⟨81, _⟩ => ⟨S_, .f32⟩
  | .hbm, ⟨82, _⟩ => ⟨S32x2048, .f32⟩
  | .hbm, ⟨83, _⟩ => ⟨S32x2048x1, .f32⟩
  | .hbm, ⟨84, _⟩ => ⟨S_, .f32⟩
  | .hbm, ⟨85, _⟩ => ⟨S32x2048x1, .f32⟩
  | .hbm, ⟨86, _⟩ => ⟨S32x2048x1, .f32⟩
  | .hbm, ⟨87, _⟩ => ⟨S_, .f32⟩
  | .hbm, ⟨88, _⟩ => ⟨S32x2048x1, .f32⟩
  | .hbm, ⟨89, _⟩ => ⟨S32x2048x1, .f32⟩
  | .hbm, ⟨90, _⟩ => ⟨S32x2048x1, .f32⟩
  | .hbm, ⟨91, _⟩ => ⟨S32x2048x1024, .f32⟩
  | .hbm, ⟨92, _⟩ => ⟨S32x2048x1024, .f32⟩
  | .hbm, ⟨93, _⟩ => ⟨S1x1x1024, .f32⟩
  | .hbm, ⟨94, _⟩ => ⟨S32x2048x1024, .f32⟩
  | .hbm, ⟨95, _⟩ => ⟨S32x2048x1024, .f32⟩
  | .hbm, ⟨96, _⟩ => ⟨S32x2048x1024, .f32⟩
  | .hbm, ⟨97, _⟩ => ⟨S32x2048x1024, .f32⟩
  | .hbm, ⟨98, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_2 : Ref sig .tc := ⟨.hbm, 49, rfl⟩
abbrev main_v36 : Ref sig .tc := ⟨.hbm, 50, rfl⟩
abbrev main_v37 : Ref sig .tc := ⟨.hbm, 51, rfl⟩
abbrev main_cst_3 : Ref sig .tc := ⟨.hbm, 52, rfl⟩
abbrev main_v38 : Ref sig .tc := ⟨.hbm, 53, rfl⟩
abbrev main_v39 : Ref sig .tc := ⟨.hbm, 54, rfl⟩
abbrev main_cst_4 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_5 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_call0_cst : Ref sig .tc := ⟨.hbm, 73, rfl⟩
abbrev main_call0_v0 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_6 : Ref sig .tc := ⟨.hbm, 81, rfl⟩
abbrev main_v62 : Ref sig .tc := ⟨.hbm, 82, rfl⟩
abbrev main_v63 : Ref sig .tc := ⟨.hbm, 83, rfl⟩
abbrev main_cst_7 : Ref sig .tc := ⟨.hbm, 84, rfl⟩
abbrev main_v64 : Ref sig .tc := ⟨.hbm, 85, rfl⟩
abbrev main_v65 : Ref sig .tc := ⟨.hbm, 86, rfl⟩
abbrev main_cst_8 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩

abbrev nD : Nat := 1
abbrev τ : Topo := Topo.v7x

variable {F : FTy → Type} [FloatOps F]
-- ==== Mix.lean ====
abbrev S32x2048x1024 : Shape := ⟨3, ![32, 2048, 1024]⟩
abbrev S32x6x1024 : Shape := ⟨3, ![32, 6, 1024]⟩
abbrev S1x1024 : Shape := ⟨2, ![1, 1024]⟩
abbrev S1x1024x2048 : Shape := ⟨3, ![1, 1024, 2048]⟩
abbrev S2048x32 : Shape := ⟨2, ![2048, 32]⟩
abbrev S_ : Shape := ⟨0, ![]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S32x2048 : Shape := ⟨2, ![32, 2048]⟩
abbrev S1024x2048 : Shape := ⟨2, ![1024, 2048]⟩
abbrev S1024x512 : Shape := ⟨2, ![1024, 512]⟩
abbrev S512x1024 : Shape := ⟨2, ![512, 1024]⟩
abbrev S1024 : Shape := ⟨1, ![1024]⟩
abbrev S32x8x512x256 : Shape := ⟨4, ![32, 8, 512, 256]⟩
abbrev S32x2048x512 : Shape := ⟨3, ![32, 2048, 512]⟩
abbrev S32x8x640x256 : Shape := ⟨4, ![32, 8, 640, 256]⟩
abbrev S32x8x512 : Shape := ⟨3, ![32, 8, 512]⟩
abbrev S1x1024x1024 : Shape := ⟨3, ![1, 1024, 1024]⟩
abbrev S1x6x1024 : Shape := ⟨3, ![1, 6, 1024]⟩
abbrev S1024x128 : Shape := ⟨2, ![1024, 128]⟩
abbrev S32x1024 : Shape := ⟨2, ![32, 1024]⟩
abbrev S1x4x512x256 : Shape := ⟨4, ![1, 4, 512, 256]⟩
abbrev S1x1024x512 : Shape := ⟨3, ![1, 1024, 512]⟩
abbrev S1x4x640x256 : Shape := ⟨4, ![1, 4, 640, 256]⟩
abbrev S1x8x512 : Shape := ⟨3, ![1, 8, 512]⟩
abbrev S272x512 : Shape := ⟨2, ![272, 512]⟩
abbrev S16x512 : Shape := ⟨2, ![16, 512]⟩
abbrev S1x1x1024 : Shape := ⟨3, ![1, 1, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S512x256 : Shape := ⟨2, ![512, 256]⟩
abbrev S256x128 : Shape := ⟨2, ![256, 128]⟩
abbrev S1x256x128 : Shape := ⟨3, ![1, 256, 128]⟩
abbrev S128 : Shape := ⟨1, ![128]⟩
abbrev S1x128 : Shape := ⟨2, ![1, 128]⟩
abbrev S1x512 : Shape := ⟨2, ![1, 512]⟩
abbrev S1x1x512 : Shape := ⟨3, ![1, 1, 512]⟩
abbrev S32x256 : Shape := ⟨2, ![32, 256]⟩
abbrev S1x1x512x256 : Shape := ⟨4, ![1, 1, 512, 256]⟩
abbrev S16x256 : Shape := ⟨2, ![16, 256]⟩
abbrev S64x256 : Shape := ⟨2, ![64, 256]⟩
abbrev S640x256 : Shape := ⟨2, ![640, 256]⟩
abbrev S1x1x640x256 : Shape := ⟨4, ![1, 1, 640, 256]⟩
abbrev S128x1 : Shape := ⟨2, ![128, 1]⟩
abbrev S144x128 : Shape := ⟨2, ![144, 128]⟩
abbrev S128x128 : Shape := ⟨2, ![128, 128]⟩
abbrev S1x128x128 : Shape := ⟨3, ![1, 128, 128]⟩

abbrev nBuf : Space → Nat
  | .hbm => 38
  | .vmem => 30
  | .smem => 0
  | _ => 0

abbrev bufTy : (tb : Table) → Fin (tcTables nBuf tb) → BufTy
  | .hbm, ⟨0, _⟩ => ⟨S32x2048x1024, .f32⟩
  | .hbm, ⟨1, _⟩ => ⟨S32x6x1024, .f32⟩
  | .hbm, ⟨2, _⟩ => ⟨S1x1024, .f32⟩
  | .hbm, ⟨3, _⟩ => ⟨S1x1024x2048, .f32⟩
  | .hbm, ⟨4, _⟩ => ⟨S2048x32, .f32⟩
  | .hbm, ⟨5, _⟩ => ⟨S2048x32, .f32⟩
  | .hbm, ⟨6, _⟩ => ⟨S_, .f32⟩
  | .hbm, ⟨7, _⟩ => ⟨S2048x32, .f32⟩
  | .hbm, ⟨8, _⟩ => ⟨S2048x64, .f32⟩
  | .hbm, ⟨9, _⟩ => ⟨S1x2048x1x64, .f32⟩
  | .hbm, ⟨10, _⟩ => ⟨S1x2048x2x64, .f32⟩
  | .hbm, ⟨11, _⟩ => ⟨S2048x128, .f32⟩
  | .hbm, ⟨12, _⟩ => ⟨S2048x32, .f32⟩
  | .hbm, ⟨13, _⟩ => ⟨S2048x64, .f32⟩
  | .hbm, ⟨14, _⟩ => ⟨S1x2048x1x64, .f32⟩
  | .hbm, ⟨15, _⟩ => ⟨S1x2048x2x64, .f32⟩
  | .hbm, ⟨16, _⟩ => ⟨S2048x128, .f32⟩
  | .hbm, ⟨17, _⟩ => ⟨S2048x64, .f32⟩
  | .hbm, ⟨18, _⟩ => ⟨S1x2048x1x64, .f32⟩
  | .hbm, ⟨19, _⟩ => ⟨S1x2048x2x64, .f32⟩
  | .hbm, ⟨20, _⟩ => ⟨S2048x128, .f32⟩
  | .hbm, ⟨21, _⟩ => ⟨S32x2048, .f32⟩
  | .hbm, ⟨22, _⟩ => ⟨S32x2048, .f32⟩
  | .hbm, ⟨23, _⟩ => ⟨S1024x2048, .f32⟩
  | .hbm, ⟨24, _⟩ => ⟨S1024x2048, .bf16⟩
  | .hbm, ⟨25, _⟩ => ⟨S1024x512, .bf16⟩
  | .hbm, ⟨26, _⟩ => ⟨S512x1024, .bf16⟩
  | .hbm, ⟨27, _⟩ => ⟨S1024x512, .bf16⟩
  | .hbm, ⟨28, _⟩ => ⟨S1024x512, .bf16⟩
  | .hbm, ⟨29, _⟩ => ⟨S512x1024, .bf16⟩
  | .hbm, ⟨30, _⟩ => ⟨S1024x512, .bf16⟩
  | .hbm, ⟨31, _⟩ => ⟨S1024, .f32⟩
  | .hbm, ⟨32, _⟩ => ⟨S1x1024, .f32⟩
  | .hbm, ⟨33, _⟩ => ⟨S32x8x512x256, .bf16⟩
  | .hbm, ⟨34, _⟩ => ⟨S32x2048x512, .bf16⟩
  | .hbm, ⟨35, _⟩ => ⟨S32x8x640x256, .bf16⟩
  | .hbm, ⟨36, _⟩ => ⟨S32x2048x512, .bf16⟩
  | .hbm, ⟨37, _⟩ => ⟨S32x8x512, .f32⟩
  | .local _ .vmem, ⟨0, _⟩ => ⟨S1x1024x1024, .f32⟩
  | .local _ .vmem, ⟨1, _⟩ => ⟨S1x1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S512x1024, .bf16⟩
  | .local _ .vmem, ⟨6, _⟩ => ⟨S1024x512, .bf16⟩
  | .local _ .vmem, ⟨7, _⟩ => ⟨S512x1024, .bf16⟩
  | .local _ .vmem, ⟨8, _⟩ => ⟨S1024x512, .bf16⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S32x1024, .f32⟩
  | .local _ .vmem, ⟨16, _⟩ => ⟨S32x1024, .f32⟩
  | .local _ .vmem, ⟨17, _⟩ => ⟨S32x1024, .f32⟩
  | .local _ .vmem, ⟨18, _⟩ => ⟨S32x1024, .f32⟩
  | .local _ .vmem, ⟨19, _⟩ => ⟨S1x4x512x256, .bf16⟩
  | .local _ .vmem, ⟨20, _⟩ => ⟨S1x4x512x256, .bf16⟩
  | .local _ .vmem, ⟨21, _⟩ => ⟨S1x1024x512, .bf16⟩
  | .local _ .vmem, ⟨22, _⟩ => ⟨S1x1024x512, .bf16⟩
  | .local _ .vmem, ⟨23, _⟩ => ⟨S1x4x640x256, .bf16⟩
  | .local _ .vmem, ⟨24, _⟩ => ⟨S1x4x640x256, .bf16⟩
  | .local _ .vmem, ⟨25, _⟩ => ⟨S1x1024x512, .bf16⟩
  | .local _ .vmem, ⟨26, _⟩ => ⟨S1x1024x512, .bf16⟩
  | .local _ .vmem, ⟨27, _⟩ => ⟨S1x8x512, .f32⟩
  | .local _ .vmem, ⟨28, _⟩ => ⟨S1x8x512, .f32⟩
  | .local _ .vmem, ⟨29, _⟩ => ⟨S272x512, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26_0 : Ref sig .tc := ⟨.hbm, 33, rfl⟩
abbrev main_v26_1 : Ref sig .tc := ⟨.hbm, 34, rfl⟩
abbrev main_v26_2 : Ref sig .tc := ⟨.hbm, 35, rfl⟩
abbrev main_v26_3 : Ref sig .tc := ⟨.hbm, 36, rfl⟩
abbrev main_v26_4 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨2, ![32, 2], ![false, false]⟩

def k0_off1 (i : grid0.Coords) (c0_i32_38 : BitVec 32) : Fin 3 → Nat :=
  let c0_79 : Index := 0#32
  let arg1 : BitVec 32 := BitVec.ofNat 32 (i 1).val
  let c4_i32 : BitVec 32 := 4#32
  let v88 : BitVec 32 := Scalar.muli arg1 c4_i32
  let v89 : BitVec 32 := Scalar.addi v88 c0_i32_38
  let c0_i32_78 : BitVec 32 := 0#32
  let v167 : BitVec 32 := Scalar.addi v89 c0_i32_78
  let v168 : Index := Scalar.indexCast v167
  let c0_80 : Index := 0#32
  ![0, v168.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S32x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x4x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4x640x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== MixReferenceIdeal.lean ====
abbrev S32x2048x1024 : Shape := ⟨3, ![32, 2048, 1024]⟩
abbrev S32x6x1024 : Shape := ⟨3, ![32, 6, 1024]⟩
abbrev S1x1024 : Shape := ⟨2, ![1, 1024]⟩
abbrev S1x1024x2048 : Shape := ⟨3, ![1, 1024, 2048]⟩
abbrev S2048x32 : Shape := ⟨2, ![2048, 32]⟩
abbrev S32x1x1024 : Shape := ⟨3, ![32, 1, 1024]⟩
abbrev S_ : Shape := ⟨0, ![]⟩
abbrev S32x2048 : Shape := ⟨2, ![32, 2048]⟩
abbrev S32x2048x1 : Shape := ⟨3, ![32, 2048, 1]⟩
abbrev S1024 : Shape := ⟨1, ![1024]⟩
abbrev S1x1x1024 : Shape := ⟨3, ![1, 1, 1024]⟩
abbrev S1024x2048 : Shape := ⟨2, ![1024, 2048]⟩
abbrev S32x2048x2048 : Shape := ⟨3, ![32, 2048, 2048]⟩
abbrev S32x2048x512 : Shape := ⟨3, ![32, 2048, 512]⟩
abbrev S32x2048x8x64 : Shape := ⟨4, ![32, 2048, 8, 64]⟩
abbrev S32x2048x8x32 : Shape := ⟨4, ![32, 2048, 8, 32]⟩
abbrev S1x2048x1x32 : Shape := ⟨4, ![1, 2048, 1, 32]⟩
abbrev S32x8x256x512 : Shape := ⟨4, ![32, 8, 256, 512]⟩
abbrev S32x8x512x256 : Shape := ⟨4, ![32, 8, 512, 256]⟩
abbrev S32x2048x8x1 : Shape := ⟨4, ![32, 2048, 8, 1]⟩
abbrev S32x2048x8x15 : Shape := ⟨4, ![32, 2048, 8, 15]⟩
abbrev S32x2048x8x16 : Shape := ⟨4, ![32, 2048, 8, 16]⟩
abbrev S32x2048x8x80 : Shape := ⟨4, ![32, 2048, 8, 80]⟩
abbrev S32x8x256x640 : Shape := ⟨4, ![32, 8, 256, 640]⟩
abbrev S32x8x640x256 : Shape := ⟨4, ![32, 8, 640, 256]⟩
abbrev S32x16x512 : Shape := ⟨3, ![32, 16, 512]⟩
abbrev S32x2064x512 : Shape := ⟨3, ![32, 2064, 512]⟩
abbrev S2048 : Shape := ⟨1, ![2048]⟩
abbrev S32x2064x128 : Shape := ⟨3, ![32, 2064, 128]⟩
abbrev S32x2048x128 : Shape := ⟨3, ![32, 2048, 128]⟩
abbrev S1x2048x1 : Shape := ⟨3, ![1, 2048, 1]⟩

abbrev nBuf : Space → Nat
  | .hbm => 202
  | .vmem => 0
  | .smem => 0
  | _ => 0

abbrev hbmTy0_0 (i : Nat) : BufTy := match i % 128 with
  | 0 => ⟨S32x2048x1024, .f32⟩
  | 1 => ⟨S32x6x1024, .f32⟩
  | 2 => ⟨S1x1024, .f32⟩
  | 3 => ⟨S1x1024x2048, .f32⟩
  | 4 => ⟨S2048x32, .f32⟩
  | 5 => ⟨S2048x32, .f32⟩
  | 6 => ⟨S32x1x1024, .f32⟩
  | 7 => ⟨S32x1x1024, .f32⟩
  | 8 => ⟨S32x2048x1024, .f32⟩
  | 9 => ⟨S_, .f32⟩
  | 10 => ⟨S32x2048, .f32⟩
  | 11 => ⟨S32x2048x1, .f32⟩
  | 12 => ⟨S_, .f32⟩
  | 13 => ⟨S32x2048x1, .f32⟩
  | 14 => ⟨S32x2048x1, .f32⟩
  | 15 => ⟨S_, .f32⟩
  | 16 => ⟨S32x2048x1, .f32⟩
  | 17 => ⟨S32x2048x1, .f32⟩
  | 18 => ⟨S32x2048x1, .f32⟩
  | 19 => ⟨S32x2048x1024, .f32⟩
  | 20 => ⟨S32x2048x1024, .f32⟩
  | 21 => ⟨S1024, .f32⟩
  | 22 => ⟨S1x1x1024, .f32⟩
  | 23 => ⟨S32x2048x1024, .f32⟩
  | 24 => ⟨S32x2048x1024, .f32⟩
  | 25 => ⟨S_, .f32⟩
  | 26 => ⟨S32x1x1024, .f32⟩
  | 27 => ⟨S32x1x1024, .f32⟩
  | 28 => ⟨S32x2048x1024, .f32⟩
  | 29 => ⟨S32x2048x1024, .f32⟩
  | 30 => ⟨S32x2048x1024, .f32⟩
  | 31 => ⟨S32x2048x1024, .f32⟩
  | 32 => ⟨S1024x2048, .f32⟩
  | 33 => ⟨S32x2048x2048, .f32⟩
  | 34 => ⟨S32x2048x512, .f32⟩
  | 35 => ⟨S32x2048x8x64, .f32⟩
  | 36 => ⟨S32x2048x8x32, .f32⟩
  | 37 => ⟨S32x2048x8x32, .f32⟩
  | 38 => ⟨S1x2048x1x32, .f32⟩
  | 39 => ⟨S1x2048x1x32, .f32⟩
  | 40 => ⟨S32x2048x8x32, .f32⟩
  | 41 => ⟨S32x2048x8x32, .f32⟩
  | 42 => ⟨S32x2048x8x32, .f32⟩
  | 43 => ⟨S32x2048x8x32, .f32⟩
  | 44 => ⟨S32x2048x8x32, .f32⟩
  | 45 => ⟨S32x2048x8x32, .f32⟩
  | 46 => ⟨S32x2048x8x32, .f32⟩
  | 47 => ⟨S32x2048x8x32, .f32⟩
  | 48 => ⟨S32x2048x8x32, .f32⟩
  | 49 => ⟨S32x2048x8x32, .f32⟩
  | 50 => ⟨S32x2048x8x64, .f32⟩
  | 51 => ⟨S_, .f32⟩
  | 52 => ⟨S32x2048x8x64, .f32⟩
  | 53 => ⟨S32x2048x8x64, .f32⟩
  | 54 => ⟨S32x2048x512, .f32⟩
  | 55 => ⟨S32x2048x8x64, .f32⟩
  | 56 => ⟨S32x2048x8x32, .f32⟩
  | 57 => ⟨S32x2048x8x32, .f32⟩
  | 58 => ⟨S1x2048x1x32, .f32⟩
  | 59 => ⟨S1x2048x1x32, .f32⟩
  | 60 => ⟨S32x2048x8x32, .f32⟩
  | 61 => ⟨S32x2048x8x32, .f32⟩
  | 62 => ⟨S32x2048x8x32, .f32⟩
  | 63 => ⟨S32x2048x8x32, .f32⟩
  | 64 => ⟨S32x2048x8x32, .f32⟩
  | 65 => ⟨S32x2048x8x32, .f32⟩
  | 66 => ⟨S32x2048x8x32, .f32⟩
  | 67 => ⟨S32x2048x8x32, .f32⟩
  | 68 => ⟨S32x2048x8x32, .f32⟩
  | 69 => ⟨S32x2048x8x32, .f32⟩
  | 70 => ⟨S32x2048x8x64, .f32⟩
  | 71 => ⟨S32x2048x512, .f32⟩
  | 72 => ⟨S32x2048x8x64, .f32⟩
  | 73 => ⟨S32x8x256x512, .f32⟩
  | 74 => ⟨S32x8x512x256, .f32⟩
  | 75 => ⟨S32x2048x512, .f32⟩
  | 76 => ⟨S_, .f32⟩
  | 77 => ⟨S32x2048x8x1, .f32⟩
  | 78 => ⟨S_, .f32⟩
  | 79 => ⟨S32x2048x8x15, .f32⟩
  | 80 => ⟨S32x2048x8x16, .f32⟩
  | 81 => ⟨S32x2048x8x80, .f32⟩
  | 82 => ⟨S32x8x256x640, .f32⟩
  | 83 => ⟨S32x8x640x256, .f32⟩
  | 84 => ⟨S32x8x512x256, .bf16⟩
  | 85 => ⟨S32x2048x512, .bf16⟩
  | 86 => ⟨S32x8x640x256, .bf16⟩
  | 87 => ⟨S_, .f32⟩
  | 88 => ⟨S32x16x512, .f32⟩
  | 89 => ⟨S32x2048x512, .f32⟩
  | 90 => ⟨S32x2064x512, .f32⟩
  | 91 => ⟨S2048, .i32⟩
  | 92 => ⟨S32x2064x128, .f32⟩
  | 93 => ⟨S32x2048x128, .f32⟩
  | 94 => ⟨S32x2048x128, .f32⟩
  | 95 => ⟨S32x2048x128, .f32⟩
  | 96 => ⟨S_, .i32⟩
  | 97 => ⟨S2048, .i32⟩
  | 98 => ⟨S2048, .i32⟩
  | 99 => ⟨S_, .i32⟩
  | 100 => ⟨S2048, .i32⟩
  | 101 => ⟨S2048, .i32⟩
  | 102 => ⟨S2048, .f32⟩
  | 103 => ⟨S1x2048x1, .f32⟩
  | 104 => ⟨S32x2048x128, .f32⟩
  | 105 => ⟨S32x2048x128, .f32⟩
  | 106 => ⟨S32x2048x128, .f32⟩
  | 107 => ⟨S32x2048x128, .f32⟩
  | 108 => ⟨S32x2064x128, .f32⟩
  | 109 => ⟨S32x2048x128, .f32⟩
  | 110 => ⟨S32x2048x128, .f32⟩
  | 111 => ⟨S32x2048x128, .f32⟩
  | 112 => ⟨S32x2048x128, .f32⟩
  | 113 => ⟨S32x2048x128, .f32⟩
  | 114 => ⟨S32x2048x128, .f32⟩
  | 115 => ⟨S32x2048x128, .f32⟩
  | 116 => ⟨S_, .i32⟩
  | 117 => ⟨S2048, .i32⟩
  | 118 => ⟨S2048, .i32⟩
  | 119 => ⟨S_, .i32⟩
  | 120 => ⟨S2048, .i32⟩
  | 121 => ⟨S2048, .i32⟩
  | 122 => ⟨S2048, .f32⟩
  | 123 => ⟨S1x2048x1, .f32⟩
  | 124 => ⟨S32x2048x128, .f32⟩
  | 125 => ⟨S32x2048x128, .f32⟩
  | 126 => ⟨S32x2048x128, .f32⟩
  | 127 => ⟨S32x2048x128, .f32⟩
  | _ => ⟨S32x2048x1024, .f32⟩

abbrev hbmTy0_1 (i : Nat) : BufTy := match i % 128 with
  | 0 => ⟨S32x2064x128, .f32⟩
  | 1 => ⟨S32x2048x128, .f32⟩
  | 2 => ⟨S32x2048x128, .f32⟩
  | 3 => ⟨S32x2048x128, .f32⟩
  | 4 => ⟨S32x2048x128, .f32⟩
  | 5 => ⟨S32x2048x128, .f32⟩
  | 6 => ⟨S32x2048x128, .f32⟩
  | 7 => ⟨S32x2048x128, .f32⟩
  | 8 => ⟨S32x2048x128, .f32⟩
  | 9 => ⟨S32x2048x128, .f32⟩
  | 10 => ⟨S32x2048x128, .f32⟩
  | 11 => ⟨S32x2048x128, .f32⟩
  | 12 => ⟨S32x2048x128, .f32⟩
  | 13 => ⟨S32x2048x128, .f32⟩
  | 14 => ⟨S32x2048x128, .f32⟩
  | 15 => ⟨S32x2048x128, .f32⟩
  | 16 => ⟨S_, .i32⟩
  | 17 => ⟨S2048, .i32⟩
  | 18 => ⟨S2048, .i32⟩
  | 19 => ⟨S_, .i32⟩
  | 20 => ⟨S2048, .i32⟩
  | 21 => ⟨S2048, .i32⟩
  | 22 => ⟨S2048, .f32⟩
  | 23 => ⟨S1x2048x1, .f32⟩
  | 24 => ⟨S32x2048x128, .f32⟩
  | 25 => ⟨S32x2048x128, .f32⟩
  | 26 => ⟨S32x2048x128, .f32⟩
  | 27 => ⟨S32x2048x128, .f32⟩
  | 28 => ⟨S32x2064x128, .f32⟩
  | 29 => ⟨S32x2048x128, .f32⟩
  | 30 => ⟨S32x2048x128, .f32⟩
  | 31 => ⟨S32x2048x128, .f32⟩
  | 32 => ⟨S32x2048x128, .f32⟩
  | 33 => ⟨S32x2048x128, .f32⟩
  | 34 => ⟨S32x2048x128, .f32⟩
  | 35 => ⟨S32x2048x128, .f32⟩
  | 36 => ⟨S32x2048x128, .f32⟩
  | 37 => ⟨S32x2048x128, .f32⟩
  | 38 => ⟨S32x2048x128, .f32⟩
  | 39 => ⟨S32x2048x128, .f32⟩
  | 40 => ⟨S32x2048x128, .f32⟩
  | 41 => ⟨S32x2048x128, .f32⟩
  | 42 => ⟨S32x2048x128, .f32⟩
  | 43 => ⟨S32x2048x128, .f32⟩
  | 44 => ⟨S32x2048x128, .f32⟩
  | 45 => ⟨S32x2048x128, .f32⟩
  | 46 => ⟨S32x2048x128, .f32⟩
  | 47 => ⟨S32x2048x128, .f32⟩
  | 48 => ⟨S32x2048x128, .f32⟩
  | 49 => ⟨S32x2048x128, .f32⟩
  | 50 => ⟨S32x2048x128, .f32⟩
  | 51 => ⟨S32x2048x128, .f32⟩
  | 52 => ⟨S32x2048x128, .f32⟩
  | 53 => ⟨S32x2048x128, .f32⟩
  | 54 => ⟨S32x2048x128, .f32⟩
  | 55 => ⟨S32x2048x128, .f32⟩
  | 56 => ⟨S32x2048x128, .f32⟩
  | 57 => ⟨S32x2048x128, .f32⟩
  | 58 => ⟨S32x2048x128, .f32⟩
  | 59 => ⟨S32x2048x128, .f32⟩
  | 60 => ⟨S_, .i32⟩
  | 61 => ⟨S2048, .i32⟩
  | 62 => ⟨S2048, .i32⟩
  | 63 => ⟨S_, .i32⟩
  | 64 => ⟨S2048, .i32⟩
  | 65 => ⟨S2048, .i32⟩
  | 66 => ⟨S2048, .f32⟩
  | 67 => ⟨S1x2048x1, .f32⟩
  | 68 => ⟨S32x2048x128, .f32⟩
  | 69 => ⟨S32x2048x128, .f32⟩
  | 70 => ⟨S32x2048x128, .f32⟩
  | 71 => ⟨S32x2048x128, .f32⟩
  | 72 => ⟨S32x2048x512, .f32⟩
  | 73 => ⟨S32x2048x512, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_3 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_cst_4 : Ref sig .tc := ⟨.hbm, 76, rfl⟩
abbrev main_v65 : Ref sig .tc := ⟨.hbm, 77, rfl⟩
abbrev main_cst_5 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_cst_6 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_c : Ref sig .tc := ⟨.hbm, 96, rfl⟩
abbrev main_v82 : Ref sig .tc := ⟨.hbm, 97, rfl⟩
abbrev main_v83 : Ref sig .tc := ⟨.hbm, 98, rfl⟩
abbrev main_c_7 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_c_8 : Ref sig .tc := ⟨.hbm, 116, rfl⟩
abbrev main_v100 : Ref sig .tc := ⟨.hbm, 117, rfl⟩
abbrev main_v101 : Ref sig .tc := ⟨.hbm, 118, rfl⟩
abbrev main_c_9 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_c_10 : Ref sig .tc := ⟨.hbm, 144, rfl⟩
abbrev main_v126 : Ref sig .tc := ⟨.hbm, 145, rfl⟩
abbrev main_v127 : Ref sig .tc := ⟨.hbm, 146, rfl⟩
abbrev main_c_11 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_c_12 : Ref sig .tc := ⟨.hbm, 188, rfl⟩
abbrev main_v168 : Ref sig .tc := ⟨.hbm, 189, rfl⟩
abbrev main_v169 : Ref sig .tc := ⟨.hbm, 190, rfl⟩
abbrev main_c_13 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩

abbrev nD : Nat := 1
abbrev τ : Topo := Topo.v7x

variable {F : FTy → Type} [FloatOps F]
-- ==== Fold.lean ====
abbrev S1x4x128x128 : Shape := ⟨4, ![1, 4, 128, 128]⟩
abbrev S1x512 : Shape := ⟨2, ![1, 512]⟩
abbrev S1x1024x1024 : Shape := ⟨3, ![1, 1024, 1024]⟩
abbrev S4x128x128 : Shape := ⟨3, ![4, 128, 128]⟩
abbrev S512 : Shape := ⟨1, ![512]⟩
abbrev S1024x1024 : Shape := ⟨2, ![1024, 1024]⟩
abbrev S512x1024 : Shape := ⟨2, ![512, 1024]⟩
abbrev S1x128x128 : Shape := ⟨3, ![1, 128, 128]⟩
abbrev S128x128 : Shape := ⟨2, ![128, 128]⟩
abbrev S1x128 : Shape := ⟨2, ![1, 128]⟩
abbrev S128x1024 : Shape := ⟨2, ![128, 1024]⟩

abbrev nBuf : Space → Nat
  | .hbm => 8
  | .vmem => 4
  | .smem => 0
  | _ => 0

abbrev bufTy : (tb : Table) → Fin (tcTables nBuf tb) → BufTy
  | .hbm, ⟨0, _⟩ => ⟨S1x4x128x128, .f32⟩
  | .hbm, ⟨1, _⟩ => ⟨S1x512, .f32⟩
  | .hbm, ⟨2, _⟩ => ⟨S1x1024x1024, .f32⟩
  | .hbm, ⟨3, _⟩ => ⟨S4x128x128, .f32⟩
  | .hbm, ⟨4, _⟩ => ⟨S512, .f32⟩
  | .hbm, ⟨5, _⟩ => ⟨S1x512, .f32⟩
  | .hbm, ⟨6, _⟩ => ⟨S1024x1024, .f32⟩
  | .hbm, ⟨7, _⟩ => ⟨S512x1024, .f32⟩
  | .local _ .vmem, ⟨0, _⟩ => ⟨S4x128x128, .f32⟩
  | .local _ .vmem, ⟨1, _⟩ => ⟨S1x512, .f32⟩
  | .local _ .vmem, ⟨2, _⟩ => ⟨S512x1024, .f32⟩
  | .local _ .vmem, ⟨3, _⟩ => ⟨S512x1024, .f32⟩
  | _, _ => ⟨S1x4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== FoldReferenceIdeal.lean ====
abbrev S1x4x128x128 : Shape := ⟨4, ![1, 4, 128, 128]⟩
abbrev S1x512 : Shape := ⟨2, ![1, 512]⟩
abbrev S1x1024x1024 : Shape := ⟨3, ![1, 1024, 1024]⟩
abbrev S4x128x128 : Shape := ⟨3, ![4, 128, 128]⟩
abbrev S512 : Shape := ⟨1, ![512]⟩
abbrev S4x1x128 : Shape := ⟨3, ![4, 1, 128]⟩
abbrev S1x512x1024 : Shape := ⟨3, ![1, 512, 1024]⟩
abbrev S512x1024 : Shape := ⟨2, ![512, 1024]⟩
abbrev S4x128x1024 : Shape := ⟨3, ![4, 128, 1024]⟩

abbrev nBuf : Space → Nat
  | .hbm => 13
  | .vmem => 0
  | .smem => 0
  | _ => 0

abbrev bufTy : (tb : Table) → Fin (tcTables nBuf tb) → BufTy
  | .hbm, ⟨0, _⟩ => ⟨S1x4x128x128, .f32⟩
  | .hbm, ⟨1, _⟩ => ⟨S1x512, .f32⟩
  | .hbm, ⟨2, _⟩ => ⟨S1x1024x1024, .f32⟩
  | .hbm, ⟨3, _⟩ => ⟨S4x128x128, .f32⟩
  | .hbm, ⟨4, _⟩ => ⟨S512, .f32⟩
  | .hbm, ⟨5, _⟩ => ⟨S4x1x128, .f32⟩
  | .hbm, ⟨6, _⟩ => ⟨S4x128x128, .f32⟩
  | .hbm, ⟨7, _⟩ => ⟨S4x128x128, .f32⟩
  | .hbm, ⟨8, _⟩ => ⟨S1x512x1024, .f32⟩
  | .hbm, ⟨9, _⟩ => ⟨S512x1024, .f32⟩
  | .hbm, ⟨10, _⟩ => ⟨S4x128x1024, .f32⟩
  | .hbm, ⟨11, _⟩ => ⟨S4x128x1024, .f32⟩
  | .hbm, ⟨12, _⟩ => ⟨S512x1024, .f32⟩
  | _, _ => ⟨S1x4x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Adaln.lean ====
abbrev S32x1024 : Shape := ⟨2, ![32, 1024]⟩
abbrev S1x1024x6144 : Shape := ⟨3, ![1, 1024, 6144]⟩
abbrev S1x6144 : Shape := ⟨2, ![1, 6144]⟩
abbrev S1024x6144 : Shape := ⟨2, ![1024, 6144]⟩
abbrev S6144 : Shape := ⟨1, ![6144]⟩
abbrev S32x6144 : Shape := ⟨2, ![32, 6144]⟩
abbrev S1024x1024 : Shape := ⟨2, ![1024, 1024]⟩
abbrev S1x1024 : Shape := ⟨2, ![1, 1024]⟩
abbrev S64x1024 : Shape := ⟨2, ![64, 1024]⟩

abbrev nBuf : Space → Nat
  | .hbm => 7
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S1x1024x6144, .f32⟩
  | .hbm, ⟨2, _⟩ => ⟨S1x6144, .f32⟩
  | .hbm, ⟨3, _⟩ => ⟨S1024x6144, .f32⟩
  | .hbm, ⟨4, _⟩ => ⟨S6144, .f32⟩
  | .hbm, ⟨5, _⟩ => ⟨S1x6144, .f32⟩
  | .hbm, ⟨6, _⟩ => ⟨S32x6144, .f32⟩
  | .local _ .vmem, ⟨0, _⟩ => ⟨S32x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S32x1024, .f32⟩
  | .local _ .vmem, ⟨6, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdalnReferenceIdeal.lean ====
abbrev S32x1024 : Shape := ⟨2, ![32, 1024]⟩
abbrev S1x1024x6144 : Shape := ⟨3, ![1, 1024, 6144]⟩
abbrev S1x6144 : Shape := ⟨2, ![1, 6144]⟩
abbrev S_ : Shape := ⟨0, ![]⟩
abbrev S1024x6144 : Shape := ⟨2, ![1024, 6144]⟩
abbrev S32x6144 : Shape := ⟨2, ![32, 6144]⟩
abbrev S6144 : Shape := ⟨1, ![6144]⟩

abbrev nBuf : Space → Nat
  | .hbm => 18
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1x1024x6144, .f32⟩
  | .hbm, ⟨2, _⟩ => ⟨S1x6144, .f32⟩
  | .hbm, ⟨3, _⟩ => ⟨S32x1024, .f32⟩
  | .hbm, ⟨4, _⟩ => ⟨S32x1024, .f32⟩
  | .hbm, ⟨5, _⟩ => ⟨S_, .f32⟩
  | .hbm, ⟨6, _⟩ => ⟨S32x1024, .f32⟩
  | .hbm, ⟨7, _⟩ => ⟨S32x1024, .f32⟩
  | .hbm, ⟨8, _⟩ => ⟨S_, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S1024x6144, .f32⟩
  | .hbm, ⟨13, _⟩ => ⟨S32x6144, .f32⟩
  | .hbm, ⟨14, _⟩ => ⟨S6144, .f32⟩
  | .hbm, ⟨15, _⟩ => ⟨S1x6144, .f32⟩
  | .hbm, ⟨16, _⟩ => ⟨S32x6144, .f32⟩
  | .hbm, ⟨17, _⟩ => ⟨S32x6144, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Proof.RowSpec.lean ====
/-
  One token's row through the output projection's residual and the MLP, over the extended reals, written once for the
  kernel and the reference: the row's scale (its mean square, plus epsilon, to the power −1/2), the first residual, the
  modulated MLP input, the squared ReLU of the up projection and the down projection, and the row that comes out.
  Gains enter as one product per column, the form in which the kernel uses them.
-/
module

public import Idealize.ShloMosaic.Lib.Pointwise

@[expose] public section

noncomputable section

namespace Cert.OutMlp

open Idealize.ShloMosaic

/-- The reciprocal root of a row's mean square plus epsilon. -/
def scale (y : Fin 1024 → EReal) : EReal :=
  Ideal.rsqrt (Ideal.div (∑ k : Fin 1024, y k * y k) (Ideal.ofBits .f32 0x44800000#32) + Ideal.ofBits .f32 0x358637BD#32)

/-- A residual row: `x` plus the normalised row `y` times the column gains. -/
def resid (x y gain : Fin 1024 → EReal) (j : Fin 1024) : EReal := x j + y j * scale y * gain j

/-- The modulated MLP input: the normalised row times the gains, shifted. -/
def modulated (x gain shift : Fin 1024 → EReal) (j : Fin 1024) : EReal := x j * scale x * gain j + shift j

/-- The squared ReLU of one up-projected column. -/
def act (h : Fin 1024 → EReal) (up : Fin 1024 → EReal) : EReal :=
  max (∑ k : Fin 1024, h k * up k) 0 * max (∑ k : Fin 1024, h k * up k) 0

/-- The down projection over all 4096 hidden columns. -/
def down (h : Fin 1024 → EReal) (up : Fin 1024 → Fin 4096 → EReal) (dn : Fin 4096 → Fin 1024 → EReal)
    (j : Fin 1024) : EReal := ∑ f : Fin 4096, act h (fun k => up k f) * dn f j

/-- The row that comes out, from the projected row `y`. -/
def outRow (x y g1 g2 g3 shift : Fin 1024 → EReal) (up : Fin 1024 → Fin 4096 → EReal)
    (dn : Fin 4096 → Fin 1024 → EReal) (j : Fin 1024) : EReal :=
  resid (resid x y g1) (down (modulated (resid x y g1) g2 shift) up dn) g3 j

/-- The projected row: 512 attention columns against the upper half of the projection, 512 pooled columns against the
    lower half. -/
def projRow (a p : Fin 512 → EReal) (wo : Fin 1024 → Fin 1024 → EReal) (j : Fin 1024) : EReal :=
  (∑ k : Fin 512, a k * wo ⟨k.val, by omega⟩ j) + ∑ k : Fin 512, p k * wo ⟨512 + k.val, by omega⟩ j

/-- A sum over 4096 columns is the four sums over 1024 of them, added in order from zero. -/
theorem sum_four (f : Fin 4096 → EReal) :
    (∑ k : Fin 4096, f k) = 0 + (∑ k : Fin 1024, f ⟨k.val, by omega⟩) + (∑ k : Fin 1024, f ⟨1024 + k.val, by omega⟩)
      + (∑ k : Fin 1024, f ⟨2048 + k.val, by omega⟩) + ∑ k : Fin 1024, f ⟨3072 + k.val, by omega⟩ := by
  rw [Fin.sum_univ_two_halves 3072 1024 rfl f, Fin.sum_univ_two_halves 2048 1024 rfl, Fin.sum_univ_two_halves 1024 1024 rfl,
    zero_add]

end Cert.OutMlp

end
-- ==== Proof.BlockRows.lean ====
/-
  The kernel body's named values read at an index of rows: each is one of the row functions of `RowSpec.lean` applied to
  rows of the values it is made from.
-/
module

public import proofs.«01_k».proof.Proof.RowSpec
public import proofs.«01_k».proof.Proof.Gen.KernelIdeal.Skeleton

@[expose] public section

set_option maxRecDepth 16384

noncomputable section

namespace Cert.OutMlp

open Idealize.ShloMosaic Cert.KernelIdeal Cert.KernelIdeal.Gen

/-- A row of a value in two pieces of 256 rows. -/
def twoRows (u v : FVec Ideal S256x1024 .f32) (r : Fin 512) (j : Fin 1024) : EReal :=
  if h : r.val < 256 then u (ix2 ⟨r.val, h⟩ j) else v (ix2 ⟨r.val - 256, by omega⟩ j)

/-- The projected rows of a group, from its attention and pooled rows and the two halves of the projection. -/
theorem pay2_apply (a : Vec Ideal S1x1x1x256x512 .bf16) (w : Vec Ideal S512x1024 .bf16) (p : Vec Ideal S1x256x512 .bf16)
    (w' : Vec Ideal S512x1024 .bf16) (r : Fin 256) (j : Fin 1024) :
    k0_pay2 a w p w' (ix2 r j) = (∑ k : Fin 512, a (ix5 0 0 0 r k) * w (ix2 k j)) + ∑ k : Fin 512, p (ix3 0 r k) * w' (ix2 k j) := by
  pointwise [k0_pay2]

/-- The second group's projected rows are the same function. -/
theorem pay6_eq (a : Vec Ideal S1x1x1x256x512 .bf16) (w : Vec Ideal S512x1024 .bf16) (p : Vec Ideal S1x256x512 .bf16)
    (w' : Vec Ideal S512x1024 .bf16) :
    k0_pay6 (k0_pay3 a w) (k0_pay4 p) (k0_pay5 w') (constant S256x1024 .f32 0x00000000#32) = k0_pay2 a w p w' := rfl

/-- The third group's are too. -/
theorem pay7_eq (a : Vec Ideal S1x1x1x256x512 .bf16) (w : Vec Ideal S512x1024 .bf16) (p : Vec Ideal S1x256x512 .bf16)
    (w' : Vec Ideal S512x1024 .bf16) : k0_pay7 a w p w' = k0_pay2 a w p w' := rfl

/-- And the fourth's. -/
theorem pay11_eq (a : Vec Ideal S1x1x1x256x512 .bf16) (w : Vec Ideal S512x1024 .bf16) (p : Vec Ideal S1x256x512 .bf16)
    (w' : Vec Ideal S512x1024 .bf16) :
    k0_pay11 (k0_pay8 a w) (k0_pay9 p) (k0_pay10 w') (constant S256x1024 .f32 0x00000000#32) = k0_pay2 a w p w' := rfl

/-- The first residual of the upper 512 rows. -/
theorem pay15_apply (u v : FVec Ideal S256x1024 .f32) (ga : Vec Ideal S1x1x1024 .f32) (g : Vec Ideal S1x1024 .f32)
    (x : Vec Ideal S1x512x1024 .f32) (r : Fin 512) (j : Fin 1024) :
    k0_pay15 u v ga g x (ix2 r j)
      = resid (fun k => x (ix3 0 r k)) (twoRows u v r) (fun k => ga (ix3 0 0 k) * g (ix2 0 k)) j := by
  pointwise [k0_pay15, k0_pay12, resid, scale, twoRows]

/-- The lower 512 rows' is the same function. -/
theorem pay20_eq (u v : FVec Ideal S256x1024 .f32) (ga : Vec Ideal S1x1x1024 .f32) (g : Vec Ideal S1x1024 .f32)
    (x : Vec Ideal S1x512x1024 .f32) : k0_pay20 u v (k0_pay12 ga g) x = k0_pay15 u v ga g x := rfl

/-- The MLP's input rows from the residual rows. -/
theorem pay17_apply (g : FVec Ideal S1x1024 .f32) (x : FVec Ideal S512x1024 .f32) (sh : Vec Ideal S1x1x1024 .f32)
    (r : Fin 512) (j : Fin 1024) :
    k0_pay17 g x (multiReduction .add [1] S512 (mulf x x) 0x00000000#32 reduces_S512x1024_S512 (.inl rfl) rfl) sh (ix2 r j)
      = modulated (fun k => x (ix2 r k)) (fun k => g (ix2 0 k)) (fun k => sh (ix3 0 0 k)) j := by
  pointwise [k0_pay17, modulated, scale]

/-- The lower 512 rows' is the same function. -/
theorem pay21_eq (u v : FVec Ideal S256x1024 .f32) (g1 g2 : FVec Ideal S1x1024 .f32) (x : Vec Ideal S1x512x1024 .f32)
    (sh : Vec Ideal S1x1x1024 .f32) :
    k0_pay21 u v g1 g2 x sh
      = k0_pay17 g2 (k0_pay20 u v g1 x) (multiReduction .add [1] S512 (mulf (k0_pay20 u v g1 x) (k0_pay20 u v g1 x))
          0x00000000#32 reduces_S512x1024_S512 (.inl rfl) rfl) sh := rfl

/-- One chunk of 1024 hidden columns: its up projection, squared ReLU and down projection. -/
def chunk (h : FVec Ideal S512x1024 .bf16) (up dn : Vec Ideal S1024x1024 .bf16) (r : Fin 512) (j : Fin 1024) : EReal :=
  ∑ f : Fin 1024, act (fun k => h (ix2 r k)) (fun k => up (ix2 k f)) * dn (ix2 f j)

/-- The upper rows' result, from the residual, the MLP input and four chunks of the weights. -/
theorem pay19_apply (g3 : FVec Ideal S1x1024 .f32) (g2 : FVec Ideal S1x1024 .f32) (x : FVec Ideal S512x1024 .f32)
    (q : FVec Ideal S512 .f32) (sh : Vec Ideal S1x1x1024 .f32) (u0 d0 u1 d1 u2 d2 u3 d3 : Vec Ideal S1024x1024 .bf16)
    (r : Fin 512) (j : Fin 1024) :
    k0_pay19 g3 x (k0_pay17 g2 x q sh) (k0_pay18 g2 x q sh u0 d0 u1 d1) u2 d2 u3 d3 (ix3 0 r j)
      = resid (fun k => x (ix2 r k)) (fun k => 0 + chunk (k0_pay17 g2 x q sh) u0 d0 r k + chunk (k0_pay17 g2 x q sh) u1 d1 r k
          + chunk (k0_pay17 g2 x q sh) u2 d2 r k + chunk (k0_pay17 g2 x q sh) u3 d3 r k) (fun k => g3 (ix2 0 k)) j := by
  unfold k0_pay18
  generalize k0_pay17 g2 x q sh = h
  pointwise [k0_pay19, resid, scale, chunk, act]

/-- The lower rows' is the same function. -/
theorem pay1_eq (g3 : FVec Ideal S1x1024 .f32) (u v : FVec Ideal S256x1024 .f32)
    (g1 g2 : FVec Ideal S1x1024 .f32) (x0 : Vec Ideal S1x512x1024 .f32) (sh : Vec Ideal S1x1x1024 .f32)
    (u0 d0 u1 d1 u2 d2 u3 d3 : Vec Ideal S1024x1024 .bf16) :
    k0_pay1 g3 (k0_pay20 u v g1 x0) (k0_pay25 (k0_pay21 u v g1 g2 x0 sh) k0_pay22 (k0_pay23 u v g1 g2 x0 sh u0) (k0_pay24 d0)
        (constant S512x1024 .f32 0x00000000#32) u1 d1 u2 d2 u3 d3)
      (k0_pay26 (k0_pay21 u v g1 g2 x0 sh) k0_pay22 (k0_pay23 u v g1 g2 x0 sh u0) (k0_pay24 d0)
        (constant S512x1024 .f32 0x00000000#32) u1 d1 u2 d2 u3 d3)
      = k0_pay19 g3 (k0_pay20 u v g1 x0)
          (k0_pay17 g2 (k0_pay20 u v g1 x0) (multiReduction .add [1] S512 (mulf (k0_pay20 u v g1 x0) (k0_pay20 u v g1 x0))
            0x00000000#32 reduces_S512x1024_S512 (.inl rfl) rfl) sh)
          (k0_pay18 g2 (k0_pay20 u v g1 x0) (multiReduction .add [1] S512 (mulf (k0_pay20 u v g1 x0) (k0_pay20 u v g1 x0))
            0x00000000#32 reduces_S512x1024_S512 (.inl rfl) rfl) sh u0 d0 u1 d1) u2 d2 u3 d3 := rfl

end Cert.OutMlp

end
-- ==== Proof.HalfBlock.lean ====
/-
  Half a block: what the kernel stores for 512 of a block's 1024 rows, as one function of the pieces it loads, and that
  function read at an index, a row of `RowSpec.lean`.
-/
module

public import proofs.«01_k».proof.Proof.BlockRows

@[expose] public section

set_option maxRecDepth 16384

noncomputable section

namespace Cert.OutMlp

open Idealize.ShloMosaic Cert.KernelIdeal Cert.KernelIdeal.Gen

/-- A modulation row, loaded from its block. -/
abbrev mod2 (md : Vec Ideal S1x6x1024 .f32) : Vec Ideal S1x1x1024 .f32 :=
  View.ld md (Rect.unit ![0, 2, 0] ![1, 1, 1024] inb_S1x6x1024_S1x1x1024_0_2_0)
abbrev mod3 (md : Vec Ideal S1x6x1024 .f32) : Vec Ideal S1x1x1024 .f32 :=
  View.ld md (Rect.unit ![0, 3, 0] ![1, 1, 1024] inb_S1x6x1024_S1x1x1024_0_3_0)
abbrev mod4 (md : Vec Ideal S1x6x1024 .f32) : Vec Ideal S1x1x1024 .f32 :=
  View.ld md (Rect.unit ![0, 4, 0] ![1, 1, 1024] inb_S1x6x1024_S1x1x1024_0_4_0)
abbrev mod5 (md : Vec Ideal S1x6x1024 .f32) : Vec Ideal S1x1x1024 .f32 :=
  View.ld md (Rect.unit ![0, 5, 0] ![1, 1, 1024] inb_S1x6x1024_S1x1x1024_0_5_0)
/-- A gain vector, loaded whole. -/
abbrev gain (g : Vec Ideal S1x1024 .f32) : Vec Ideal S1x1024 .f32 :=
  View.ld g (Rect.unit ![0, 0] ![1, 1024] inb_S1x1024_S1x1024_0_0)
/-- The two halves of the output projection. -/
abbrev woUp (wo : Vec Ideal S1024x1024 .bf16) : Vec Ideal S512x1024 .bf16 :=
  View.ld wo (Rect.unit ![0, 0] ![512, 1024] inb_S1024x1024_S512x1024_0_0)
abbrev woLo (wo : Vec Ideal S1024x1024 .bf16) : Vec Ideal S512x1024 .bf16 :=
  View.ld wo (Rect.unit ![512, 0] ![512, 1024] inb_S1024x1024_S512x1024_512_0)

/-- The first residual of 512 rows. -/
abbrev halfX1 (a0 a1 : Vec Ideal S1x1x1x256x512 .bf16) (p0 p1 : Vec Ideal S1x256x512 .bf16) (x : Vec Ideal S1x512x1024 .f32)
    (md : Vec Ideal S1x6x1024 .f32) (g1 : Vec Ideal S1x1024 .f32) (wo : Vec Ideal S1024x1024 .bf16) :
    FVec Ideal S512x1024 .f32 :=
  k0_pay15 (k0_pay2 a0 (woUp wo) p0 (woLo wo)) (k0_pay2 a1 (woUp wo) p1 (woLo wo)) (mod2 md) (gain g1) x

/-- What is stored for 512 rows, from their residual `X`. -/
abbrev halfOut (X : FVec Ideal S512x1024 .f32) (md : Vec Ideal S1x6x1024 .f32) (g2 g3 : Vec Ideal S1x1024 .f32)
    (up : Vec Ideal S1024x4096 .bf16) (dn : Vec Ideal S4096x1024 .bf16) : FVec Ideal S1x512x1024 .f32 :=
  k0_pay19 (k0_pay14 (mod5 md) (gain g3)) X
    (k0_pay17 (k0_pay13 (gain g2) (mod4 md)) X
      (multiReduction .add [1] S512 (mulf X X) 0x00000000#32 reduces_S512x1024_S512 (.inl rfl) rfl) (mod3 md))
    (k0_pay18 (k0_pay13 (gain g2) (mod4 md)) X
      (multiReduction .add [1] S512 (mulf X X) 0x00000000#32 reduces_S512x1024_S512 (.inl rfl) rfl) (mod3 md)
      (View.ld up (Rect.unit ![0, 0] ![1024, 1024] inb_S1024x4096_S1024x1024_0_0))
      (View.ld dn (Rect.unit ![0, 0] ![1024, 1024] inb_S4096x1024_S1024x1024_0_0))
      (View.ld up (Rect.unit ![0, 1024] ![1024, 1024] inb_S1024x4096_S1024x1024_0_1024))
      (View.ld dn (Rect.unit ![1024, 0] ![1024, 1024] inb_S4096x1024_S1024x1024_1024_0)))
    (View.ld up (Rect.unit ![0, 2048] ![1024, 1024] inb_S1024x4096_S1024x1024_0_2048))
    (View.ld dn (Rect.unit ![2048, 0] ![1024, 1024] inb_S4096x1024_S1024x1024_2048_0))
    (View.ld up (Rect.unit ![0, 3072] ![1024, 1024] inb_S1024x4096_S1024x1024_0_3072))
    (View.ld dn (Rect.unit ![3072, 0] ![1024, 1024] inb_S4096x1024_S1024x1024_3072_0))

/-- The four chunks of hidden columns together are the down projection over all of them. -/
theorem chunks_eq (h : FVec Ideal S512x1024 .bf16) (up : Vec Ideal S1024x4096 .bf16) (dn : Vec Ideal S4096x1024 .bf16)
    (r : Fin 512) (j : Fin 1024) :
    0 + chunk h (View.ld up (Rect.unit ![0, 0] ![1024, 1024] inb_S1024x4096_S1024x1024_0_0))
          (View.ld dn (Rect.unit ![0, 0] ![1024, 1024] inb_S4096x1024_S1024x1024_0_0)) r j
      + chunk h (View.ld up (Rect.unit ![0, 1024] ![1024, 1024] inb_S1024x4096_S1024x1024_0_1024))
          (View.ld dn (Rect.unit ![1024, 0] ![1024, 1024] inb_S4096x1024_S1024x1024_1024_0)) r j
      + chunk h (View.ld up (Rect.unit ![0, 2048] ![1024, 1024] inb_S1024x4096_S1024x1024_0_2048))
          (View.ld dn (Rect.unit ![2048, 0] ![1024, 1024] inb_S4096x1024_S1024x1024_2048_0)) r j
      + chunk h (View.ld up (Rect.unit ![0, 3072] ![1024, 1024] inb_S1024x4096_S1024x1024_0_3072))
          (View.ld dn (Rect.unit ![3072, 0] ![1024, 1024] inb_S4096x1024_S1024x1024_3072_0)) r j
      = down (fun k => h (ix2 r k)) (fun k f => up (ix2 k f)) (fun f j => dn (ix2 f j)) j := by
  unfold down
  rw [sum_four]
  pointwise [chunk]

/-- The stored half block at an index: the row function of the residual row. -/
theorem halfOut_apply (X : FVec Ideal S512x1024 .f32) (md : Vec Ideal S1x6x1024 .f32) (g2 g3 : Vec Ideal S1x1024 .f32)
    (up : Vec Ideal S1024x4096 .bf16) (dn : Vec Ideal S4096x1024 .bf16) (r : Fin 512) (j : Fin 1024) :
    halfOut X md g2 g3 up dn (ix3 0 r j)
      = resid (fun k => X (ix2 r k)) (down (modulated (fun k => X (ix2 r k))
            (fun k => g2 (ix2 0 k) * (1 + md (ix3 0 4 k))) (fun k => md (ix3 0 3 k)))
          (fun k f => up (ix2 k f)) (fun f j => dn (ix2 f j))) (fun k => md (ix3 0 5 k) * g3 (ix2 0 k)) j := by
  rw [halfOut, pay19_apply]
  have hg3 : ∀ k : Fin 1024, k0_pay14 (mod5 md) (gain g3) (ix2 0 k) = md (ix3 0 5 k) * g3 (ix2 0 k) := by
    intro k; pointwise [k0_pay14, mod5, gain]
  have hg2 : ∀ k : Fin 1024, k0_pay13 (gain g2) (mod4 md) (ix2 0 k) = g2 (ix2 0 k) * (1 + md (ix3 0 4 k)) := by
    intro k; pointwise [k0_pay13, mod4, gain]
  have hsh : ∀ k : Fin 1024, mod3 md (ix3 0 0 k) = md (ix3 0 3 k) := by
    intro k; pointwise [mod3]
  have h17 := funext fun k : Fin 1024 => pay17_apply (k0_pay13 (gain g2) (mod4 md)) X (mod3 md) r k
  simp only [hg2, hsh] at h17
  simp only [chunks_eq, hg3]
  exact congrArg (fun f => resid (fun k => X (ix2 r k)) (down f (fun k f => up (ix2 k f)) fun f j => dn (ix2 f j)) _ j) h17

/-- The first residual at an index, its projected row read through the attention and pooled pieces. -/
theorem halfX1_apply (a0 a1 : Vec Ideal S1x1x1x256x512 .bf16) (p0 p1 : Vec Ideal S1x256x512 .bf16)
    (x : Vec Ideal S1x512x1024 .f32) (md : Vec Ideal S1x6x1024 .f32) (g1 : Vec Ideal S1x1024 .f32)
    (wo : Vec Ideal S1024x1024 .bf16) (r : Fin 512) (j : Fin 1024) (a p : Fin 512 → EReal)
    (h0 : ∀ h : r.val < 256, (∀ k, a0 (ix5 0 0 0 ⟨r.val, h⟩ k) = a k) ∧ ∀ k, p0 (ix3 0 ⟨r.val, h⟩ k) = p k)
    (h1 : ∀ h : ¬r.val < 256, (∀ k, a1 (ix5 0 0 0 ⟨r.val - 256, by omega⟩ k) = a k)
      ∧ ∀ k, p1 (ix3 0 ⟨r.val - 256, by omega⟩ k) = p k) :
    halfX1 a0 a1 p0 p1 x md g1 wo (ix2 r j)
      = resid (fun k => x (ix3 0 r k)) (projRow a p fun k j => wo (ix2 k j)) (fun k => md (ix3 0 2 k) * g1 (ix2 0 k)) j := by
  rw [halfX1, pay15_apply]
  have hg : ∀ k : Fin 1024, mod2 md (ix3 0 0 k) * gain g1 (ix2 0 k) = md (ix3 0 2 k) * g1 (ix2 0 k) := by
    intro k; pointwise [mod2, gain]
  have hu : ∀ (k : Fin 512) (j : Fin 1024), woUp wo (ix2 k j) = wo (ix2 ⟨k.val, by omega⟩ j) := by
    intro k j; pointwise [woUp]
  have hl : ∀ (k : Fin 512) (j : Fin 1024), woLo wo (ix2 k j) = wo (ix2 ⟨512 + k.val, by omega⟩ j) := by
    intro k j; pointwise [woLo]
  have hy : twoRows (k0_pay2 a0 (woUp wo) p0 (woLo wo)) (k0_pay2 a1 (woUp wo) p1 (woLo wo)) r
      = projRow a p fun k j => wo (ix2 k j) := by
    funext j
    unfold twoRows projRow
    split
    · next h => simp only [pay2_apply, hu, hl, (h0 h).1, (h0 h).2]
    · next h => simp only [pay2_apply, hu, hl, (h1 h).1, (h1 h).2]
  simp only [hg, hy]

end Cert.OutMlp

end
-- ==== Proof.BlockValue.lean ====
/-
  One grid point's block: what the body leaves in the output's staging buffer, read at an index of its 1024 rows, as the
  row function of the point's input blocks.
-/
module

public import proofs.«01_k».proof.Proof.HalfBlock
public import proofs.«01_k».proof.Proof.Gen.KernelIdeal.Value

@[expose] public section

set_option maxRecDepth 16384

noncomputable section

namespace Cert.OutMlp

open Idealize.ShloMosaic Idealize.ShloMosaic.Tactic Cert.KernelIdeal Cert.KernelIdeal.Gen

variable (m : (ℓ : Loc nD τ sig) → Buf (Elt Ideal) ℓ)

/-- The attention block's slot that holds row group `g` of half `h`: the second half's groups are in reverse order. -/
def slot (h : ℕ) (g : Fin 4) : Fin 4 := if h = 0 then g else g.rev

/-- The body's load offset is the slot of the group. -/
theorem off_eq (i : grid0.Coords) (g : Fin 4) :
    k0_off1 i (k0_off1_at g).1 (k0_off1_at g).2 = ![0, 0, (slot (i 1).val g).val, 0, 0] := by
  have h : ∀ (n : Fin 2) (g : Fin 4), (Scalar.indexCast (Scalar.select (Scalar.cmpi .eq (BitVec.ofNat 32 n.val) 0#32)
      (k0_off1_at g).1 (k0_off1_at g).2)).toNat = (slot n.val g).val := by decide +kernel
  unfold k0_off1
  have := h (i 1) g
  simp only [this]

/-- A block's output row: the row function of the point's input blocks. -/
def blockRow (h : ℕ) (x : Vec Ideal S1x1024x1024 .f32) (a : Vec Ideal S1x1x4x256x512 .bf16) (p : Vec Ideal S1x1024x512 .bf16)
    (md : Vec Ideal S1x6x1024 .f32) (g1 g2 g3 : Vec Ideal S1x1024 .f32) (wo : Vec Ideal S1024x1024 .bf16)
    (up : Vec Ideal S1024x4096 .bf16) (dn : Vec Ideal S4096x1024 .bf16) (r j : Fin 1024) : EReal :=
  outRow (fun k => x (ix3 0 r k))
    (projRow (fun k => a (ix5 0 0 (slot h ⟨r.val / 256, by omega⟩) ⟨r.val % 256, by omega⟩ k)) (fun k => p (ix3 0 r k))
      fun k j => wo (ix2 k j))
    (fun k => md (ix3 0 2 k) * g1 (ix2 0 k)) (fun k => g2 (ix2 0 k) * (1 + md (ix3 0 4 k)))
    (fun k => md (ix3 0 5 k) * g3 (ix2 0 k)) (fun k => md (ix3 0 3 k)) (fun k f => up (ix2 k f)) (fun f j => dn (ix2 f j)) j

/-- Half a block's rows, starting at group `g0`, are the block's rows there. -/
theorem half_row (i : grid0.Coords) (x : Vec Ideal S1x1024x1024 .f32) (a : Vec Ideal S1x1x4x256x512 .bf16)
    (p : Vec Ideal S1x1024x512 .bf16) (md : Vec Ideal S1x6x1024 .f32) (g1 g2 g3 : Vec Ideal S1x1024 .f32)
    (wo : Vec Ideal S1024x1024 .bf16) (up : Vec Ideal S1024x4096 .bf16) (dn : Vec Ideal S4096x1024 .bf16)
    (a0 a1 : Vec Ideal S1x1x1x256x512 .bf16) (p0 p1 : Vec Ideal S1x256x512 .bf16) (xh : Vec Ideal S1x512x1024 .f32)
    (e : Fin 2)
    (ha0 : ∀ r k, a0 (ix5 0 0 0 r k) = a (ix5 0 0 (slot (i 1).val ⟨2 * e.val, by omega⟩) r k))
    (ha1 : ∀ r k, a1 (ix5 0 0 0 r k) = a (ix5 0 0 (slot (i 1).val ⟨2 * e.val + 1, by omega⟩) r k))
    (hp0 : ∀ (r : Fin 256) k, p0 (ix3 0 r k) = p (ix3 0 ⟨512 * e.val + r.val, by omega⟩ k))
    (hp1 : ∀ (r : Fin 256) k, p1 (ix3 0 r k) = p (ix3 0 ⟨512 * e.val + 256 + r.val, by omega⟩ k))
    (hx : ∀ (r : Fin 512) k, xh (ix3 0 r k) = x (ix3 0 ⟨512 * e.val + r.val, by omega⟩ k)) (r : Fin 512) (j : Fin 1024) :
    halfOut (halfX1 a0 a1 p0 p1 xh md g1 wo) md g2 g3 up dn (ix3 0 r j)
      = blockRow (i 1).val x a p md g1 g2 g3 wo up dn ⟨512 * e.val + r.val, by omega⟩ j := by
  rw [halfOut_apply]
  unfold blockRow outRow
  have hX := funext fun k : Fin 1024 => halfX1_apply a0 a1 p0 p1 xh md g1 wo r k
    (fun k => a (ix5 0 0 (slot (i 1).val ⟨(512 * e.val + r.val) / 256, by omega⟩) ⟨(512 * e.val + r.val) % 256, by omega⟩ k))
    (fun k => p (ix3 0 ⟨512 * e.val + r.val, by omega⟩ k))
    (fun h => ⟨fun k => by rw [ha0]; congr 3 <;> [congr 2; skip] <;> (try apply Fin.ext) <;> (try simp only []) <;> omega, fun k => hp0 _ k⟩)
    (fun h => ⟨fun k => by rw [ha1]; congr 3 <;> [congr 2; skip] <;> (try apply Fin.ext) <;> (try simp only []) <;> omega,
      fun k => (hp1 _ k).trans (congrArg (fun q => p (ix3 0 q k)) (Fin.ext (show 512 * e.val + 256 + (r.val - 256) = 512 * e.val + r.val by omega)))⟩)
  have hX' : (fun k => halfX1 a0 a1 p0 p1 xh md g1 wo (ix2 r k)) = _ := hX
  rw [hX']
  simp only [hx]

/-- The attention rows of group `g`, as the body loads them. -/
abbrev ldAttn (i : grid0.Coords) (a : Vec Ideal S1x1x4x256x512 .bf16) (g : Fin 4) : Vec Ideal S1x1x1x256x512 .bf16 :=
  View.ld a (Rect.unit (s := S1x1x4x256x512) (k0_off1 i (k0_off1_at g).1 (k0_off1_at g).2) S1x1x1x256x512.size (k0_off1_inb i g))

theorem ldAttn_apply (i : grid0.Coords) (a : Vec Ideal S1x1x4x256x512 .bf16) (g : Fin 4) (r : Fin 256) (k : Fin 512) :
    ldAttn i a g (ix5 0 0 0 r k) = a (ix5 0 0 (slot (i 1).val g) r k) := by
  unfold ldAttn
  show a _ = a _
  congr 1
  funext q
  apply Fin.ext
  have h := congrFun (off_eq i g) q
  show k0_off1 i (k0_off1_at g).1 (k0_off1_at g).2 q + 1 * ((ix5 0 0 0 r k : S1x1x1x256x512.Idx) q).val = _
  refine (congrArg (· + 1 * ((ix5 0 0 0 r k : S1x1x1x256x512.Idx) q).val) h).trans ?_
  clear h
  fin_cases q
  · rfl
  · rfl
  · show (slot (i 1).val g).val + 1 * 0 = _; simp
  · show 0 + 1 * r.val = r.val; omega
  · show 0 + 1 * k.val = k.val; omega

/-- The body's found pieces, read back: rows 512 to 1023 and rows 0 to 511. -/
theorem out_apply (c : Dev nD) (t : Fin cfg0.N) (r j : Fin 1024) :
    outsAt0 m c t (ix3 0 r j) = blockRow (grid0.coords t 1).val (iblk m c 0 t) (iblk m c 1 t) (iblk m c 2 t) (iblk m c 3 t)
      (iblk m c 4 t) (iblk m c 5 t) (iblk m c 6 t) (iblk m c 7 t) (iblk m c 8 t) (iblk m c 9 t) r j := by
  unfold outsAt0 out0_A_10
  rw [View.read_writes_eq_canon _ _ _ (cover0_A_10 c _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]
  let G : S1x1024x1024.Idx → Elt Ideal .f32 := fun y => blockRow (grid0.coords t 1).val (iblk m c 0 t) (iblk m c 1 t)
    (iblk m c 2 t) (iblk m c 3 t) (iblk m c 4 t) (iblk m c 5 t) (iblk m c 6 t) (iblk m c 7 t) (iblk m c 8 t) (iblk m c 9 t) (y 1) (y 2)
  refine View.canon_apply_of_pieces G _ ?_ (ix3 0 r j) ?_
  · intro p hp x
    simp only [List.mem_cons, List.not_mem_nil, or_false] at hp
    rcases hp with rfl | rfl
    · dsimp only at x
      obtain ⟨u, r', j', rfl⟩ : ∃ (u : Fin 1) (r' : Fin 512) (j' : Fin 1024), x = ix3 u r' j' := ⟨x 0, x 1, x 2, eq_ix3 x⟩
      obtain rfl : u = 0 := Subsingleton.elim _ _
      refine (half_row (grid0.coords t) (iblk m c 0 t) (iblk m c 1 t) (iblk m c 2 t) (iblk m c 3 t) (iblk m c 4 t) (iblk m c 5 t)
        (iblk m c 6 t) (iblk m c 7 t) (iblk m c 8 t) (iblk m c 9 t) (ldAttn (grid0.coords t) (iblk m c 1 t) 2)
        (ldAttn (grid0.coords t) (iblk m c 1 t) 3)
        (View.ld (iblk m c 2 t) (Rect.unit ![0, 512, 0] ![1, 256, 512] inb_S1x1024x512_S1x256x512_0_512_0))
        (View.ld (iblk m c 2 t) (Rect.unit ![0, 768, 0] ![1, 256, 512] inb_S1x1024x512_S1x256x512_0_768_0))
        (View.ld (iblk m c 0 t) (Rect.unit ![0, 512, 0] ![1, 512, 1024] inb_S1x1024x1024_S1x512x1024_0_512_0)) 1
        (fun r k => ldAttn_apply _ _ 2 r k) (fun r k => ldAttn_apply _ _ 3 r k) ?_ ?_ ?_ r' j').trans ?_
      · intro r k; pointwise
      · intro r k; pointwise
      · intro r k; pointwise
      · refine congrArg₂ (blockRow _ _ _ _ _ _ _ _ _ _ _) (Fin.ext ?_) (Fin.ext ?_)
        · show 512 * 1 + r'.val = 512 + 1 * r'.val; omega
        · show j'.val = 0 + 1 * j'.val; omega
    · dsimp only at x
      obtain ⟨u, r', j', rfl⟩ : ∃ (u : Fin 1) (r' : Fin 512) (j' : Fin 1024), x = ix3 u r' j' := ⟨x 0, x 1, x 2, eq_ix3 x⟩
      obtain rfl : u = 0 := Subsingleton.elim _ _
      refine (half_row (grid0.coords t) (iblk m c 0 t) (iblk m c 1 t) (iblk m c 2 t) (iblk m c 3 t) (iblk m c 4 t) (iblk m c 5 t)
        (iblk m c 6 t) (iblk m c 7 t) (iblk m c 8 t) (iblk m c 9 t) (ldAttn (grid0.coords t) (iblk m c 1 t) 0)
        (ldAttn (grid0.coords t) (iblk m c 1 t) 1)
        (View.ld (iblk m c 2 t) (Rect.unit ![0, 0, 0] ![1, 256, 512] inb_S1x1024x512_S1x256x512_0_0_0))
        (View.ld (iblk m c 2 t) (Rect.unit ![0, 256, 0] ![1, 256, 512] inb_S1x1024x512_S1x256x512_0_256_0))
        (View.ld (iblk m c 0 t) (Rect.unit ![0, 0, 0] ![1, 512, 1024] inb_S1x1024x1024_S1x512x1024_0_0_0)) 0
        (fun r k => ldAttn_apply _ _ 0 r k) (fun r k => ldAttn_apply _ _ 1 r k) ?_ ?_ ?_ r' j').trans ?_
      · intro r k; pointwise
      · intro r k; pointwise
      · intro r k; pointwise
      · refine congrArg₂ (blockRow _ _ _ _ _ _ _ _ _ _ _) (Fin.ext ?_) (Fin.ext ?_)
        · show 512 * 0 + r'.val = 0 + 1 * r'.val; omega
        · show j'.val = 0 + 1 * j'.val; omega
  · by_cases h : r.val < 512
    · refine ⟨_, List.mem_cons_of_mem _ (List.mem_cons_self ..), ?_⟩
      rw [Rect.mem_set_unit]
      intro a
      fin_cases a
      · exact ⟨Nat.zero_le _, Nat.zero_lt_one⟩
      · exact ⟨Nat.zero_le _, by show r.val < 0 + 512; omega⟩
      · exact ⟨Nat.zero_le _, by show j.val < 0 + 1024; omega⟩
    · refine ⟨_, List.mem_cons_self .., ?_⟩
      rw [Rect.mem_set_unit]
      intro a
      fin_cases a
      · exact ⟨Nat.zero_le _, Nat.zero_lt_one⟩
      · exact ⟨by show 512 ≤ r.val; omega, by show r.val < 512 + 512; omega⟩
      · exact ⟨Nat.zero_le _, by show j.val < 0 + 1024; omega⟩

end Cert.OutMlp

end
-- ==== Proof.ArrayValue.lean ====
/-
  The kernel's result array: every entry is the row function of the arguments.
-/
module

public import proofs.«01_k».proof.Proof.BlockValue
public import Idealize.ShloMosaic.Lib.Claim

@[expose] public section

set_option maxRecDepth 16384

noncomputable section

namespace Cert.OutMlp

open Idealize.ShloMosaic Idealize.ShloMosaic.TcCoe Idealize.ShloMosaic.Tactic Cert.KernelIdeal Cert.KernelIdeal.Gen
open Idealize.ShloMosaic.Pipeline (Dat)

/-- The result at batch `b`, position `s`, column `j`: the row function of the arguments. The attention rows sit in their
    call's blocks; the gains are read in the order in which the kernel multiplies them. -/
def result (x : FVec Ideal S32x2048x1024 .f32) (a : FVec Ideal S32x2x4x256x512 .bf16) (p : FVec Ideal S32x2048x512 .bf16)
    (md : FVec Ideal S32x6x1024 .f32) (g1 g2 g3 : FVec Ideal S1x1024 .f32) (wo : FVec Ideal S1x1024x1024 .f32)
    (up : FVec Ideal S1x1024x4096 .f32) (dn : FVec Ideal S1x4096x1024 .f32) (b : Fin 32) (s : Fin 2048) (j : Fin 1024) : EReal :=
  outRow (fun k => x (ix3 b s k))
    (projRow (fun k => a (ix5 b ⟨s.val / 1024, by omega⟩ (slot (s.val / 1024) ⟨s.val % 1024 / 256, by omega⟩)
      ⟨s.val % 256, by omega⟩ k)) (fun k => p (ix3 b s k)) fun k j => wo (ix3 0 k j))
    (fun k => md (ix3 b 2 k) * g1 (ix2 0 k)) (fun k => g2 (ix2 0 k) * (1 + md (ix3 b 4 k)))
    (fun k => md (ix3 b 5 k) * g3 (ix2 0 k)) (fun k => md (ix3 b 3 k)) (fun k f => up (ix3 0 k f)) (fun f j => dn (ix3 0 f j)) j

variable (m : (ℓ : Loc nD τ sig) → Buf (Elt Ideal) ℓ)

/-- The windows' block indices at point `t`, batch `t / 2` and half `t % 2`. -/
theorem idx_facts : ∀ t : Fin grid0.N, win0_0.index t = ![t.val / 2, t.val % 2, 0] ∧ win0_1.index t = ![t.val / 2, t.val % 2, 0, 0, 0]
    ∧ win0_2.index t = ![t.val / 2, t.val % 2, 0] ∧ win0_3.index t = ![t.val / 2, 0, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![t.val / 2, t.val % 2, 0] ∧ (grid0.coords t 1).val = t.val % 2 := by
  decide +kernel

theorem N_eq : cfg0.N = 64 := by decide +kernel

/-- Window 0's block at a point, read at an index: `x` at the point's batch and half. -/
theorem iblk0_apply (c : Dev nD) (t : Fin cfg0.N) (b : Fin 32) (h : Fin 2) (hb : t.val / 2 = b.val) (hh : t.val % 2 = h.val)
    (r k : Fin 1024) :
    iblk m c 0 t (ix3 0 r k) = m ((c : Thread nD τ).loc main_arg0) (ix3 b ⟨h.val * 1024 + r.val, by omega⟩ k) := by
  unfold iblk
  rw [View.read_apply]
  show V m c main_arg0 _ = _
  rw [V_main_arg0]
  congr 1
  funext q
  apply Fin.ext
  have e := (idx_facts t).1
  fin_cases q
  · show win0_0.index t 0 * 1 + 1 * 0 = b.val; rw [e, ← hb]; simp
  · show win0_0.index t 1 * 1024 + 1 * r.val = h.val * 1024 + r.val; rw [e, ← hh]; simp
  · show win0_0.index t 2 * 1024 + 1 * k.val = k.val; rw [e]; simp

/-- Window 1's: the attention rows of that batch and half. -/
theorem iblk1_apply (c : Dev nD) (t : Fin cfg0.N) (b : Fin 32) (h : Fin 2) (hb : t.val / 2 = b.val) (hh : t.val % 2 = h.val)
    (g : Fin 4) (r : Fin 256) (k : Fin 512) :
    iblk m c 1 t (ix5 0 0 g r k) = m ((c : Thread nD τ).loc main_arg1) (ix5 b h g r k) := by
  unfold iblk
  rw [View.read_apply]
  show V m c main_arg1 _ = _
  rw [V_main_arg1]
  congr 1
  funext q
  apply Fin.ext
  have e := (idx_facts t).2.1
  fin_cases q
  · show win0_1.index t 0 * 1 + 1 * 0 = b.val; rw [e, ← hb]; simp
  · show win0_1.index t 1 * 1 + 1 * 0 = h.val; rw [e, ← hh]; simp
  · show win0_1.index t 2 * 4 + 1 * g.val = g.val; rw [e]; simp
  · show win0_1.index t 3 * 256 + 1 * r.val = r.val; rw [e]; simp
  · show win0_1.index t 4 * 512 + 1 * k.val = k.val; rw [e]; simp

/-- Window 2's: the pooled rows. -/
theorem iblk2_apply (c : Dev nD) (t : Fin cfg0.N) (b : Fin 32) (h : Fin 2) (hb : t.val / 2 = b.val) (hh : t.val % 2 = h.val)
    (r : Fin 1024) (k : Fin 512) :
    iblk m c 2 t (ix3 0 r k) = m ((c : Thread nD τ).loc main_arg2) (ix3 b ⟨h.val * 1024 + r.val, by omega⟩ k) := by
  unfold iblk
  rw [View.read_apply]
  show V m c main_arg2 _ = _
  rw [V_main_arg2]
  congr 1
  funext q
  apply Fin.ext
  have e := (idx_facts t).2.2.1
  fin_cases q
  · show win0_2.index t 0 * 1 + 1 * 0 = b.val; rw [e, ← hb]; simp
  · show win0_2.index t 1 * 1024 + 1 * r.val = h.val * 1024 + r.val; rw [e, ← hh]; simp
  · show win0_2.index t 2 * 512 + 1 * k.val = k.val; rw [e]; simp

/-- Window 3's: the batch's modulation rows. -/
theorem iblk3_apply (c : Dev nD) (t : Fin cfg0.N) (b : Fin 32) (hb : t.val / 2 = b.val) (r : Fin 6) (k : Fin 1024) :
    iblk m c 3 t (ix3 0 r k) = m ((c : Thread nD τ).loc main_arg3) (ix3 b r k) := by
  unfold iblk
  rw [View.read_apply]
  show V m c main_arg3 _ = _
  rw [V_main_arg3]
  congr 1
  funext q
  apply Fin.ext
  have e := (idx_facts t).2.2.2.1
  fin_cases q
  · show win0_3.index t 0 * 1 + 1 * 0 = b.val; rw [e, ← hb]; simp
  · show win0_3.index t 1 * 6 + 1 * r.val = r.val; rw [e]; simp
  · show win0_3.index t 2 * 1024 + 1 * k.val = k.val; rw [e]; simp

/-- Window 4's: the first gain, whole at every point. -/
theorem iblk4_apply (c : Dev nD) (t : Fin cfg0.N) (k : Fin 1024) :
    iblk m c 4 t (ix2 0 k) = m ((c : Thread nD τ).loc main_arg4) (ix2 0 k) := by
  have e := (idx_facts t).2.2.2.2.1
  unfold iblk
  rw [View.read_apply]
  show V m c main_v1 _ = _
  trans V m c main_v1 (ix2 0 k)
  · congr 1
    funext q
    apply Fin.ext
    fin_cases q
    · show win0_4.index t 0 * 1 + 1 * 0 = 0; rw [e]; simp
    · show win0_4.index t 1 * 1024 + 1 * k.val = k.val; rw [e]; simp
  · entry_read
    pointwise

/-- Window 5's: the second gain, whole at every point. -/
theorem iblk5_apply (c : Dev nD) (t : Fin cfg0.N) (k : Fin 1024) :
    iblk m c 5 t (ix2 0 k) = m ((c : Thread nD τ).loc main_arg5) (ix2 0 k) := by
  have e := (idx_facts t).2.2.2.2.2.1
  unfold iblk
  rw [View.read_apply]
  show V m c main_v3 _ = _
  trans V m c main_v3 (ix2 0 k)
  · congr 1
    funext q
    apply Fin.ext
    fin_cases q
    · show win0_5.index t 0 * 1 + 1 * 0 = 0; rw [e]; simp
    · show win0_5.index t 1 * 1024 + 1 * k.val = k.val; rw [e]; simp
  · entry_read
    pointwise

/-- Window 6's: the third gain, whole at every point. -/
theorem iblk6_apply (c : Dev nD) (t : Fin cfg0.N) (k : Fin 1024) :
    iblk m c 6 t (ix2 0 k) = m ((c : Thread nD τ).loc main_arg6) (ix2 0 k) := by
  have e := (idx_facts t).2.2.2.2.2.2.1
  unfold iblk
  rw [View.read_apply]
  show V m c main_v5 _ = _
  trans V m c main_v5 (ix2 0 k)
  · congr 1
    funext q
    apply Fin.ext
    fin_cases q
    · show win0_6.index t 0 * 1 + 1 * 0 = 0; rw [e]; simp
    · show win0_6.index t 1 * 1024 + 1 * k.val = k.val; rw [e]; simp
  · entry_read
    pointwise

/-- Window 7's: the output projection, whole at every point. -/
theorem iblk7_apply (c : Dev nD) (t : Fin cfg0.N) (r : Fin 1024) (k : Fin 1024) :
    iblk m c 7 t (ix2 r k) = m ((c : Thread nD τ).loc main_arg7) (ix3 0 r k) := by
  have e := (idx_facts t).2.2.2.2.2.2.2.1
  unfold iblk
  rw [View.read_apply]
  show V m c main_v7 _ = _
  trans V m c main_v7 (ix2 r k)
  · congr 1
    funext q
    apply Fin.ext
    fin_cases q
    · show win0_7.index t 0 * 1024 + 1 * r.val = r.val; rw [e]; simp
    · show win0_7.index t 1 * 1024 + 1 * k.val = k.val; rw [e]; simp
  · entry_read
    pointwise

/-- Window 8's: the up projection, whole at every point. -/
theorem iblk8_apply (c : Dev nD) (t : Fin cfg0.N) (r : Fin 1024) (k : Fin 4096) :
    iblk m c 8 t (ix2 r k) = m ((c : Thread nD τ).loc main_arg8) (ix3 0 r k) := by
  have e := (idx_facts t).2.2.2.2.2.2.2.2.1
  unfold iblk
  rw [View.read_apply]
  show V m c main_v9 _ = _
  trans V m c main_v9 (ix2 r k)
  · congr 1
    funext q
    apply Fin.ext
    fin_cases q
    · show win0_8.index t 0 * 1024 + 1 * r.val = r.val; rw [e]; simp
    · show win0_8.index t 1 * 4096 + 1 * k.val = k.val; rw [e]; simp
  · entry_read
    pointwise

/-- Window 9's: the down projection, whole at every point. -/
theorem iblk9_apply (c : Dev nD) (t : Fin cfg0.N) (r : Fin 4096) (k : Fin 1024) :
    iblk m c 9 t (ix2 r k) = m ((c : Thread nD τ).loc main_arg9) (ix3 0 r k) := by
  have e := (idx_facts t).2.2.2.2.2.2.2.2.2.1
  unfold iblk
  rw [View.read_apply]
  show V m c main_v11 _ = _
  trans V m c main_v11 (ix2 r k)
  · congr 1
    funext q
    apply Fin.ext
    fin_cases q
    · show win0_9.index t 0 * 4096 + 1 * r.val = r.val; rw [e]; simp
    · show win0_9.index t 1 * 1024 + 1 * k.val = k.val; rw [e]; simp
  · entry_read
    pointwise

/-- The result array, as a function of the memory's arguments. -/
def resultArr (c : Dev nD) : Buf (Elt Ideal) ((c : Thread nD τ).loc main_v12) := fun i : S32x2048x1024.Idx =>
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (i 0) (i 1) (i 2)

/-- What a point leaves is its block of the result. -/
theorem out_result (c : Dev nD) (t : Fin cfg0.N) (b : Fin 32) (h : Fin 2) (hb : t.val / 2 = b.val) (hh : t.val % 2 = h.val)
    (r j : Fin 1024) :
    outsAt0 m c t (ix3 0 r j) = resultArr m c (ix3 b ⟨h.val * 1024 + r.val, by omega⟩ j) := by
  rw [out_apply]
  have hc : (grid0.coords t 1).val = h.val := (idx_facts t).2.2.2.2.2.2.2.2.2.2.2.trans hh
  show _ = result _ _ _ _ _ _ _ _ _ _ b ⟨h.val * 1024 + r.val, _⟩ j
  unfold blockRow result
  have e1 : (⟨(h.val * 1024 + r.val) / 1024, by omega⟩ : Fin 2) = h := Fin.ext (by show (h.val * 1024 + r.val) / 1024 = h.val; omega)
  have e2 : (h.val * 1024 + r.val) / 1024 = h.val := by omega
  have e3 : (⟨(h.val * 1024 + r.val) % 1024 / 256, by omega⟩ : Fin 4) = ⟨r.val / 256, by omega⟩ :=
    Fin.ext (by show (h.val * 1024 + r.val) % 1024 / 256 = r.val / 256; omega)
  have e4 : (⟨(h.val * 1024 + r.val) % 256, by omega⟩ : Fin 256) = ⟨r.val % 256, by omega⟩ :=
    Fin.ext (by show (h.val * 1024 + r.val) % 256 = r.val % 256; omega)
  rw [hc]
  simp only [e1, e2, e3, e4]
  simp only [iblk0_apply m c t b h hb hh, iblk1_apply m c t b h hb hh, iblk2_apply m c t b h hb hh, iblk3_apply m c t b hb,
    iblk4_apply, iblk5_apply, iblk6_apply, iblk7_apply, iblk8_apply, iblk9_apply]

/-- So the array after the run is the result. -/
theorem final (c : Dev nD) : (dats m 0 c).arrAt 10 cfg0.N = resultArr m c := by
  refine (dats m 0 c).arrAt_eq_of_cover 10 (resultArr m c) (fun t _ => ?_) fun i => ?_
  · rw [Value.flushed10]
    have hN : t.val < 64 := lt_of_lt_of_eq t.isLt N_eq
    have e := (idx_facts t).2.2.2.2.2.2.2.2.2.2.1
    funext y
    obtain ⟨u, r, j, rfl⟩ : ∃ (u : Fin 1) (r j : Fin 1024), y = ix3 u r j := ⟨y 0, y 1, y 2, eq_ix3 y⟩
    obtain rfl : u = 0 := Subsingleton.elim _ _
    refine (out_result m c t ⟨t.val / 2, by omega⟩ ⟨t.val % 2, by omega⟩ rfl rfl r j).trans ?_
    rw [View.read_apply]
    congr 1
    funext q
    apply Fin.ext
    fin_cases q
    · show t.val / 2 = win0_10.index t 0 * 1 + 1 * 0; rw [e]; simp
    · show t.val % 2 * 1024 + r.val = win0_10.index t 1 * 1024 + 1 * r.val; rw [e]; simp
    · show j.val = win0_10.index t 2 * 1024 + 1 * j.val; rw [e]; simp
  · have h0 : (i 0 : Nat) < 32 := (i 0).isLt
    have h1 : (i 1 : Nat) < 2048 := (i 1).isLt
    have h2 : (i 2 : Nat) < 1024 := (i 2).isLt
    refine ⟨⟨2 * (i 0 : Nat) + (i 1 : Nat) / 1024, by rw [N_eq]; omega⟩, ?_, ?_⟩
    · exact flush0_10 _
    · generalize ht : (⟨2 * (i 0 : Nat) + (i 1 : Nat) / 1024, _⟩ : Fin cfg0.N) = t
      have htv : t.val = 2 * (i 0 : Nat) + (i 1 : Nat) / 1024 := by rw [← ht]
      have e := (idx_facts t).2.2.2.2.2.2.2.2.2.2.1
      show (show S32x2048x1024.Idx from i) ∈ ((View.whole main_v12).slice (win0_10.rect t)).set
      rw [View.set_slice_whole, Rect.mem_set_unit]
      intro a
      fin_cases a
      · show win0_10.index t 0 * 1 ≤ (i 0 : Nat) ∧ (i 0 : Nat) < win0_10.index t 0 * 1 + 1
        rw [e]; simp; omega
      · show win0_10.index t 1 * 1024 ≤ (i 1 : Nat) ∧ (i 1 : Nat) < win0_10.index t 1 * 1024 + 1024
        rw [e]; simp; omega
      · show win0_10.index t 2 * 1024 ≤ (i 2 : Nat) ∧ (i 2 : Nat) < win0_10.index t 2 * 1024 + 1024
        rw [e]; simp; omega

end Cert.OutMlp

end
-- ==== Proof.RefValue.lean ====
/-
  The reference's result array: every entry is the same row function of the arguments as the kernel's.
-/
module

public import proofs.«01_k».proof.Proof.ArrayValue
public import proofs.«01_k».proof.Proof.Gen.ReferenceIdeal.Read

@[expose] public section

set_option maxRecDepth 16384

noncomputable section

namespace Cert.OutMlp.Ref

open Idealize.ShloMosaic Idealize.ShloMosaic.TcCoe Idealize.ShloMosaic.Tactic Cert.ReferenceIdeal Cert.ReferenceIdeal.Gen Cert.ReferenceIdeal.Read
open Cert.OutMlp

variable (x0 : FVec Ideal S32x2048x1024 .f32) (x1 : FVec Ideal S32x2x4x256x512 .bf16) (x2 : FVec Ideal S32x2048x512 .bf16)
  (x3 : FVec Ideal S32x6x1024 .f32) (x4 x5 x6 : FVec Ideal S1x1024 .f32) (x7 : FVec Ideal S1x1024x1024 .f32)
  (x8 : FVec Ideal S1x1024x4096 .f32) (x9 : FVec Ideal S1x4096x1024 .f32)

/-- The first half's attention rows, four blocks of 256 in order. -/
theorem v7_at (b : Fin 32) (r : Fin 1024) (k : Fin 512) :
    val_main_v7 (F := Ideal) x1 (ix3 b r k) = x1 (ix5 b 0 ⟨r.val / 256, by omega⟩ ⟨r.val % 256, by omega⟩ k) := by
  rw [val_main_v7_apply, val_main_v6_apply, val_main_v5_apply, val_main_v4_apply]
  refine congrArg x1 (funext fun a => Fin.ext ?_)
  fin_cases a <;> simp [idx_main_v5, idx_main_v6, idx_main_v7, ix5, ix3] <;> omega

/-- The second half's, whose blocks are in reverse order. -/
theorem v11_at (b : Fin 32) (r : Fin 1024) (k : Fin 512) :
    val_main_v11 (F := Ideal) x1 (ix3 b r k)
      = x1 (ix5 b 1 (Fin.rev ⟨r.val / 256, by omega⟩) ⟨r.val % 256, by omega⟩ k) := by
  rw [val_main_v11_apply, val_main_v10_apply]
  trans val_main_v9 (F := Ideal) x1 (ix5 b 0 ⟨r.val / 256, by omega⟩ ⟨r.val % 256, by omega⟩ k)
  · refine congrArg _ (funext fun a => Fin.ext ?_)
    fin_cases a <;> simp [idx_main_v10, idx_main_v11, ix5, ix3] <;> omega
  · pointwise [val_main_v9, val_main_v8, val_main_v4]
    rfl

theorem v12_lo (b : Fin 32) (r : Fin 1024) (k : Fin 512) :
    val_main_v12 (F := Ideal) x1 (ix3 b ⟨r.val, by omega⟩ k) = val_main_v7 (F := Ideal) x1 (ix3 b r k) := by
  unfold val_main_v12
  pointwise

theorem v12_hi (b : Fin 32) (r : Fin 1024) (k : Fin 512) :
    val_main_v12 (F := Ideal) x1 (ix3 b ⟨1024 + r.val, by omega⟩ k) = val_main_v11 (F := Ideal) x1 (ix3 b r k) := by
  unfold val_main_v12
  pointwise

/-- The attention row of a position, in its call's blocks. -/
theorem v12_at (b : Fin 32) (s : Fin 2048) (k : Fin 512) :
    val_main_v12 (F := Ideal) x1 (ix3 b s k)
      = x1 (ix5 b ⟨s.val / 1024, by omega⟩ (slot (s.val / 1024) ⟨s.val % 1024 / 256, by omega⟩) ⟨s.val % 256, by omega⟩ k) := by
  by_cases hs : s.val < 1024
  · have h0 : s.val / 1024 = 0 := by omega
    have h1 : s.val % 1024 = s.val := by omega
    refine (v12_lo x1 b ⟨s.val, hs⟩ k).trans ((v7_at x1 b ⟨s.val, hs⟩ k).trans ?_)
    simp only [h0, h1, slot, if_true]
    rfl
  · have h0 : s.val / 1024 = 1 := by omega
    have h1 : s.val % 1024 = s.val - 1024 := by omega
    have h2 : (s.val - 1024) % 256 = s.val % 256 := by omega
    have e : (ix3 b s k : S32x2048x512.Idx) = ix3 b ⟨1024 + (s.val - 1024), by omega⟩ k :=
      congrArg (fun q => ix3 b q k) (Fin.ext (by show s.val = 1024 + (s.val - 1024); omega))
    rw [e]
    refine (v12_hi x1 b ⟨s.val - 1024, by omega⟩ k).trans ((v11_at x1 b ⟨s.val - 1024, by omega⟩ k).trans ?_)
    simp only [h0, h1, h2, slot, if_neg one_ne_zero]
    rfl

theorem v14_lo (b : Fin 32) (s : Fin 2048) (k : Fin 512) :
    val_main_v14 (F := Ideal) x1 x2 (ix3 b s ⟨k.val, by omega⟩) = val_main_v12 (F := Ideal) x1 (ix3 b s k) := by
  unfold val_main_v14
  pointwise

theorem v14_hi (b : Fin 32) (s : Fin 2048) (k : Fin 512) :
    val_main_v14 (F := Ideal) x1 x2 (ix3 b s ⟨512 + k.val, by omega⟩) = x2 (ix3 b s k) := by
  unfold val_main_v14
  pointwise [val_main_v13]

/-- The projected row of a position. -/
abbrev yRow (b : Fin 32) (s : Fin 2048) (j : Fin 1024) : EReal :=
  projRow (fun k => x1 (ix5 b ⟨s.val / 1024, by omega⟩ (slot (s.val / 1024) ⟨s.val % 1024 / 256, by omega⟩)
    ⟨s.val % 256, by omega⟩ k)) (fun k => x2 (ix3 b s k)) (fun k j => x7 (ix3 0 k j)) j

theorem v16_at (b : Fin 32) (s : Fin 2048) (j : Fin 1024) :
    val_main_v16 (F := Ideal) x1 x2 x7 (ix3 b s j) = yRow x1 x2 x7 b s j := by
  have e : val_main_v16 (F := Ideal) x1 x2 x7 (ix3 b s j)
      = ∑ k : Fin 1024, val_main_v14 (F := Ideal) x1 x2 (ix3 b s k) * x7 (ix3 0 k j) := by
    unfold val_main_v16
    generalize val_main_v14 (F := Ideal) x1 x2 = z
    pointwise [val_main_v15]
  rw [e, Fin.sum_univ_two_halves 512 512 rfl]
  simp only [v14_lo, v14_hi, v12_at]
  rfl

/-- The first residual's row. -/
abbrev x1Row (b : Fin 32) (s : Fin 2048) (j : Fin 1024) : EReal :=
  resid (fun k => x0 (ix3 b s k)) (yRow x1 x2 x7 b s) (fun k => x3 (ix3 b 2 k) * x4 (ix2 0 k)) j

theorem v33_at (b : Fin 32) (s : Fin 2048) (j : Fin 1024) :
    val_main_v33 (F := Ideal) x0 x1 x2 x3 x4 x7 (ix3 b s j) = x1Row x0 x1 x2 x3 x4 x7 b s j := by
  unfold x1Row resid scale
  simp only [← v16_at]
  unfold val_main_v33 val_main_v32 val_main_v30 val_main_v27 val_main_v26 val_main_v25 val_main_v24 val_main_v22 val_main_v20 val_main_v19 val_main_v18
  generalize val_main_v16 (F := Ideal) x1 x2 x7 = z
  pointwise [val_main_v31, val_main_v29, val_main_v28, val_main_v2, val_main_v17, val_main_v21, val_main_v23, val_main_cst, val_main_cst_0, val_main_cst_1]
  rw [mul_left_comm]

/-- The modulated MLP input. -/
abbrev hRow (b : Fin 32) (s : Fin 2048) (j : Fin 1024) : EReal :=
  modulated (x1Row x0 x1 x2 x3 x4 x7 b s) (fun k => x5 (ix2 0 k) * (1 + x3 (ix3 b 4 k))) (fun k => x3 (ix3 b 3 k)) j

theorem v53_at (b : Fin 32) (s : Fin 2048) (j : Fin 1024) :
    val_main_v53 (F := Ideal) x0 x1 x2 x3 x4 x5 x7 (ix3 b s j) = hRow x0 x1 x2 x3 x4 x5 x7 b s j := by
  unfold hRow modulated scale
  simp only [← v33_at]
  unfold val_main_v53 val_main_v51 val_main_v47 val_main_v44 val_main_v43 val_main_v42 val_main_v41 val_main_v39 val_main_v37 val_main_v36 val_main_v35
  generalize val_main_v33 (F := Ideal) x0 x1 x2 x3 x4 x7 = z
  pointwise [val_main_v52, val_main_v50, val_main_v49, val_main_v48, val_main_v0, val_main_v1, val_main_v46, val_main_v45, val_main_v34, val_main_v38, val_main_v40, val_main_cst_2, val_main_cst_3, val_main_cst_4, val_main_cst_5]
  rw [mul_assoc _ (x5 _)]

/-- The MLP's row. -/
abbrev mRow (b : Fin 32) (s : Fin 2048) (j : Fin 1024) : EReal :=
  down (hRow x0 x1 x2 x3 x4 x5 x7 b s) (fun k f => x8 (ix3 0 k f)) (fun f j => x9 (ix3 0 f j)) j

theorem v59_at (b : Fin 32) (s : Fin 2048) (j : Fin 1024) :
    val_main_v59 (F := Ideal) x0 x1 x2 x3 x4 x5 x7 x8 x9 (ix3 b s j) = mRow x0 x1 x2 x3 x4 x5 x7 x8 x9 b s j := by
  unfold mRow down act
  simp only [← v53_at]
  unfold val_main_v59 val_main_v57 val_main_v56 val_main_v55
  generalize val_main_v53 (F := Ideal) x0 x1 x2 x3 x4 x5 x7 = z
  pointwise [val_main_v54, val_main_v58, val_main_call0_v0, val_main_call0_cst]

/-- The result row: the row function of the arguments. -/
theorem v76_at (b : Fin 32) (s : Fin 2048) (j : Fin 1024) :
    val_main_v76 (F := Ideal) x0 x1 x2 x3 x4 x5 x6 x7 x8 x9 (ix3 b s j) = result x0 x1 x2 x3 x4 x5 x6 x7 x8 x9 b s j := by
  show _ = resid (x1Row x0 x1 x2 x3 x4 x7 b s) (mRow x0 x1 x2 x3 x4 x5 x7 x8 x9 b s) (fun k => x3 (ix3 b 5 k) * x6 (ix2 0 k)) j
  unfold resid scale
  simp only [← v33_at, ← v59_at]
  unfold val_main_v76 val_main_v75 val_main_v73 val_main_v70 val_main_v69 val_main_v68 val_main_v67 val_main_v65 val_main_v63 val_main_v62 val_main_v61
  generalize val_main_v33 (F := Ideal) x0 x1 x2 x3 x4 x7 = z
  generalize val_main_v59 (F := Ideal) x0 x1 x2 x3 x4 x5 x7 x8 x9 = w
  pointwise [val_main_v74, val_main_v3, val_main_v72, val_main_v71, val_main_v60, val_main_v64, val_main_v66, val_main_cst_6, val_main_cst_7, val_main_cst_8]
  rw [mul_left_comm]

end Cert.OutMlp.Ref

end
-- ==== Proof.Claims.lean ====
/-
  The claims about the output projection and MLP: the frames, and that the kernel's result is the reference's.
-/
module

public import proofs.«01_k».proof.Defs
public import proofs.«01_k».proof.Proof.RefValue
public import proofs.«01_k».proof.Proof.Gen.Kernel.Frame
public import proofs.«01_k».proof.Proof.Gen.ReferenceIdeal.Run

@[expose] public section

noncomputable section

namespace Cert.OutMlp

open Idealize.ShloMosaic Idealize.ShloMosaic.TcCoe Idealize.ShloMosaic.Tactic Idealize.SL.Sem

/-- The kernel's frame, at bits. -/
theorem frame_kernel : Cert.quiescent_Kernel := fun m ρ _ => Cert.Kernel.Gen.frame m ρ

/-- The idealized kernel's frame. -/
theorem frame_ideal : Cert.quiescent_KernelIdeal := fun m ρ _ => Cert.KernelIdeal.Gen.frame m ρ

/-- The reference's frame: its run, which declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealization rewrote nothing. -/
theorem preserves : Cert.preserves_Kernel_KernelIdeal := trivial

/-- Kernel and reference end with the same array. -/
theorem algebraic : Cert.algebraic_KernelIdeal_ReferenceIdeal := by
  intro m ρ m' ρ' _ hagree
  refine ⟨fun c => resultArr m c, ?_, ?_⟩
  · exact (θ_run Cert.KernelIdeal.defs _ _).mono (fun _ h c => ⟨(h c).1.trans (final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v76_eq]
    obtain ⟨e0, e1, e2, e3, e4, e5, e6, e7, e8, e9⟩ := hagree c
    rw [e0, e1, e2, e3, e4, e5, e6, e7, e8, e9]
    funext i
    obtain ⟨b, s, j, rfl⟩ : ∃ (b : Fin 32) (s : Fin 2048) (j : Fin 1024), i = ix3 b s j := ⟨i 0, i 1, i 2, eq_ix3 i⟩
    exact Ref.v76_at _ _ _ _ _ _ _ _ _ _ b s j

end Cert.OutMlp

end
-- ==== Proof.MixBitsLaunch.lean ====
/-
  The launch of the mixer's input projections at bits, every output held to nothing: the run ends, and the arguments are as
  they were.
-/
module

public import Idealize.ShloMosaic.Lib.Pipeline.DatRel
public import proofs.«01_k».proof.Proof.MixBits

@[expose] public section

set_option maxRecDepth 16384

noncomputable section

namespace Cert.MixBits

open Cert.Mix Cert.Mix.Gen
open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What each output is held to. -/
def Rl (c : Dev nD) (w : Fin cfg0.W) (t : Fin cfg0.N) (X : (cfg0.win w).block.Idx → Elt F (cfg0.win w).elt) : Prop := True

/-- The outputs. -/
def outs (w : Fin cfg0.W) : Bool := Nat.ble 12 w.val

/-- The region's data: every input's buffer at its block after every point; nothing carried. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨_ + 17, h⟩ => absurd h (Nat.not_lt.2 (Nat.le_add_left _ _))
  Φ _ := Pipeline.ΦA spec0 c
  q _ := fullShare
  owed _ := 0

theorem dat_A (c : Dev nD) (w : Fin cfg0.W) : (dat m c).A w = V m c (Pipeline.arrRef spec0 w) := by
  dsimp only [dat]

theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = iblk m c 4 t := by dsimp only [dat]
theorem after_5 (c : Dev nD) (t : Fin cfg0.N) : (dat m c).after 5 t = iblk m c 5 t := by dsimp only [dat]
theorem after_6 (c : Dev nD) (t : Fin cfg0.N) : (dat m c).after 6 t = iblk m c 6 t := by dsimp only [dat]
theorem after_7 (c : Dev nD) (t : Fin cfg0.N) : (dat m c).after 7 t = iblk m c 7 t := by dsimp only [dat]
theorem after_8 (c : Dev nD) (t : Fin cfg0.N) : (dat m c).after 8 t = iblk m c 8 t := by dsimp only [dat]
theorem after_9 (c : Dev nD) (t : Fin cfg0.N) : (dat m c).after 9 t = iblk m c 9 t := by dsimp only [dat]
theorem after_10 (c : Dev nD) (t : Fin cfg0.N) : (dat m c).after 10 t = iblk m c 10 t := by dsimp only [dat]
theorem after_11 (c : Dev nD) (t : Fin cfg0.N) : (dat m c).after 11 t = iblk m c 11 t := by dsimp only [dat]
theorem before_0 (c : Dev nD) (t : Fin cfg0.N) (d) : (dat m c).before 0 t d = iblk m c 0 t :=
  before0_0_of m (dat m c) (dat_A m c 0) (after_0 m c) t d
theorem before_1 (c : Dev nD) (t : Fin cfg0.N) (d) : (dat m c).before 1 t d = iblk m c 1 t :=
  before0_1_of m (dat m c) (dat_A m c 1) (after_1 m c) t d
theorem before_2 (c : Dev nD) (t : Fin cfg0.N) (d) : (dat m c).before 2 t d = iblk m c 2 t :=
  before0_2_of m (dat m c) (dat_A m c 2) (after_2 m c) t d
theorem before_3 (c : Dev nD) (t : Fin cfg0.N) (d) : (dat m c).before 3 t d = iblk m c 3 t :=
  before0_3_of m (dat m c) (dat_A m c 3) (after_3 m c) t d
theorem before_4 (c : Dev nD) (t : Fin cfg0.N) (d) : (dat m c).before 4 t d = iblk m c 4 t :=
  before0_4_of m (dat m c) (dat_A m c 4) (after_4 m c) t d
theorem before_5 (c : Dev nD) (t : Fin cfg0.N) (d) : (dat m c).before 5 t d = iblk m c 5 t :=
  before0_5_of m (dat m c) (dat_A m c 5) (after_5 m c) t d
theorem before_6 (c : Dev nD) (t : Fin cfg0.N) (d) : (dat m c).before 6 t d = iblk m c 6 t :=
  before0_6_of m (dat m c) (dat_A m c 6) (after_6 m c) t d
theorem before_7 (c : Dev nD) (t : Fin cfg0.N) (d) : (dat m c).before 7 t d = iblk m c 7 t :=
  before0_7_of m (dat m c) (dat_A m c 7) (after_7 m c) t d
theorem before_8 (c : Dev nD) (t : Fin cfg0.N) (d) : (dat m c).before 8 t d = iblk m c 8 t :=
  before0_8_of m (dat m c) (dat_A m c 8) (after_8 m c) t d
theorem before_9 (c : Dev nD) (t : Fin cfg0.N) (d) : (dat m c).before 9 t d = iblk m c 9 t :=
  before0_9_of m (dat m c) (dat_A m c 9) (after_9 m c) t d
theorem before_10 (c : Dev nD) (t : Fin cfg0.N) (d) : (dat m c).before 10 t d = iblk m c 10 t :=
  before0_10_of m (dat m c) (dat_A m c 10) (after_10 m c) t d
theorem before_11 (c : Dev nD) (t : Fin cfg0.N) (d) : (dat m c).before 11 t d = iblk m c 11 t :=
  before0_11_of m (dat m c) (dat_A m c 11) (after_11 m c) t d

/-- What is carried, with the scratch as a buffer owned at some contents. -/
theorem carried_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]; try rfl

/-- What the body is called with at point `t`. -/
def bodyPre (c : Dev nD) (t : Fin cfg0.N) : sProp 𝕄 :=
  iprop((dat m c).Φ t.castSucc ∗ (dat m c).owesAt () t.castSucc
    ∗ (∃ d, owns (c : Thread nD τ) (win0_0.stage (cfg0.slots t 0)) fullShare ((dat m c).before 0 t d))
    ∗ (∃ d, owns (c : Thread nD τ) (win0_1.stage (cfg0.slots t 1)) fullShare ((dat m c).before 1 t d))
    ∗ (∃ d, owns (c : Thread nD τ) (win0_2.stage (cfg0.slots t 2)) fullShare ((dat m c).before 2 t d))
    ∗ (∃ d, owns (c : Thread nD τ) (win0_3.stage (cfg0.slots t 3)) fullShare ((dat m c).before 3 t d))
    ∗ (∃ d, owns (c : Thread nD τ) (win0_4.stage (cfg0.slots t 4)) fullShare ((dat m c).before 4 t d))
    ∗ (∃ d, owns (c : Thread nD τ) (win0_5.stage (cfg0.slots t 5)) fullShare ((dat m c).before 5 t d))
    ∗ (∃ d, owns (c : Thread nD τ) (win0_6.stage (cfg0.slots t 6)) fullShare ((dat m c).before 6 t d))
    ∗ (∃ d, owns (c : Thread nD τ) (win0_7.stage (cfg0.slots t 7)) fullShare ((dat m c).before 7 t d))
    ∗ (∃ d, owns (c : Thread nD τ) (win0_8.stage (cfg0.slots t 8)) fullShare ((dat m c).before 8 t d))
    ∗ (∃ d, owns (c : Thread nD τ) (win0_9.stage (cfg0.slots t 9)) fullShare ((dat m c).before 9 t d))
    ∗ (∃ d, owns (c : Thread nD τ) (win0_10.stage (cfg0.slots t 10)) fullShare ((dat m c).before 10 t d))
    ∗ (∃ d, owns (c : Thread nD τ) (win0_11.stage (cfg0.slots t 11)) fullShare ((dat m c).before 11 t d))
    ∗ (∃ Y, ⌜((dat m c).toRRel outs (Rl c)).Finds 12 t Y⌝ ∗ owns (c : Thread nD τ) (win0_12.stage (cfg0.slots t 12)) fullShare Y)
    ∗ (∃ Y, ⌜((dat m c).toRRel outs (Rl c)).Finds 13 t Y⌝ ∗ owns (c : Thread nD τ) (win0_13.stage (cfg0.slots t 13)) fullShare Y)
    ∗ (∃ Y, ⌜((dat m c).toRRel outs (Rl c)).Finds 14 t Y⌝ ∗ owns (c : Thread nD τ) (win0_14.stage (cfg0.slots t 14)) fullShare Y)
    ∗ (∃ Y, ⌜((dat m c).toRRel outs (Rl c)).Finds 15 t Y⌝ ∗ owns (c : Thread nD τ) (win0_15.stage (cfg0.slots t 15)) fullShare Y)
    ∗ (∃ Y, ⌜((dat m c).toRRel outs (Rl c)).Finds 16 t Y⌝ ∗ owns (c : Thread nD τ) (win0_16.stage (cfg0.slots t 16)) fullShare Y))

/-- What it returns. -/
def bodyPost (c : Dev nD) (t : Fin cfg0.N) : sProp 𝕄 :=
  iprop((dat m c).Φ t.succ ∗ (dat m c).owesAt () t.succ
    ∗ owns (c : Thread nD τ) (win0_0.stage (cfg0.slots t 0)) fullShare ((dat m c).after 0 t)
    ∗ owns (c : Thread nD τ) (win0_1.stage (cfg0.slots t 1)) fullShare ((dat m c).after 1 t)
    ∗ owns (c : Thread nD τ) (win0_2.stage (cfg0.slots t 2)) fullShare ((dat m c).after 2 t)
    ∗ owns (c : Thread nD τ) (win0_3.stage (cfg0.slots t 3)) fullShare ((dat m c).after 3 t)
    ∗ owns (c : Thread nD τ) (win0_4.stage (cfg0.slots t 4)) fullShare ((dat m c).after 4 t)
    ∗ owns (c : Thread nD τ) (win0_5.stage (cfg0.slots t 5)) fullShare ((dat m c).after 5 t)
    ∗ owns (c : Thread nD τ) (win0_6.stage (cfg0.slots t 6)) fullShare ((dat m c).after 6 t)
    ∗ owns (c : Thread nD τ) (win0_7.stage (cfg0.slots t 7)) fullShare ((dat m c).after 7 t)
    ∗ owns (c : Thread nD τ) (win0_8.stage (cfg0.slots t 8)) fullShare ((dat m c).after 8 t)
    ∗ owns (c : Thread nD τ) (win0_9.stage (cfg0.slots t 9)) fullShare ((dat m c).after 9 t)
    ∗ owns (c : Thread nD τ) (win0_10.stage (cfg0.slots t 10)) fullShare ((dat m c).after 10 t)
    ∗ owns (c : Thread nD τ) (win0_11.stage (cfg0.slots t 11)) fullShare ((dat m c).after 11 t)
    ∗ (∃ X, ⌜Rl c 12 t X⌝ ∗ owns (c : Thread nD τ) (win0_12.stage (cfg0.slots t 12)) fullShare X)
    ∗ (∃ X, ⌜Rl c 13 t X⌝ ∗ owns (c : Thread nD τ) (win0_13.stage (cfg0.slots t 13)) fullShare X)
    ∗ (∃ X, ⌜Rl c 14 t X⌝ ∗ owns (c : Thread nD τ) (win0_14.stage (cfg0.slots t 14)) fullShare X)
    ∗ (∃ X, ⌜Rl c 15 t X⌝ ∗ owns (c : Thread nD τ) (win0_15.stage (cfg0.slots t 15)) fullShare X)
    ∗ (∃ X, ⌜Rl c 16 t X⌝ ∗ owns (c : Thread nD τ) (win0_16.stage (cfg0.slots t 16)) fullShare X))

set_option maxHeartbeats 4000000 in
/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dat m c).owesAt () t.succ = (dat m c).owesAt () t.castSucc from rfl, after_0, after_1, after_2, after_3, after_4, after_5, after_6, after_7, after_8, after_9, after_10, after_11]
  rw [show (dat m c).Φ t.succ = Pipeline.ΦA spec0 c from rfl, show (dat m c).Φ t.castSucc = Pipeline.ΦA spec0 c from rfl, carried_eq]
  iintro ⟨⟨⟨%s, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, -, H12⟩, ⟨%d13, -, H13⟩, ⟨%d14, -, H14⟩, ⟨%d15, -, H15⟩, ⟨%d16, -, H16⟩⟩
  iapply ((run (F := F) _ _ _ _ _ _ _ _ _ _ _ _ _ _ _ _ _ _ _ _ _ _ _ _ _ _ _ _ _ _ _ _ _ _ _ _ c (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) d16 s).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexact H16
  isplitl [HS0]; · iexact HS0
  iintro ⟨H0, H1, H2, H3, H4, H5, H6, H7, H8, H9, H10, H11, ⟨%e12, H12⟩, ⟨%e13, H13⟩, ⟨%e14, H14⟩, ⟨%e15, H15⟩, H16, HS0⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iexists _; isplitr
    swap
    · unfold owns; iexists _; isplitr
      swap; · iexact H12
      ipureintro; rfl
    ipureintro; exact trivial
  isplitl [H13]
  · iexists _; isplitr
    swap
    · unfold owns; iexists _; isplitr
      swap; · iexact H13
      ipureintro; rfl
    ipureintro; exact trivial
  isplitl [H14]
  · iexists _; isplitr
    swap
    · unfold owns; iexists _; isplitr
      swap; · iexact H14
      ipureintro; rfl
    ipureintro; exact trivial
  isplitl [H15]
  · iexists _; isplitr
    swap
    · unfold owns; iexists _; isplitr
      swap; · iexact H15
      ipureintro; rfl
    ipureintro; exact trivial
  iexists _; isplitr
  swap
  · unfold owns; iexists _; isplitr
    swap; · iexact H16
    ipureintro; rfl
  ipureintro; exact trivial

/-- The body table's row at point `t`'s slots is the body. -/
theorem row_eq (t : Fin cfg0.N) :
    defs₀ (F := F) .tc cfg0.body (cfg0.bodyArgs t (cfg0.slots t)) = bodyAt0 t := by
  unfold defs₀; rw [Defs.onTc_tc]

/-- The body meets its obligation at every point. -/
theorem obligation (c : Dev nD) : BodyObligationRel (dat m c) (defs₀ (F := F)) Variants.none () Set.univ outs (Rl c) := fun t => by
  rw [bigSep_W0, bigSep_W0, row_eq]
  exact triple_restated (sound_body m c t) rfl .rfl fun _ => .rfl

set_option backward.isDefEq.respectTransparency.types false in
/-- The launch. -/
theorem launch : θ_run defs (onTc (τ := τ) (main (F := F))) (s₀ m ρ)
    (fun r => RDat.FramePost cfg0 (fun c => (dat m c).toRRel outs (Rl c)) (V m) r ∧ r.2.sem = fun _ => 0) :=
  Pipeline.RDat.θ_run_frame (Q' := _) cfgs (0 : Fin 1) launch0 defs₀ Variants.none (fun c => (dat m c).toRRel outs (Rl c)) m ρ main
    (hbody := fun c => (obligation m c).toRRel) (hshare := fun c => (dat m c).share_full fun _ => rfl)
    (howed := fun _ _ => rfl) (V := V m) (hmain := hmain m Variants.none) (hA := dat_A m) (hΦ := fun _ _ => rfl)

/-- After a run the arguments are as they were. -/
theorem args_of (r : PUnit × MemSt nD τ sig (Elt F)) (h : RDat.FramePost cfg0 (fun c => (dat m c).toRRel outs (Rl c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(RDat.FramePost.arr_in h c 0 rfl).trans ((dat_A m c 0).trans (V_main_arg0 m c)),
    (RDat.FramePost.arr_in h c 1 rfl).trans ((dat_A m c 1).trans (V_main_arg1 m c)),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- The run ends, the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨args_of m r h.1, h.2⟩) (launch m ρ)

end Cert.MixBits

end
-- ==== Proof.MixRows.lean ====
/-
  The mixer's input projections, one group of 256 rows at a time: the modulated hidden rows, their projections, the rotary
  key columns, the transposed rotary query block and the transposed value block with its row of ones, each read at an index
  as a function of the point's blocks.
-/
module

public import Idealize.ShloMosaic.Lib.KernelVsHost
public import proofs.«01_k».proof.Proof.RowSpec
public import proofs.«01_k».proof.Proof.Gen.MixIdeal.Skeleton

@[expose] public section

set_option maxRecDepth 16384

noncomputable section

namespace Cert.MixIn

open Idealize.ShloMosaic Cert.MixIdeal Cert.MixIdeal.Gen
open Cert.OutMlp (modulated scale)

/-- A token's modulated hidden row, from the blocks of `x`, of the modulation and of the gain. -/
def hidRow (x0 : Vec Ideal S1x1024x1024 .f32) (x1 : Vec Ideal S1x6x1024 .f32) (x2 : Vec Ideal S1x1024 .f32) (r : Fin 1024) :
    Fin 1024 → EReal :=
  modulated (fun k => x0 (ix3 0 r k)) (fun k => x2 (ix2 0 k) * (1 + x1 (ix3 0 1 k))) (fun k => x1 (ix3 0 0 k))

/-- 256 rows from `R` on lie in the block; they lie in a table's block; 256 columns from `R` on in a transposed table's. -/
abbrev InX (R : ℕ) : Prop := ∀ a : Fin 3, (![0, R, 0] : Fin 3 → ℕ) a + (![1, 256, 1024] : Fin 3 → ℕ) a ≤ S1x1024x1024.size a
abbrev InT (R : ℕ) : Prop := ∀ a : Fin 2, (![R, 0] : Fin 2 → ℕ) a + (![256, 128] : Fin 2 → ℕ) a ≤ S1024x128.size a
abbrev InC (R : ℕ) : Prop := ∀ a : Fin 2, (![0, R] : Fin 2 → ℕ) a + (![32, 256] : Fin 2 → ℕ) a ≤ S32x1024.size a

/-- The hidden rows of 256 tokens, from row `R` of the block on, as the body computes them. -/
abbrev hid (x0 : Vec Ideal S1x1024x1024 .f32) (x1 : Vec Ideal S1x6x1024 .f32) (x2 : Vec Ideal S1x1024 .f32) (R : ℕ)
    (hR : InX R) :
    FVec Ideal S256x1024 .bf16 :=
  k0_pay5 (View.ld x2 (Rect.unit ![0, 0] ![1, 1024] inb_S1x1024_S1x1024_0_0))
    (View.ld x1 (Rect.unit ![0, 1, 0] ![1, 1, 1024] inb_S1x6x1024_S1x1x1024_0_1_0))
    (View.ld x0 (Rect.unit (s := S1x1024x1024) ![0, R, 0] ![1, 256, 1024] hR))
    (View.ld x1 (Rect.unit ![0, 0, 0] ![1, 1, 1024] inb_S1x6x1024_S1x1x1024_0_0_0))

theorem pay5_apply (g : Vec Ideal S1x1024 .f32) (m1 : Vec Ideal S1x1x1024 .f32) (x : Vec Ideal S1x256x1024 .f32)
    (m0 : Vec Ideal S1x1x1024 .f32) (r : Fin 256) (j : Fin 1024) :
    k0_pay5 g m1 x m0 (ix2 r j)
      = modulated (fun k => x (ix3 0 r k)) (fun k => g (ix2 0 k) * (1 + m1 (ix3 0 0 k))) (fun k => m0 (ix3 0 0 k)) j := by
  pointwise [k0_pay5, k0_pay4, modulated, scale]

theorem hid_apply (x0 : Vec Ideal S1x1024x1024 .f32) (x1 : Vec Ideal S1x6x1024 .f32) (x2 : Vec Ideal S1x1024 .f32) (R : ℕ)
    (hR) (r : Fin 256) (j : Fin 1024) (hr : R + r.val < 1024) :
    hid x0 x1 x2 R hR (ix2 r j) = hidRow x0 x1 x2 ⟨R + r.val, hr⟩ j := by
  rw [hid, pay5_apply, hidRow]
  have e0 : ∀ k, View.ld x0 (Rect.unit (s := S1x1024x1024) ![0, R, 0] ![1, 256, 1024] hR) (ix3 0 r k)
      = x0 (ix3 0 ⟨R + r.val, hr⟩ k) := fun k => congrArg x0 (funext fun a => Fin.ext (by
        fin_cases a
        · rfl
        · show R + 1 * r.val = R + r.val; omega
        · show 0 + 1 * k.val = k.val; omega))
  have e1 : ∀ k, View.ld x1 (Rect.unit ![0, 1, 0] ![1, 1, 1024] inb_S1x6x1024_S1x1x1024_0_1_0) (ix3 0 0 k)
      = x1 (ix3 0 1 k) := fun k => by pointwise
  have e2 : ∀ k, View.ld x1 (Rect.unit ![0, 0, 0] ![1, 1, 1024] inb_S1x6x1024_S1x1x1024_0_0_0) (ix3 0 0 k)
      = x1 (ix3 0 0 k) := fun k => by pointwise
  have e3 : ∀ k, View.ld x2 (Rect.unit ![0, 0] ![1, 1024] inb_S1x1024_S1x1024_0_0) (ix2 0 k)
      = x2 (ix2 0 k) := fun k => by pointwise
  simp only [e0, e1, e2, e3]

/-- A projection of a token's hidden row against column `n` of a weight block. -/
def colProj (h : Fin 1024 → EReal) (w : Vec Ideal S1024x512 .bf16) (n : Fin 512) : EReal := ∑ j : Fin 1024, h j * w (ix2 j n)

/-- The same against row `n` of a transposed weight block. -/
def rowProj (h : Fin 1024 → EReal) (w : Vec Ideal S512x1024 .bf16) (n : Fin 512) : EReal := ∑ j : Fin 1024, w (ix2 n j) * h j

abbrev wcol (w : Vec Ideal S1024x512 .bf16) : Vec Ideal S1024x512 .bf16 :=
  View.ld w (Rect.unit ![0, 0] ![1024, 512] inb_S1024x512_S1024x512_0_0)
abbrev wrow (w : Vec Ideal S512x1024 .bf16) : Vec Ideal S512x1024 .bf16 :=
  View.ld w (Rect.unit ![0, 0] ![512, 1024] inb_S512x1024_S512x1024_0_0)

theorem pay14_apply (h : FVec Ideal S256x1024 .bf16) (w : Vec Ideal S1024x512 .bf16) (r : Fin 256) (n : Fin 512) :
    k0_pay14 h (wcol w) (ix2 r n) = colProj (fun j => h (ix2 r j)) w n := by
  pointwise [k0_pay14, colProj, wcol]

theorem pay16_apply (h : FVec Ideal S256x1024 .bf16) (w : Vec Ideal S512x1024 .bf16) (n : Fin 512) (r : Fin 256) :
    k0_pay16 h (wrow w) (ix2 n r) = rowProj (fun j => h (ix2 r j)) w n := by
  pointwise [k0_pay16, rowProj, wrow]

/-- A key column of a token, rotated: the column itself, the one 32 further and the one 32 before within its 128, each
    times its table. -/
def keyCol (p : Fin 512 → EReal) (cn sa sb : Fin 128 → EReal) (n : Fin 512) : EReal :=
  p n * cn ⟨n.val % 128, by omega⟩ + p ⟨n.val / 128 * 128 + (n.val % 128 + 32) % 128, by omega⟩ * sa ⟨n.val % 128, by omega⟩
    + p ⟨n.val / 128 * 128 + (n.val % 128 + 96) % 128, by omega⟩ * sb ⟨n.val % 128, by omega⟩

/-- 128 rotated key columns of 256 tokens. -/
abbrev keyChunk (kc cn sa sb : FVec Ideal S256x128 .f32) : FVec Ideal S256x128 .f32 :=
  addf (addf (mulf kc cn) (mulf (dynamicRotate 1 96#32 none kc rotates_S256x128_d1) sa))
    (mulf (dynamicRotate 1 32#32 none kc rotates_S256x128_d1) sb)

theorem keyChunk_apply (kc cn sa sb : FVec Ideal S256x128 .f32) (r : Fin 256) (l : Fin 128) :
    keyChunk kc cn sa sb (ix2 r l) = kc (ix2 r l) * cn (ix2 r l)
      + kc (ix2 r ⟨(l.val + 32) % 128, by omega⟩) * sa (ix2 r l) + kc (ix2 r ⟨(l.val + 96) % 128, by omega⟩) * sb (ix2 r l) := by
  have e1 : dynamicRotate 1 96#32 none kc rotates_S256x128_d1 (ix2 r l) = kc (ix2 r ⟨(l.val + 32) % 128, by omega⟩) :=
    dynamicRotate_apply _ _ _ _ _ _ fun b => by
      fin_cases b
      · rfl
      · show (l.val + 32) % 128 = (l.val + 128 - 96 % 128) % 128
        congr 1
  have e2 : dynamicRotate 1 32#32 none kc rotates_S256x128_d1 (ix2 r l) = kc (ix2 r ⟨(l.val + 96) % 128, by omega⟩) :=
    dynamicRotate_apply _ _ _ _ _ _ fun b => by
      fin_cases b
      · rfl
      · show (l.val + 96) % 128 = (l.val + 128 - 32 % 128) % 128
        congr 1
  show kc (ix2 r l) * cn (ix2 r l) + dynamicRotate 1 96#32 none kc rotates_S256x128_d1 (ix2 r l) * sa (ix2 r l)
    + dynamicRotate 1 32#32 none kc rotates_S256x128_d1 (ix2 r l) * sb (ix2 r l) = _
  rw [e1, e2]

/-- A table's 256 rows from `R` on, as the body loads them. -/
abbrev tab (T : Vec Ideal S1024x128 .f32) (R : ℕ)
    (h : InT R) : FVec Ideal S256x128 .f32 :=
  shapeCast S256x128 (View.ld T (Rect.unit (s := S1024x128) ![R, 0] ![256, 128] h)) shapeCasts_S256x128_S256x128

theorem tab_apply (T : Vec Ideal S1024x128 .f32) (R : ℕ) (h) (r : Fin 256) (l : Fin 128) (hr : R + r.val < 1024) :
    tab T R h (ix2 r l) = T (ix2 ⟨R + r.val, hr⟩ l) := by
  unfold tab
  rw [show shapeCast S256x128 (View.ld T (Rect.unit (s := S1024x128) ![R, 0] ![256, 128] h)) shapeCasts_S256x128_S256x128 (ix2 r l)
    = View.ld T (Rect.unit (s := S1024x128) ![R, 0] ![256, 128] h) (ix2 r l) from by pointwise]
  exact congrArg T (funext fun a => Fin.ext (by
        fin_cases a
        · show R + 1 * r.val = R + r.val; omega
        · show 0 + 1 * l.val = l.val; omega))

/-- What is stored for 128 key columns from `C` on of the 256 tokens from `R` on. -/
abbrev keyPart (x0 : Vec Ideal S1x1024x1024 .f32) (x1 : Vec Ideal S1x6x1024 .f32) (x2 : Vec Ideal S1x1024 .f32)
    (wk : Vec Ideal S1024x512 .bf16) (cn sa sb : Vec Ideal S1024x128 .f32) (R C : ℕ) (hR : InX R) (h1 h2 h3 : InT R)
    (hC : S256x512.Slices ![0, C] S256x128) : FVec Ideal S1x256x128 .bf16 :=
  shapeCast S1x256x128 (truncf .bf16 (keyChunk (extractStridedSlice S256x128 ![0, C] (k0_pay14 (hid x0 x1 x2 R hR) (wcol wk)) hC)
    (tab cn R h1) (tab sa R h2) (tab sb R h3)) bitsLt_bf16_f32) shapeCasts_S256x128_S1x256x128

/-- The rotated key of token `r` of the block, column `n`. -/
def keyAt (x0 : Vec Ideal S1x1024x1024 .f32) (x1 : Vec Ideal S1x6x1024 .f32) (x2 : Vec Ideal S1x1024 .f32)
    (wk : Vec Ideal S1024x512 .bf16) (cn sa sb : Vec Ideal S1024x128 .f32) (r : Fin 1024) (n : Fin 512) : EReal :=
  keyCol (colProj (hidRow x0 x1 x2 r) wk) (fun l => cn (ix2 r l)) (fun l => sa (ix2 r l)) (fun l => sb (ix2 r l)) n

theorem keyPart_apply (x0 : Vec Ideal S1x1024x1024 .f32) (x1 : Vec Ideal S1x6x1024 .f32) (x2 : Vec Ideal S1x1024 .f32)
    (wk : Vec Ideal S1024x512 .bf16) (cn sa sb : Vec Ideal S1024x128 .f32) (R C : ℕ) (hR : InX R) (h1 h2 h3 : InT R) (hC)
    (hC' : C % 128 = 0) (r : Fin 256) (l : Fin 128) (hr : R + r.val < 1024) (hl : C + l.val < 512) :
    keyPart x0 x1 x2 wk cn sa sb R C hR h1 h2 h3 hC (ix3 0 r l)
      = keyAt x0 x1 x2 wk cn sa sb ⟨R + r.val, hr⟩ ⟨C + l.val, hl⟩ := by
  have e : keyPart x0 x1 x2 wk cn sa sb R C hR h1 h2 h3 hC (ix3 0 r l)
      = keyChunk (extractStridedSlice S256x128 ![0, C] (k0_pay14 (hid x0 x1 x2 R hR) (wcol wk)) hC)
        (tab cn R h1) (tab sa R h2) (tab sb R h3) (ix2 r l) := by
    unfold keyPart
    generalize keyChunk _ _ _ _ = z
    pointwise
  rw [e, keyChunk_apply, tab_apply _ _ _ _ _ hr, tab_apply _ _ _ _ _ hr, tab_apply _ _ _ _ _ hr]
  have s : ∀ (l' : Fin 128) (hl' : C + l'.val < 512),
      extractStridedSlice S256x128 ![0, C] (k0_pay14 (hid x0 x1 x2 R hR) (wcol wk)) hC (ix2 r l')
        = colProj (hidRow x0 x1 x2 ⟨R + r.val, hr⟩) wk ⟨C + l'.val, hl'⟩ := fun l' hl' => by
    rw [extractStridedSlice_apply _ _ _ _ (ix2 r ⟨C + l'.val, hl'⟩) (fun a => by
      fin_cases a
      · show r.val = 0 + r.val; omega
      · rfl), pay14_apply]
    exact congrArg (fun h => colProj h wk _) (funext fun j => hid_apply x0 x1 x2 R hR r j hr)
  have hC3 : C ≤ 384 := by omega
  rw [s l hl, s _ (show C + (l.val + 32) % 128 < 512 by omega), s _ (show C + (l.val + 96) % 128 < 512 by omega)]
  unfold keyAt keyCol
  have a1 : (C + l.val) % 128 = l.val := by omega
  have a2 : (C + l.val) / 128 * 128 = C := by omega
  simp only [a1, a2]

/-- A rotated row of a transposed projection: within each head of 64 rows, row `d < 32` takes the row 32 further with minus
    the sine, row `d ≥ 32` the row 32 before with the sine. -/
def ropeRow (p : Fin 512 → EReal) (c s : Fin 32 → EReal) (n : Fin 512) : EReal :=
  if h : n.val % 64 < 32 then p n * c ⟨n.val % 64, h⟩ - p ⟨n.val + 32, by omega⟩ * s ⟨n.val % 64, h⟩
  else p n * c ⟨n.val % 64 - 32, by omega⟩ + p ⟨n.val - 32, by omega⟩ * s ⟨n.val % 64 - 32, by omega⟩

/-- 32 rows of a transposed projection, and 64. -/
abbrev rows32 (q : FVec Ideal S512x256 .f32) (o : ℕ) (h : S512x256.Slices ![o, 0] S32x256) : FVec Ideal S32x256 .f32 :=
  extractStridedSlice S32x256 ![o, 0] q h

theorem slices_lo (h : Fin 8) : S512x256.Slices ![64 * h.val, 0] S32x256 := by revert h; decide
theorem slices_hi (h : Fin 8) : S512x256.Slices ![64 * h.val + 32, 0] S32x256 := by revert h; decide
theorem slices_head (h : Fin 8) : S512x256.Slices ![64 * h.val, 0] S64x256 := by revert h; decide

/-- The two rotated halves of a head. -/
abbrev headLo (q : FVec Ideal S512x256 .f32) (ct st : FVec Ideal S32x256 .f32) (h : Fin 8) : (s : Shape) × (s.Idx → EReal) :=
  ⟨S32x256, subf (φ := .f32) (mulf (φ := .f32) (rows32 q (64 * h.val) (slices_lo h)) ct) (mulf (φ := .f32) (rows32 q (64 * h.val + 32) (slices_hi h)) st)⟩
abbrev headHi (q : FVec Ideal S512x256 .f32) (ct st : FVec Ideal S32x256 .f32) (h : Fin 8) : (s : Shape) × (s.Idx → EReal) :=
  ⟨S32x256, addf (φ := .f32) (mulf (φ := .f32) (rows32 q (64 * h.val + 32) (slices_hi h)) ct) (mulf (φ := .f32) (rows32 q (64 * h.val) (slices_lo h)) st)⟩
abbrev heads (q : FVec Ideal S512x256 .f32) (ct st : FVec Ideal S32x256 .f32) : List ((s : Shape) × (s.Idx → EReal)) :=
  [headLo q ct st 0, headHi q ct st 0, headLo q ct st 1, headHi q ct st 1, headLo q ct st 2, headHi q ct st 2,
   headLo q ct st 3, headHi q ct st 3, headLo q ct st 4, headHi q ct st 4, headLo q ct st 5, headHi q ct st 5,
   headLo q ct st 6, headHi q ct st 6, headLo q ct st 7, headHi q ct st 7]

/-- The rotated, scaled query block of 256 tokens. -/
abbrev queryBlock (q : FVec Ideal S512x256 .f32) (ct st : FVec Ideal S32x256 .f32) : FVec Ideal S1x1x512x256 .bf16 :=
  shapeCast S1x1x512x256 (truncf .bf16 (mulf (concatenate S512x256 0 (heads q ct st)
    concatenates_S32x256_S32x256_S32x256_S32x256_S32x256_S32x256_S32x256_S32x256_S32x256_S32x256_S32x256_S32x256_S32x256_S32x256_S32x256_S32x256_S512x256_d0)
    (broadcast S512x256 (Scalar.ofBits .f32 0x3E38AA3B#32))) bitsLt_bf16_f32) shapeCasts_S512x256_S1x1x512x256

/-- The axis extent of a piece of a concatenation along the rows. -/
abbrev ext0 (t : Shape) (a : Fin t.rank) (s : Shape) : ℕ := if h : s.rank = t.rank then s.size (a.cast h.symm) else 0

theorem heads_before (k : Fin 16) : (((List.replicate 16 S32x256).take k.val).map (ext0 S512x256 0)).sum = 32 * k.val := by
  revert k; decide +kernel

theorem headsV_before (k : Fin 16) :
    ((([S64x256, S16x256, S64x256, S16x256, S64x256, S16x256, S64x256, S16x256, S64x256, S16x256, S64x256, S16x256, S64x256,
      S16x256, S64x256, S16x256] : List Shape).take k.val).map (ext0 S640x256 0)).sum = 80 * (k.val / 2) + 64 * (k.val % 2) := by
  revert k; decide +kernel

theorem heads_apply (q : FVec Ideal S512x256 .f32) (ct st : FVec Ideal S32x256 .f32) (hc) (n : Fin 512) (r : Fin 256) :
    concatenate S512x256 0 (heads q ct st) hc (ix2 n r)
      = ropeRow (fun k => q (ix2 k r)) (fun d => ct (ix2 d r)) (fun d => st (ix2 d r)) n := by
  have rd : ∀ (o : ℕ) (h) (d : Fin 32) (k : Fin 512), k.val = o + d.val → rows32 q o h (ix2 d r) = q (ix2 k r) :=
    fun o h d k e => extractStridedSlice_apply _ _ _ _ _ fun a => by
      fin_cases a
      · exact e
      · show r.val = 0 + r.val; omega
  obtain ⟨hd, hh⟩ : ∃ hd : Fin 8, hd.val = n.val / 64 := ⟨⟨n.val / 64, by omega⟩, rfl⟩
  unfold ropeRow
  split_ifs with h
  · refine (concatenate_apply_piece 0 (heads q ct st) hc (ix2 n r) (2 * hd.val) (by show 2 * hd.val < 16; omega) S32x256
      (headLo q ct st hd).2 (by fin_cases hd <;> rfl) rfl (64 * hd.val) (by rw [List.map_take]; exact (heads_before ⟨2 * hd.val, by omega⟩).trans (by show 32 * (2 * hd.val) = _; omega)) (ix2 ⟨n.val % 64, h⟩ r) ?_ ?_).trans ?_
    · intro b hb
      fin_cases b
      · exact absurd rfl hb
      · rfl
    · show 64 * hd.val + n.val % 64 = n.val; omega
    · show rows32 q _ _ (ix2 _ r) * ct (ix2 _ r) - rows32 q _ _ (ix2 _ r) * st (ix2 _ r) = _
      rw [rd _ _ _ n (by show n.val = 64 * hd.val + n.val % 64; omega), rd _ _ _ ⟨n.val + 32, by omega⟩ (by show n.val + 32 = 64 * hd.val + 32 + n.val % 64; omega)]
  · refine (concatenate_apply_piece 0 (heads q ct st) hc (ix2 n r) (2 * hd.val + 1) (by show 2 * hd.val + 1 < 16; omega) S32x256
      (headHi q ct st hd).2 (by fin_cases hd <;> rfl) rfl (64 * hd.val + 32) (by rw [List.map_take]; exact (heads_before ⟨2 * hd.val + 1, by omega⟩).trans (by show 32 * (2 * hd.val + 1) = _; omega)) (ix2 ⟨n.val % 64 - 32, by omega⟩ r) ?_ ?_).trans ?_
    · intro b hb
      fin_cases b
      · exact absurd rfl hb
      · rfl
    · show 64 * hd.val + 32 + (n.val % 64 - 32) = n.val; omega
    · show rows32 q _ _ (ix2 _ r) * ct (ix2 _ r) + rows32 q _ _ (ix2 _ r) * st (ix2 _ r) = _
      rw [rd _ _ _ n (by show n.val = 64 * hd.val + 32 + (n.val % 64 - 32); omega), rd _ _ _ ⟨n.val - 32, by omega⟩ (by show n.val - 32 = 64 * hd.val + (n.val % 64 - 32); omega)]

theorem queryBlock_apply (q : FVec Ideal S512x256 .f32) (ct st : FVec Ideal S32x256 .f32) (n : Fin 512) (r : Fin 256) :
    queryBlock q ct st (ix4 0 0 n r)
      = ropeRow (fun k => q (ix2 k r)) (fun d => ct (ix2 d r)) (fun d => st (ix2 d r)) n * Ideal.ofBits .f32 0x3E38AA3B#32 := by
  rw [← heads_apply q ct st
    concatenates_S32x256_S32x256_S32x256_S32x256_S32x256_S32x256_S32x256_S32x256_S32x256_S32x256_S32x256_S32x256_S32x256_S32x256_S32x256_S32x256_S512x256_d0]
  unfold queryBlock
  generalize concatenate _ _ _ _ = z
  pointwise

/-- The rows appended to each head of the values: ones, then zeros. -/
abbrev onesRows : FVec Ideal S16x256 .f32 :=
  select (cmpi .eq (iota .tc S16x256 32 [0] iota_S16x256_d0_w32) (broadcast S16x256 0#32))
    (broadcast S16x256 (Scalar.ofBits .f32 0x3F800000#32)) (broadcast S16x256 (Scalar.ofBits .f32 0x00000000#32))

theorem onesRows_apply (d : Fin 16) (r : Fin 256) : onesRows (ix2 d r) = if d.val = 0 then 1 else 0 := by
  have h : ∀ d : Fin 16, IntOp.cmpi .eq (BitVec.ofNat 32 d.val) 0#32 = if d.val = 0 then 1#1 else 0#1 := by decide
  unfold onesRows
  pointwise
  rw [h]
  split_ifs <;> rfl

abbrev headV (v : FVec Ideal S512x256 .f32) (h : Fin 8) : (s : Shape) × (s.Idx → EReal) :=
  ⟨S64x256, extractStridedSlice S64x256 ![64 * h.val, 0] v (slices_head h)⟩
abbrev headsV (v : FVec Ideal S512x256 .f32) (o : FVec Ideal S16x256 .f32) : List ((s : Shape) × (s.Idx → EReal)) :=
  [headV v 0, ⟨S16x256, o⟩, headV v 1, ⟨S16x256, o⟩, headV v 2, ⟨S16x256, o⟩, headV v 3, ⟨S16x256, o⟩,
   headV v 4, ⟨S16x256, o⟩, headV v 5, ⟨S16x256, o⟩, headV v 6, ⟨S16x256, o⟩, headV v 7, ⟨S16x256, o⟩]

/-- The value block of 256 tokens: each head's 64 rows, a row of ones and 15 of zeros. -/
abbrev valueBlock (v : FVec Ideal S512x256 .f32) : FVec Ideal S1x1x640x256 .bf16 :=
  shapeCast S1x1x640x256 (truncf .bf16 (concatenate S640x256 0 (headsV v onesRows)
    concatenates_S64x256_S16x256_S64x256_S16x256_S64x256_S16x256_S64x256_S16x256_S64x256_S16x256_S64x256_S16x256_S64x256_S16x256_S64x256_S16x256_S640x256_d0)
    bitsLt_bf16_f32) shapeCasts_S640x256_S1x1x640x256

/-- A row of the value block. -/
def valueRow (p : Fin 512 → EReal) (n : Fin 640) : EReal :=
  if h : n.val % 80 < 64 then p ⟨64 * (n.val / 80) + n.val % 80, by omega⟩ else if n.val % 80 = 64 then 1 else 0

theorem headsV_apply (v : FVec Ideal S512x256 .f32) (hc) (n : Fin 640) (r : Fin 256) :
    concatenate S640x256 0 (headsV v onesRows) hc (ix2 n r) = valueRow (fun k => v (ix2 k r)) n := by
  obtain ⟨hd, hh⟩ : ∃ hd : Fin 8, hd.val = n.val / 80 := ⟨⟨n.val / 80, by omega⟩, rfl⟩
  unfold valueRow
  split_ifs with h h'
  · refine (concatenate_apply_piece 0 (headsV v onesRows) hc (ix2 n r) (2 * hd.val) (by show 2 * hd.val < 16; omega) S64x256
      (headV v hd).2 (by fin_cases hd <;> rfl) rfl (80 * hd.val) (by rw [List.map_take]; exact (headsV_before ⟨2 * hd.val, by omega⟩).trans (by show 80 * (2 * hd.val / 2) + 64 * (2 * hd.val % 2) = _; omega)) (ix2 ⟨n.val % 80, h⟩ r) ?_ ?_).trans ?_
    · intro b hb
      fin_cases b
      · exact absurd rfl hb
      · rfl
    · show 80 * hd.val + n.val % 80 = n.val; omega
    · refine extractStridedSlice_apply _ _ (slices_head hd) _ _ fun a => ?_
      fin_cases a
      · show 64 * (n.val / 80) + n.val % 80 = 64 * hd.val + n.val % 80; omega
      · show r.val = 0 + r.val; omega
  all_goals
    refine (concatenate_apply_piece 0 (headsV v onesRows) hc (ix2 n r) (2 * hd.val + 1) (by show 2 * hd.val + 1 < 16; omega) S16x256
      onesRows (by fin_cases hd <;> rfl) rfl (80 * hd.val + 64) (by rw [List.map_take]; exact (headsV_before ⟨2 * hd.val + 1, by omega⟩).trans (by show 80 * ((2 * hd.val + 1) / 2) + 64 * ((2 * hd.val + 1) % 2) = _; omega)) (ix2 ⟨n.val % 80 - 64, by omega⟩ r) ?_ ?_).trans ?_
    · intro b hb
      fin_cases b
      · exact absurd rfl hb
      · rfl
    · show 80 * hd.val + 64 + (n.val % 80 - 64) = n.val; omega
    · rw [onesRows_apply]
      first | exact if_pos (by show n.val % 80 - 64 = 0; omega) | exact if_neg (by show ¬ n.val % 80 - 64 = 0; omega)

theorem valueBlock_apply (v : FVec Ideal S512x256 .f32) (n : Fin 640) (r : Fin 256) :
    valueBlock v (ix4 0 0 n r) = valueRow (fun k => v (ix2 k r)) n := by
  rw [← headsV_apply v
    concatenates_S64x256_S16x256_S64x256_S16x256_S64x256_S16x256_S64x256_S16x256_S64x256_S16x256_S64x256_S16x256_S64x256_S16x256_S64x256_S16x256_S640x256_d0]
  unfold valueBlock
  generalize concatenate _ _ _ _ = z
  pointwise

/-- A transposed table's 256 columns from `R` on, as the body loads them. -/
abbrev tabT (T : Vec Ideal S32x1024 .f32) (R : ℕ) (h : InC R) : FVec Ideal S32x256 .f32 :=
  shapeCast S32x256 (View.ld T (Rect.unit (s := S32x1024) ![0, R] ![32, 256] h)) shapeCasts_S32x256_S32x256

theorem tabT_apply (T : Vec Ideal S32x1024 .f32) (R : ℕ) (h) (d : Fin 32) (r : Fin 256) (hr : R + r.val < 1024) :
    tabT T R h (ix2 d r) = T (ix2 d ⟨R + r.val, hr⟩) := by
  unfold tabT
  rw [show shapeCast S32x256 (View.ld T (Rect.unit (s := S32x1024) ![0, R] ![32, 256] h)) shapeCasts_S32x256_S32x256 (ix2 d r)
    = View.ld T (Rect.unit (s := S32x1024) ![0, R] ![32, 256] h) (ix2 d r) from by pointwise]
  exact congrArg T (funext fun a => Fin.ext (by
        fin_cases a
        · show 0 + 1 * d.val = d.val; omega
        · show R + 1 * r.val = R + r.val; omega))

/-- The query of token `r` of the block, row `n`. -/
def queryAt (x0 : Vec Ideal S1x1024x1024 .f32) (x1 : Vec Ideal S1x6x1024 .f32) (x2 : Vec Ideal S1x1024 .f32)
    (wq : Vec Ideal S512x1024 .bf16) (ct st : Vec Ideal S32x1024 .f32) (r : Fin 1024) (n : Fin 512) : EReal :=
  ropeRow (rowProj (hidRow x0 x1 x2 r) wq) (fun d => ct (ix2 d r)) (fun d => st (ix2 d r)) n * Ideal.ofBits .f32 0x3E38AA3B#32

/-- The value of token `r` of the block, row `n` of the widened heads. -/
def valueAt (x0 : Vec Ideal S1x1024x1024 .f32) (x1 : Vec Ideal S1x6x1024 .f32) (x2 : Vec Ideal S1x1024 .f32)
    (wv : Vec Ideal S512x1024 .bf16) (r : Fin 1024) (n : Fin 640) : EReal :=
  valueRow (rowProj (hidRow x0 x1 x2 r) wv) n

theorem rows_apply (x0 : Vec Ideal S1x1024x1024 .f32) (x1 : Vec Ideal S1x6x1024 .f32) (x2 : Vec Ideal S1x1024 .f32)
    (w : Vec Ideal S512x1024 .bf16) (R : ℕ) (hR : InX R) (r : Fin 256) (hr : R + r.val < 1024) :
    (fun k => k0_pay16 (hid x0 x1 x2 R hR) (wrow w) (ix2 k r)) = rowProj (hidRow x0 x1 x2 ⟨R + r.val, hr⟩) w :=
  funext fun k => (pay16_apply _ _ _ _).trans (congrArg (fun h => rowProj h w k) (funext fun j => hid_apply x0 x1 x2 R hR r j hr))

theorem queryBlock_eq (x0 : Vec Ideal S1x1024x1024 .f32) (x1 : Vec Ideal S1x6x1024 .f32) (x2 : Vec Ideal S1x1024 .f32)
    (wq : Vec Ideal S512x1024 .bf16) (ct st : Vec Ideal S32x1024 .f32) (R : ℕ) (hR : InX R) (h1 h2 : InC R) (n : Fin 512)
    (r : Fin 256) (hr : R + r.val < 1024) :
    queryBlock (k0_pay16 (hid x0 x1 x2 R hR) (wrow wq)) (tabT ct R h1) (tabT st R h2) (ix4 0 0 n r)
      = queryAt x0 x1 x2 wq ct st ⟨R + r.val, hr⟩ n := by
  rw [queryBlock_apply, rows_apply _ _ _ _ _ _ _ hr]
  simp only [tabT_apply _ _ _ _ _ hr]
  rfl

theorem valueBlock_eq (x0 : Vec Ideal S1x1024x1024 .f32) (x1 : Vec Ideal S1x6x1024 .f32) (x2 : Vec Ideal S1x1024 .f32)
    (wv : Vec Ideal S512x1024 .bf16) (R : ℕ) (hR : InX R) (n : Fin 640) (r : Fin 256) (hr : R + r.val < 1024) :
    valueBlock (k0_pay16 (hid x0 x1 x2 R hR) (wrow wv)) (ix4 0 0 n r) = valueAt x0 x1 x2 wv ⟨R + r.val, hr⟩ n := by
  rw [valueBlock_apply, rows_apply _ _ _ _ _ _ _ hr]
  rfl

end Cert.MixIn

end
-- ==== Proof.MixSpec.lean ====
/-
  One token's rotated query, rotated key and widened value, as functions of the arguments of the mixer's input
  projections, written once for the kernel and the reference.
-/
module

public import proofs.«01_k».proof.Proof.MixRows

@[expose] public section

noncomputable section

namespace Cert.MixIn

open Idealize.ShloMosaic Idealize.ShloMosaic.TcCoe Idealize.ShloMosaic.Tactic Cert.MixIdeal

variable (x : FVec Ideal S32x2048x1024 .f32) (md : FVec Ideal S32x6x1024 .f32) (g : FVec Ideal S1x1024 .f32)
  (w : FVec Ideal S1x1024x2048 .f32) (cs sn : FVec Ideal S2048x32 .f32)

/-- The modulated row of a token: its normalised row times the gains, shifted. -/
def tokenRow (b : Fin 32) (s : Fin 2048) : Fin 1024 → EReal :=
  OutMlp.modulated (fun k => x (ix3 b s k)) (fun k => g (ix2 0 k) * (1 + md (ix3 b 1 k))) (fun k => md (ix3 b 0 k))

/-- Column `n` of the token's projection. -/
def tokenProj (b : Fin 32) (s : Fin 2048) (n : Fin 2048) : EReal := ∑ j : Fin 1024, tokenRow x md g b s j * w (ix3 0 j n)

/-- The token's rotated and scaled query, column `n`. -/
def tokenQuery (b : Fin 32) (s : Fin 2048) (n : Fin 512) : EReal :=
  ropeRow (fun k => tokenProj x md g w b s ⟨k.val, by omega⟩) (fun d => cs (ix2 s d)) (fun d => sn (ix2 s d)) n
    * Ideal.ofBits .f32 0x3E38AA3B#32

/-- The token's rotated key, column `n`. -/
def tokenKey (b : Fin 32) (s : Fin 2048) (n : Fin 512) : EReal :=
  ropeRow (fun k => tokenProj x md g w b s ⟨512 + k.val, by omega⟩) (fun d => cs (ix2 s d)) (fun d => sn (ix2 s d)) n

/-- The token's value, column `n`: each head's 64 columns, a one and 15 zeros. -/
def tokenValue (b : Fin 32) (s : Fin 2048) (n : Fin 640) : EReal :=
  valueRow (fun k => tokenProj x md g w b s ⟨1024 + k.val, by omega⟩) n

end Cert.MixIn

end
-- ==== Proof.MixArray.lean ====
/-
  What a grid point's blocks hold in terms of the arguments, and so the three outputs' entries at that point: the token
  functions of the arguments at the point's batch and half.
-/
module

public import proofs.«01_k».proof.Proof.MixSpec
public import proofs.«01_k».proof.Proof.Gen.MixIdeal.Frame
public import Idealize.ShloMosaic.Lib.Claim

@[expose] public section

set_option maxRecDepth 16384

noncomputable section

namespace Cert.MixIn

open Idealize.ShloMosaic Idealize.ShloMosaic.TcCoe Idealize.ShloMosaic.Tactic Cert.MixIdeal Cert.MixIdeal.Gen

variable (m : (ℓ : Loc nD τ sig) → Buf (Elt Ideal) ℓ)

/-- The arguments. -/
abbrev argX (c : Dev nD) : FVec Ideal S32x2048x1024 .f32 := m ((c : Thread nD τ).loc main_arg0)
abbrev argMod (c : Dev nD) : FVec Ideal S32x6x1024 .f32 := m ((c : Thread nD τ).loc main_arg1)
abbrev argG (c : Dev nD) : FVec Ideal S1x1024 .f32 := m ((c : Thread nD τ).loc main_arg2)
abbrev argW (c : Dev nD) : FVec Ideal S1x1024x2048 .f32 := m ((c : Thread nD τ).loc main_arg3)
abbrev argCos (c : Dev nD) : FVec Ideal S2048x32 .f32 := m ((c : Thread nD τ).loc main_arg4)
abbrev argSin (c : Dev nD) : FVec Ideal S2048x32 .f32 := m ((c : Thread nD τ).loc main_arg5)

/-- The windows' block indices at point `t`, batch `t / 2` and half `t % 2`. -/
theorem idx_facts : ∀ t : Fin grid0.N, win0_0.index t = ![t.val / 2, t.val % 2, 0] ∧ win0_1.index t = ![t.val / 2, 0, 0]
    ∧ win0_2.index t = ![0, 0] ∧ win0_3.index t = ![0, 0] ∧ win0_4.index t = ![0, 0]
    ∧ win0_5.index t = ![0, 0] ∧ win0_7.index t = ![t.val % 2, 0] ∧ win0_8.index t = ![t.val % 2, 0]
    ∧ win0_9.index t = ![t.val % 2, 0] ∧ win0_10.index t = ![0, t.val % 2] ∧ win0_11.index t = ![0, t.val % 2]
    ∧ win0_12.index t = ![t.val / 2, t.val % 2, 0, 0] ∧ win0_13.index t = ![t.val / 2, t.val % 2, 0]
    ∧ win0_14.index t = ![t.val / 2, t.val % 2, 0, 0] := by
  decide +kernel

theorem N_eq : cfg0.N = 64 := by decide +kernel

/-- The cosine table for the keys: the cosines, four times side by side. -/
theorem cosn_apply (c : Dev nD) (s : Fin 2048) (l : Fin 128) :
    V m c main_v4 (ix2 s l) = argCos m c (ix2 s ⟨l.val % 32, by omega⟩) := by
  trans if h : l.val % 64 < 32 then argCos m c (ix2 s ⟨l.val % 64, h⟩) else argCos m c (ix2 s ⟨l.val % 64 - 32, by omega⟩)
  · entry_read
    pointwise
  · split_ifs with h
    · exact congrArg (fun d => argCos m c (ix2 s d)) (Fin.ext (by show l.val % 64 = l.val % 32; omega))
    · exact congrArg (fun d => argCos m c (ix2 s d)) (Fin.ext (by show l.val % 64 - 32 = l.val % 32; omega))

/-- The first sine table: the negated sines at each head's first half, zero at its second. -/
theorem sina_apply (c : Dev nD) (s : Fin 2048) (l : Fin 128) :
    V m c main_v9 (ix2 s l) = if l.val % 64 < 32 then -argSin m c (ix2 s ⟨l.val % 32, by omega⟩) else (0 : EReal) := by
  trans if h : l.val % 64 < 32 then -argSin m c (ix2 s ⟨l.val % 64, h⟩) else (0 : EReal)
  · entry_read
    pointwise
  · split_ifs with h
    · exact congrArg (fun d => -argSin m c (ix2 s d)) (Fin.ext (by show l.val % 64 = l.val % 32; omega))
    · rfl

/-- The second: zero at the first half, the sines at the second. -/
theorem sinb_apply (c : Dev nD) (s : Fin 2048) (l : Fin 128) :
    V m c main_v13 (ix2 s l) = if l.val % 64 < 32 then (0 : EReal) else argSin m c (ix2 s ⟨l.val % 32, by omega⟩) := by
  trans if h : l.val % 64 < 32 then (0 : EReal) else argSin m c (ix2 s ⟨l.val % 64 - 32, by omega⟩)
  · entry_read
    pointwise
  · split_ifs with h
    · rfl
    · exact congrArg (fun d => argSin m c (ix2 s d)) (Fin.ext (by show l.val % 64 - 32 = l.val % 32; omega))

/-- Window 0's block at a point: the rows of `x` at the point's batch and half. -/
theorem iblk0_apply (c : Dev nD) (t : Fin cfg0.N) (b : Fin 32) (h : Fin 2) (hb : t.val / 2 = b.val) (hh : t.val % 2 = h.val)
    (r k : Fin 1024) :
    iblk m c 0 t (ix3 0 r k) = argX m c (ix3 b ⟨h.val * 1024 + r.val, by omega⟩ k) := by
  have e := (idx_facts t).1
  unfold iblk
  rw [View.read_apply]
  show V m c main_arg0 _ = _
  trans V m c main_arg0 (ix3 b ⟨h.val * 1024 + r.val, by omega⟩ k)
  · congr 1
    funext q
    apply Fin.ext
    fin_cases q
    · show win0_0.index t 0 * 1 + 1 * 0 = b.val; rw [e, ← hb]; simp
    · show win0_0.index t 1 * 1024 + 1 * r.val = h.val * 1024 + r.val; rw [e, ← hh]; simp
    · show win0_0.index t 2 * 1024 + 1 * k.val = k.val; rw [e]; simp
  · rw [V_main_arg0]

/-- Window 1's: the batch's modulation rows. -/
theorem iblk1_apply (c : Dev nD) (t : Fin cfg0.N) (b : Fin 32) (hb : t.val / 2 = b.val) (r : Fin 6) (k : Fin 1024) :
    iblk m c 1 t (ix3 0 r k) = argMod m c (ix3 b r k) := by
  have e := (idx_facts t).2.1
  unfold iblk
  rw [View.read_apply]
  show V m c main_arg1 _ = _
  trans V m c main_arg1 (ix3 b r k)
  · congr 1
    funext q
    apply Fin.ext
    fin_cases q
    · show win0_1.index t 0 * 1 + 1 * 0 = b.val; rw [e, ← hb]; simp
    · show win0_1.index t 1 * 6 + 1 * r.val = r.val; rw [e]; simp
    · show win0_1.index t 2 * 1024 + 1 * k.val = k.val; rw [e]; simp
  · rw [V_main_arg1]

/-- Window 2's: the gain, whole at every point. -/
theorem iblk2_apply (c : Dev nD) (t : Fin cfg0.N) (k : Fin 1024) :
    iblk m c 2 t (ix2 0 k) = argG m c (ix2 0 k) := by
  have e := (idx_facts t).2.2.1
  unfold iblk
  rw [View.read_apply]
  show V m c main_v25 _ = _
  trans V m c main_v25 (ix2 0 k)
  · congr 1
    funext q
    apply Fin.ext
    fin_cases q
    · show win0_2.index t 0 * 1 + 1 * 0 = 0; rw [e]; simp
    · show win0_2.index t 1 * 1024 + 1 * k.val = k.val; rw [e]; simp
  · entry_read
    pointwise

/-- Window 3's: the query columns of the weights, transposed. -/
theorem iblk3_apply (c : Dev nD) (t : Fin cfg0.N) (n : Fin 512) (k : Fin 1024) :
    iblk m c 3 t (ix2 n k) = argW m c (ix3 0 k ⟨n.val, by omega⟩) := by
  have e := (idx_facts t).2.2.2.1
  unfold iblk
  rw [View.read_apply]
  show V m c main_v19 _ = _
  trans V m c main_v19 (ix2 n k)
  · congr 1
    funext q
    apply Fin.ext
    fin_cases q
    · show win0_3.index t 0 * 512 + 1 * n.val = n.val; rw [e]; simp
    · show win0_3.index t 1 * 1024 + 1 * k.val = k.val; rw [e]; simp
  · entry_read
    pointwise

/-- Window 4's: the key columns. -/
theorem iblk4_apply (c : Dev nD) (t : Fin cfg0.N) (k : Fin 1024) (n : Fin 512) :
    iblk m c 4 t (ix2 k n) = argW m c (ix3 0 k ⟨512 + n.val, by omega⟩) := by
  have e := (idx_facts t).2.2.2.2.1
  unfold iblk
  rw [View.read_apply]
  show V m c main_v20 _ = _
  trans V m c main_v20 (ix2 k n)
  · congr 1
    funext q
    apply Fin.ext
    fin_cases q
    · show win0_4.index t 0 * 1024 + 1 * k.val = k.val; rw [e]; simp
    · show win0_4.index t 1 * 512 + 1 * n.val = n.val; rw [e]; simp
  · entry_read
    pointwise

/-- Window 5's: the value columns, transposed. -/
theorem iblk5_apply (c : Dev nD) (t : Fin cfg0.N) (n : Fin 512) (k : Fin 1024) :
    iblk m c 5 t (ix2 n k) = argW m c (ix3 0 k ⟨1024 + n.val, by omega⟩) := by
  have e := (idx_facts t).2.2.2.2.2.1
  unfold iblk
  rw [View.read_apply]
  show V m c main_v22 _ = _
  trans V m c main_v22 (ix2 n k)
  · congr 1
    funext q
    apply Fin.ext
    fin_cases q
    · show win0_5.index t 0 * 512 + 1 * n.val = n.val; rw [e]; simp
    · show win0_5.index t 1 * 1024 + 1 * k.val = k.val; rw [e]; simp
  · entry_read
    pointwise

/-- Window 7's: the half's rows of the cosine table. -/
theorem iblk7_apply (c : Dev nD) (t : Fin cfg0.N) (h : Fin 2) (hh : t.val % 2 = h.val) (r : Fin 1024) (l : Fin 128) :
    iblk m c 7 t (ix2 r l) = argCos m c (ix2 ⟨h.val * 1024 + r.val, by omega⟩ ⟨l.val % 32, by omega⟩) := by
  have e := (idx_facts t).2.2.2.2.2.2.1
  unfold iblk
  rw [View.read_apply]
  show V m c main_v4 _ = _
  trans V m c main_v4 (ix2 ⟨h.val * 1024 + r.val, by omega⟩ l)
  · congr 1
    funext q
    apply Fin.ext
    fin_cases q
    · show win0_7.index t 0 * 1024 + 1 * r.val = h.val * 1024 + r.val; rw [e, ← hh]; simp
    · show win0_7.index t 1 * 128 + 1 * l.val = l.val; rw [e]; simp
  · exact cosn_apply m c _ l

/-- Window 8's: of the first sine table. -/
theorem iblk8_apply (c : Dev nD) (t : Fin cfg0.N) (h : Fin 2) (hh : t.val % 2 = h.val) (r : Fin 1024) (l : Fin 128) :
    iblk m c 8 t (ix2 r l) = if l.val % 64 < 32 then -argSin m c (ix2 ⟨h.val * 1024 + r.val, by omega⟩ ⟨l.val % 32, by omega⟩) else (0 : EReal) := by
  have e := (idx_facts t).2.2.2.2.2.2.2.1
  unfold iblk
  rw [View.read_apply]
  show V m c main_v9 _ = _
  trans V m c main_v9 (ix2 ⟨h.val * 1024 + r.val, by omega⟩ l)
  · congr 1
    funext q
    apply Fin.ext
    fin_cases q
    · show win0_8.index t 0 * 1024 + 1 * r.val = h.val * 1024 + r.val; rw [e, ← hh]; simp
    · show win0_8.index t 1 * 128 + 1 * l.val = l.val; rw [e]; simp
  · exact sina_apply m c _ l

/-- Window 9's: of the second. -/
theorem iblk9_apply (c : Dev nD) (t : Fin cfg0.N) (h : Fin 2) (hh : t.val % 2 = h.val) (r : Fin 1024) (l : Fin 128) :
    iblk m c 9 t (ix2 r l) = if l.val % 64 < 32 then (0 : EReal) else argSin m c (ix2 ⟨h.val * 1024 + r.val, by omega⟩ ⟨l.val % 32, by omega⟩) := by
  have e := (idx_facts t).2.2.2.2.2.2.2.2.1
  unfold iblk
  rw [View.read_apply]
  show V m c main_v13 _ = _
  trans V m c main_v13 (ix2 ⟨h.val * 1024 + r.val, by omega⟩ l)
  · congr 1
    funext q
    apply Fin.ext
    fin_cases q
    · show win0_9.index t 0 * 1024 + 1 * r.val = h.val * 1024 + r.val; rw [e, ← hh]; simp
    · show win0_9.index t 1 * 128 + 1 * l.val = l.val; rw [e]; simp
  · exact sinb_apply m c _ l

/-- Window 10's: the half's columns of the transposed cosines. -/
theorem iblk10_apply (c : Dev nD) (t : Fin cfg0.N) (h : Fin 2) (hh : t.val % 2 = h.val) (d : Fin 32) (r : Fin 1024) :
    iblk m c 10 t (ix2 d r) = argCos m c (ix2 ⟨h.val * 1024 + r.val, by omega⟩ d) := by
  have e := (idx_facts t).2.2.2.2.2.2.2.2.2.1
  unfold iblk
  rw [View.read_apply]
  show V m c main_v14 _ = _
  trans V m c main_v14 (ix2 d ⟨h.val * 1024 + r.val, by omega⟩)
  · congr 1
    funext q
    apply Fin.ext
    fin_cases q
    · show win0_10.index t 0 * 32 + 1 * d.val = d.val; rw [e]; simp
    · show win0_10.index t 1 * 1024 + 1 * r.val = h.val * 1024 + r.val; rw [e, ← hh]; simp
  · entry_read
    pointwise

/-- Window 11's: of the transposed sines. -/
theorem iblk11_apply (c : Dev nD) (t : Fin cfg0.N) (h : Fin 2) (hh : t.val % 2 = h.val) (d : Fin 32) (r : Fin 1024) :
    iblk m c 11 t (ix2 d r) = argSin m c (ix2 ⟨h.val * 1024 + r.val, by omega⟩ d) := by
  have e := (idx_facts t).2.2.2.2.2.2.2.2.2.2.1
  unfold iblk
  rw [View.read_apply]
  show V m c main_v15 _ = _
  trans V m c main_v15 (ix2 d ⟨h.val * 1024 + r.val, by omega⟩)
  · congr 1
    funext q
    apply Fin.ext
    fin_cases q
    · show win0_11.index t 0 * 32 + 1 * d.val = d.val; rw [e]; simp
    · show win0_11.index t 1 * 1024 + 1 * r.val = h.val * 1024 + r.val; rw [e, ← hh]; simp
  · entry_read
    pointwise

/-- Rotating by the 128-wide tables is rotating each head: the terms whose table entry is zero vanish. -/
theorem keyCol_eq (p : Fin 512 → EReal) (cs sn : Fin 32 → EReal) (n : Fin 512) :
    keyCol p (fun l => cs ⟨l.val % 32, by omega⟩) (fun l => if l.val % 64 < 32 then -sn ⟨l.val % 32, by omega⟩ else (0 : EReal))
      (fun l => if l.val % 64 < 32 then (0 : EReal) else sn ⟨l.val % 32, by omega⟩) n = ropeRow p cs sn n := by
  unfold keyCol ropeRow
  have h64 : n.val % 128 % 64 = n.val % 64 := by omega
  simp only [h64]
  split_ifs with h
  · rw [mul_zero, add_zero, mul_neg, sub_eq_add_neg]
    have e1 : n.val % 128 % 32 = n.val % 64 := by omega
    have e2 : n.val / 128 * 128 + (n.val % 128 + 32) % 128 = n.val + 32 := by omega
    simp only [e1, e2]
  · rw [mul_zero, add_zero]
    have e1 : n.val % 128 % 32 = n.val % 64 - 32 := by omega
    have e2 : n.val / 128 * 128 + (n.val % 128 + 96) % 128 = n.val - 32 := by omega
    simp only [e1, e2]

section

variable (c : Dev nD) (t : Fin cfg0.N) (b : Fin 32) (h : Fin 2) (hb : t.val / 2 = b.val) (hh : t.val % 2 = h.val)
include hb hh

/-- The modulated row at a point. -/
theorem hidRow_eq (r : Fin 1024) : hidRow (iblk m c 0 t) (iblk m c 1 t) (iblk m c 2 t) r
    = tokenRow (argX m c) (argMod m c) (argG m c) b ⟨h.val * 1024 + r.val, by omega⟩ := by
  unfold hidRow tokenRow
  simp only [iblk0_apply m c t b h hb hh, iblk1_apply m c t b hb, iblk2_apply]

theorem query_point (r : Fin 1024) (n : Fin 512) :
    queryAt (iblk m c 0 t) (iblk m c 1 t) (iblk m c 2 t) (iblk m c 3 t) (iblk m c 10 t) (iblk m c 11 t) r n
      = tokenQuery (argX m c) (argMod m c) (argG m c) (argW m c) (argCos m c) (argSin m c) b ⟨h.val * 1024 + r.val, by omega⟩ n := by
  unfold queryAt tokenQuery
  rw [hidRow_eq m c t b h hb hh]
  unfold rowProj tokenProj
  simp only [iblk3_apply, iblk10_apply m c t h hh, iblk11_apply m c t h hh, mul_comm (argW m c _)]

theorem key_point (r : Fin 1024) (n : Fin 512) :
    keyAt (iblk m c 0 t) (iblk m c 1 t) (iblk m c 2 t) (iblk m c 4 t) (iblk m c 7 t) (iblk m c 8 t) (iblk m c 9 t) r n
      = tokenKey (argX m c) (argMod m c) (argG m c) (argW m c) (argCos m c) (argSin m c) b ⟨h.val * 1024 + r.val, by omega⟩ n := by
  unfold keyAt tokenKey
  rw [hidRow_eq m c t b h hb hh, ← keyCol_eq]
  unfold colProj tokenProj
  simp only [iblk4_apply, iblk7_apply m c t h hh, iblk8_apply m c t h hh, iblk9_apply m c t h hh]

theorem value_point (r : Fin 1024) (n : Fin 640) :
    valueAt (iblk m c 0 t) (iblk m c 1 t) (iblk m c 2 t) (iblk m c 5 t) r n
      = tokenValue (argX m c) (argMod m c) (argG m c) (argW m c) b ⟨h.val * 1024 + r.val, by omega⟩ n := by
  unfold valueAt tokenValue
  rw [hidRow_eq m c t b h hb hh]
  unfold rowProj tokenProj
  simp only [iblk5_apply, mul_comm (argW m c _)]

end

end Cert.MixIn

end
-- ==== Proof.MixRun.lean ====
/-
  The whole body of the mixer's input projections, run once at symbolic staging buffers: what its stores leave in every
  output and in the scratch that holds the pooled columns, as writes over what the buffers held.
-/
module

public import proofs.«01_k».proof.Proof.Gen.MixIdeal.Frame
public import proofs.«01_k».proof.Proof.Gen.MixIdeal.Skeleton

@[expose] public section

set_option maxRecDepth 16384

noncomputable section

namespace Cert.MixIn

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (arg2 : Memref sig .tc .vmem S1x1024x1024 .f32) (harg2 : arg2.IsWhole)
variable (arg3 : Memref sig .tc .vmem S1x6x1024 .f32) (harg3 : arg3.IsWhole)
variable (arg4 : Memref sig .tc .vmem S1x1024 .f32) (harg4 : arg4.IsWhole)
variable (arg5 : Memref sig .tc .vmem S512x1024 .bf16) (harg5 : arg5.IsWhole)
variable (arg6 : Memref sig .tc .vmem S1024x512 .bf16) (harg6 : arg6.IsWhole)
variable (arg7 : Memref sig .tc .vmem S512x1024 .bf16) (harg7 : arg7.IsWhole)
variable (arg8 : Memref sig .tc .vmem S1024x512 .bf16) (harg8 : arg8.IsWhole)
variable (arg9 : Memref sig .tc .vmem S1024x128 .f32) (harg9 : arg9.IsWhole)
variable (arg10 : Memref sig .tc .vmem S1024x128 .f32) (harg10 : arg10.IsWhole)
variable (arg11 : Memref sig .tc .vmem S1024x128 .f32) (harg11 : arg11.IsWhole)
variable (arg12 : Memref sig .tc .vmem S32x1024 .f32) (harg12 : arg12.IsWhole)
variable (arg13 : Memref sig .tc .vmem S32x1024 .f32) (harg13 : arg13.IsWhole)
variable (arg14 : Memref sig .tc .vmem S1x4x512x256 .bf16) (harg14 : arg14.IsWhole)
variable (arg15 : Memref sig .tc .vmem S1x1024x512 .bf16) (harg15 : arg15.IsWhole)
variable (arg16 : Memref sig .tc .vmem S1x4x640x256 .bf16) (harg16 : arg16.IsWhole)
variable (arg17 : Memref sig .tc .vmem S1x1024x512 .bf16) (harg17 : arg17.IsWhole)
variable (arg18 : Memref sig .tc .vmem S1x8x512 .f32) (harg18 : arg18.IsWhole)
variable (arg19 : Memref sig .tc .vmem S272x512 .f32) (harg19 : arg19.IsWhole)

set_option maxHeartbeats 4000000 in
/-- What the body leaves: the pieces stored into four outputs, last first, and the contents of the fifth (the block means,
    one row per group at an offset that depends on the grid point) and of the scratch, with the proof that the body runs to
    them. -/
noncomputable def run (c : Dev nD) (i : grid0.Coords)
    (x0 : Vec F S1x1024x1024 .f32) (x1 : Vec F S1x6x1024 .f32) (x2 : Vec F S1x1024 .f32) (x3 : Vec F S512x1024 .bf16) (x4 : Vec F S1024x512 .bf16) (x5 : Vec F S512x1024 .bf16) (x6 : Vec F S1024x512 .bf16) (x7 : Vec F S1024x128 .f32) (x8 : Vec F S1024x128 .f32) (x9 : Vec F S1024x128 .f32) (x10 : Vec F S32x1024 .f32) (x11 : Vec F S32x1024 .f32) (x16 : Vec F S1x8x512 .f32) (x17 : Vec F S272x512 .f32) :
    Σ' (L12 : List (View.Piece (Elt F) S1x4x512x256 .bf16)), Σ' (L13 : List (View.Piece (Elt F) S1x1024x512 .bf16)), Σ' (L14 : List (View.Piece (Elt F) S1x4x640x256 .bf16)), Σ' (L15 : List (View.Piece (Elt F) S1x1024x512 .bf16)),
    Σ' (G16 : Buf (Elt F) (arg18.view.loc (c : Thread nD τ))), { G17 : Buf (Elt F) (arg19.view.loc (c : Thread nD τ)) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare x16 ∗ owns (c : Thread nD τ) arg19 fullShare x17
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (arg18.view.loc (c : Thread nD τ) ↦[arg18.view.set]{fullShare} G16) ∗ (arg19.view.loc (c : Thread nD τ) ↦[arg19.view.set]{fullShare} G17)) -∗ K ⟨⟩))
          ⊢ wp frame (wpE (defs₀ (F := F)) Variants.none c none) E (cc0_mix_in i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, fun E K => ?run⟩
  case run =>
    simp only [cc0_mix_in_eq_skeleton]; unfold cc0_mix_in_skel
    simp only [k0_part36_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%f16, %hf16, H16⟩, ⟨%f17, %hf17, H17⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg18.eq_unread hf16; obtain rfl := harg19.eq_unread hf17
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    isplitl [H14]; · iexists _; iexact H14
    isplitl [H15]; · iexists _; iexact H15
    isplitl [H16]; · iexact H16
    iexact H17

end Cert.MixIn

end
-- ==== Proof.MixForms.lean ====
/-
  The body's stored values, named: the generator splits the same rows' computation differently at each of the four groups of
  256 tokens; every split is the first group's.
-/
module

public import proofs.«01_k».proof.Proof.MixRows

@[expose] public section

set_option maxRecDepth 16384

noncomputable section

namespace Cert.MixIn

open Idealize.ShloMosaic Idealize.ShloMosaic.TcCoe Idealize.ShloMosaic.Tactic Cert.MixIdeal Cert.MixIdeal.Gen

/-! The modulated rows and the products. -/

theorem rows_2 (g : Vec Ideal S1x1024 .f32) (s z : Vec Ideal S1x1x1024 .f32) (x : Vec Ideal S1x256x1024 .f32) :
    k0_pay9 (k0_pay4 g s) (k0_pay6 x) (k0_pay7 x) k0_pay8 z = k0_pay5 g s x z := rfl
theorem rows_3 (g : Vec Ideal S1x1024 .f32) (s z : Vec Ideal S1x1x1024 .f32) (x : Vec Ideal S1x256x1024 .f32) :
    k0_pay10 (k0_pay4 g s) x z = k0_pay5 g s x z := rfl
theorem rows_4 (g : Vec Ideal S1x1024 .f32) (s z : Vec Ideal S1x1x1024 .f32) (x : Vec Ideal S1x256x1024 .f32) :
    k0_pay13 (k0_pay4 g s) (k0_pay11 x) (k0_pay12 x) z = k0_pay5 g s x z := rfl

variable (h : FVec Ideal S256x1024 .bf16) (w : Vec Ideal S1024x512 .bf16) (v : Vec Ideal S512x1024 .bf16)

theorem keys_2 : k0_pay63 h w = k0_pay14 h w := rfl
theorem keys_3 : k0_pay132 h w = k0_pay14 h w := rfl
theorem keys_4 : k0_pay196 h w = k0_pay14 h w := rfl
theorem queries_2 : k0_pay65 h v = k0_pay16 h v := rfl
theorem queries_3 : k0_pay134 h v = k0_pay16 h v := rfl
theorem queries_4 : k0_pay198 h v = k0_pay16 h v := rfl

/-! The stored keys. -/

variable (k : FVec Ideal S256x512 .f32) (a b c : Vec Ideal S256x128 .f32)

/-- What is stored for 128 columns of `k` from `C` on, under the tables' loaded rows. -/
abbrev keyOut (C : ℕ) (hC : S256x512.Slices ![0, C] S256x128) : FVec Ideal S1x256x128 .bf16 :=
  shapeCast S1x256x128 (truncf .bf16 (keyChunk (extractStridedSlice S256x128 ![0, C] k hC)
    (shapeCast S256x128 a shapeCasts_S256x128_S256x128) (shapeCast S256x128 b shapeCasts_S256x128_S256x128)
    (shapeCast S256x128 c shapeCasts_S256x128_S256x128)) bitsLt_bf16_f32) shapeCasts_S256x128_S1x256x128

theorem key_4_3 : k0_pay211 k (k0_pay200 a) (k0_pay201 b) (k0_pay202 c) = keyOut k a b c 384 (by decide) := rfl
theorem key_4_2 : k0_pay209 (k0_pay208 k a b c) = keyOut k a b c 256 (by decide) := rfl
theorem key_4_1 : k0_pay206 k a b c = keyOut k a b c 128 (by decide) := rfl
theorem key_4_0 : k0_pay204 k a b c = keyOut k a b c 0 (by decide) := rfl
theorem key_3_3 : k0_pay147 k (k0_pay136 a) (k0_pay137 b) (k0_pay138 c) = keyOut k a b c 384 (by decide) := rfl
theorem key_3_2 : k0_pay145 k (k0_pay136 a) (k0_pay137 b) (k0_pay138 c) = keyOut k a b c 256 (by decide) := rfl
theorem key_3_1 : k0_pay143 k (k0_pay136 a) (k0_pay137 b) (k0_pay138 c) = keyOut k a b c 128 (by decide) := rfl
theorem key_3_0 : k0_pay141 (k0_pay140 h w a b c) = keyOut (k0_pay14 h w) a b c 0 (by decide) := rfl
theorem key_2_3 : k0_pay79 k (k0_pay67 a) (k0_pay68 b) (k0_pay69 c) = keyOut k a b c 384 (by decide) := rfl
theorem key_2_2 : k0_pay77 (k0_pay68 b) (k0_pay69 c) (k0_pay74 k) (k0_pay75 k a) 96#32 = keyOut k a b c 256 (by decide) := rfl
theorem key_2_1 : k0_pay73 k a b c = keyOut k a b c 128 (by decide) := rfl
theorem key_2_0 : k0_pay71 k a b c = keyOut k a b c 0 (by decide) := rfl
theorem key_1_3 : k0_pay33 (k0_pay30 k (k0_pay18 a) (k0_pay19 b)) (k0_pay31 k (k0_pay20 c)) = keyOut k a b c 384 (by decide) := rfl
theorem key_1_2 : k0_pay28 k (k0_pay18 a) (k0_pay19 b) (k0_pay20 c) = keyOut k a b c 256 (by decide) := rfl
theorem key_1_1 : k0_pay26 k (k0_pay18 a) (k0_pay19 b) (k0_pay20 c) = keyOut k a b c 128 (by decide) := rfl
theorem key_1_0 : k0_pay24 (k0_pay19 b) (k0_pay20 c) (k0_pay21 h w) (k0_pay22 h w a) 96#32 = keyOut (k0_pay14 h w) a b c 0 (by decide) := rfl

end Cert.MixIn

namespace Cert.MixIn

open Idealize.ShloMosaic Idealize.ShloMosaic.TcCoe Idealize.ShloMosaic.Tactic Cert.MixIdeal Cert.MixIdeal.Gen

/-! The stored queries. -/

variable (q : FVec Ideal S512x256 .f32) (a b : Vec Ideal S32x256 .f32)

/-- What is stored for the queries `q`, under the tables' loaded columns. -/
abbrev queryOut : FVec Ideal S1x1x512x256 .bf16 :=
  queryBlock q (shapeCast S32x256 a shapeCasts_S32x256_S32x256) (shapeCast S32x256 b shapeCasts_S32x256_S32x256)

theorem query_4 : k0_pay220 (k0_pay219 q (k0_pay213 a) (k0_pay214 b) (k0_pay215 q) (k0_pay217 q a b) (k0_pay218 q a)) (FloatOps.ofBits FTy.f32 1043900987#32)
    = queryOut q a b := rfl
theorem query_3 : k0_pay168 q (k0_pay150 a) (k0_pay151 b) (k0_pay154 q a b) (k0_pay155 q a b) (k0_pay158 q a b) (k0_pay159 q a b) (k0_pay162 q a b) (k0_pay163 q a b) (k0_pay164 q) (k0_pay166 q a b) (k0_pay167 q a)
    = queryOut q a b := rfl
theorem query_2 : k0_pay111 q (k0_pay81 a) (k0_pay82 b) (k0_pay85 q a b) (k0_pay86 q a b) (k0_pay89 q a b) (k0_pay90 q a b) (k0_pay93 q a b) (k0_pay94 q a b) (k0_pay97 q a b) (k0_pay98 q a b) (k0_pay101 q a b) (k0_pay102 q a b) (k0_pay105 q a b) (k0_pay106 q a b) (k0_pay107 q) (k0_pay109 q a b) (k0_pay110 q a)
    = queryOut q a b := rfl
theorem query_1 : k0_pay47 q (k0_pay35 a) (k0_pay36 b) (k0_pay39 q a b) (k0_pay40 q a b) (k0_pay43 q a b) (k0_pay44 q a b) (k0_pay45 q) (k0_pay46 q)
    = queryOut q a b := rfl

end Cert.MixIn

end
-- ==== Proof.MixBlock.lean ====
/-
  The point's output blocks: every piece that the body stores into the query, key and value blocks is the block's function
  at the piece's place, and the pieces cover the block.
-/
module

public import proofs.«01_k».proof.Proof.MixRun
public import proofs.«01_k».proof.Proof.MixForms

@[expose] public section

set_option maxRecDepth 16384

noncomputable section

namespace Cert.MixIn

open Idealize.ShloMosaic Idealize.ShloMosaic.TcCoe Idealize.ShloMosaic.Tactic Cert.MixIdeal Cert.MixIdeal.Gen

theorem inX_of {R : ℕ} (h : R + 256 ≤ 1024) : InX R := fun a => by
  fin_cases a
  · exact Nat.le_refl 1
  · exact h
  · exact Nat.le_refl 1024
theorem inT_of {R : ℕ} (h : R + 256 ≤ 1024) : InT R := fun a => by
  fin_cases a
  · exact h
  · exact Nat.le_refl 128
theorem inC_of {R : ℕ} (h : R + 256 ≤ 1024) : InC R := fun a => by
  fin_cases a
  · exact Nat.le_refl 32
  · exact h
theorem slicesC_of {C : ℕ} (h : C + 128 ≤ 512) : S256x512.Slices ![0, C] S256x128 := ⟨rfl, fun a => by
  fin_cases a
  · exact Nat.le_refl 256
  · exact h⟩

/-- A piece of the key block. -/
theorem key_emb (x0 : Vec Ideal S1x1024x1024 .f32) (x1 : Vec Ideal S1x6x1024 .f32) (x2 : Vec Ideal S1x1024 .f32)
    (wk : Vec Ideal S1024x512 .bf16) (cn sa sb : Vec Ideal S1024x128 .f32) {R C : ℕ} {p : FVec Ideal S1x256x128 .bf16}
    (inb : ∀ a : Fin 3, (![0, R, C] : Fin 3 → ℕ) a + (![1, 256, 128] : Fin 3 → ℕ) a ≤ S1x1024x512.size a)
    (h : R + 256 ≤ 1024) (h' : C + 128 ≤ 512) (hC : C % 128 = 0)
    (hp : p = keyPart x0 x1 x2 wk cn sa sb R C (inX_of h) (inT_of h) (inT_of h) (inT_of h) (slicesC_of h'))
    (x : S1x256x128.Idx) :
    p x = (fun y : S1x1024x512.Idx => keyAt x0 x1 x2 wk cn sa sb (y 1) (y 2))
      ((Rect.unit (s := S1x1024x512) ![0, R, C] ![1, 256, 128] inb).emb x) := by
  subst hp
  obtain ⟨u, r, l, rfl⟩ : ∃ (u : Fin 1) (r : Fin 256) (l : Fin 128), x = ix3 u r l := ⟨x 0, x 1, x 2, eq_ix3 x⟩
  obtain rfl : u = 0 := Subsingleton.elim _ _
  rw [keyPart_apply (hC' := hC) (hr := by omega) (hl := by omega)]
  refine congrArg₂ (keyAt x0 x1 x2 wk cn sa sb) (Fin.ext ?_) (Fin.ext ?_)
  · show R + r.val = R + 1 * r.val; omega
  · show C + l.val = C + 1 * l.val; omega

/-- A piece of the query block. -/
theorem query_emb (x0 : Vec Ideal S1x1024x1024 .f32) (x1 : Vec Ideal S1x6x1024 .f32) (x2 : Vec Ideal S1x1024 .f32)
    (wq : Vec Ideal S512x1024 .bf16) (ct st : Vec Ideal S32x1024 .f32) {g : ℕ} {p : FVec Ideal S1x1x512x256 .bf16}
    (inb : ∀ a : Fin 4, (![0, g, 0, 0] : Fin 4 → ℕ) a + (![1, 1, 512, 256] : Fin 4 → ℕ) a ≤ S1x4x512x256.size a)
    (R : ℕ) (hg : R = 256 * g) (h : R + 256 ≤ 1024)
    (hp : p = queryBlock (k0_pay16 (hid x0 x1 x2 R (inX_of h)) (wrow wq)) (tabT ct R (inC_of h)) (tabT st R (inC_of h)))
    (x : S1x1x512x256.Idx) :
    p x = (fun y : S1x4x512x256.Idx => queryAt x0 x1 x2 wq ct st ⟨256 * (y 1).val + (y 3).val, by
        have h1 : (y 1).val < 4 := (y 1).isLt; have h3 : (y 3).val < 256 := (y 3).isLt; omega⟩ (y 2))
      ((Rect.unit (s := S1x4x512x256) ![0, g, 0, 0] ![1, 1, 512, 256] inb).emb x) := by
  subst hp
  obtain ⟨u, u', n, r, rfl⟩ : ∃ (u u' : Fin 1) (n : Fin 512) (r : Fin 256), x = ix4 u u' n r := ⟨x 0, x 1, x 2, x 3, eq_ix4 x⟩
  obtain rfl : u = 0 := Subsingleton.elim _ _
  obtain rfl : u' = 0 := Subsingleton.elim _ _
  rw [queryBlock_eq (hr := by omega)]
  refine congrArg₂ (queryAt x0 x1 x2 wq ct st) (Fin.ext ?_) (Fin.ext ?_)
  · show R + r.val = 256 * (g + 1 * 0) + (0 + 1 * r.val); omega
  · show n.val = 0 + 1 * n.val; omega

/-- A piece of the value block. -/
theorem value_emb (x0 : Vec Ideal S1x1024x1024 .f32) (x1 : Vec Ideal S1x6x1024 .f32) (x2 : Vec Ideal S1x1024 .f32)
    (wv : Vec Ideal S512x1024 .bf16) {g : ℕ} {p : FVec Ideal S1x1x640x256 .bf16}
    (inb : ∀ a : Fin 4, (![0, g, 0, 0] : Fin 4 → ℕ) a + (![1, 1, 640, 256] : Fin 4 → ℕ) a ≤ S1x4x640x256.size a)
    (R : ℕ) (hg : R = 256 * g) (h : R + 256 ≤ 1024)
    (hp : p = valueBlock (k0_pay16 (hid x0 x1 x2 R (inX_of h)) (wrow wv)))
    (x : S1x1x640x256.Idx) :
    p x = (fun y : S1x4x640x256.Idx => valueAt x0 x1 x2 wv ⟨256 * (y 1).val + (y 3).val, by
        have h1 : (y 1).val < 4 := (y 1).isLt; have h3 : (y 3).val < 256 := (y 3).isLt; omega⟩ (y 2))
      ((Rect.unit (s := S1x4x640x256) ![0, g, 0, 0] ![1, 1, 640, 256] inb).emb x) := by
  subst hp
  obtain ⟨u, u', n, r, rfl⟩ : ∃ (u u' : Fin 1) (n : Fin 640) (r : Fin 256), x = ix4 u u' n r := ⟨x 0, x 1, x 2, x 3, eq_ix4 x⟩
  obtain rfl : u = 0 := Subsingleton.elim _ _
  obtain rfl : u' = 0 := Subsingleton.elim _ _
  rw [valueBlock_eq (hr := by omega)]
  refine congrArg₂ (valueAt x0 x1 x2 wv) (Fin.ext ?_) (Fin.ext ?_)
  · show R + r.val = 256 * (g + 1 * 0) + (0 + 1 * r.val); omega
  · show n.val = 0 + 1 * n.val; omega

variable (arg2 : Memref sig .tc .vmem S1x1024x1024 .f32) (harg2 : arg2.IsWhole)
variable (arg3 : Memref sig .tc .vmem S1x6x1024 .f32) (harg3 : arg3.IsWhole)
variable (arg4 : Memref sig .tc .vmem S1x1024 .f32) (harg4 : arg4.IsWhole)
variable (arg5 : Memref sig .tc .vmem S512x1024 .bf16) (harg5 : arg5.IsWhole)
variable (arg6 : Memref sig .tc .vmem S1024x512 .bf16) (harg6 : arg6.IsWhole)
variable (arg7 : Memref sig .tc .vmem S512x1024 .bf16) (harg7 : arg7.IsWhole)
variable (arg8 : Memref sig .tc .vmem S1024x512 .bf16) (harg8 : arg8.IsWhole)
variable (arg9 : Memref sig .tc .vmem S1024x128 .f32) (harg9 : arg9.IsWhole)
variable (arg10 : Memref sig .tc .vmem S1024x128 .f32) (harg10 : arg10.IsWhole)
variable (arg11 : Memref sig .tc .vmem S1024x128 .f32) (harg11 : arg11.IsWhole)
variable (arg12 : Memref sig .tc .vmem S32x1024 .f32) (harg12 : arg12.IsWhole)
variable (arg13 : Memref sig .tc .vmem S32x1024 .f32) (harg13 : arg13.IsWhole)
variable (arg14 : Memref sig .tc .vmem S1x4x512x256 .bf16) (harg14 : arg14.IsWhole)
variable (arg15 : Memref sig .tc .vmem S1x1024x512 .bf16) (harg15 : arg15.IsWhole)
variable (arg16 : Memref sig .tc .vmem S1x4x640x256 .bf16) (harg16 : arg16.IsWhole)
variable (arg17 : Memref sig .tc .vmem S1x1024x512 .bf16) (harg17 : arg17.IsWhole)
variable (arg18 : Memref sig .tc .vmem S1x8x512 .f32) (harg18 : arg18.IsWhole)
variable (arg19 : Memref sig .tc .vmem S272x512 .f32) (harg19 : arg19.IsWhole)
variable (c : Dev nD) (i : grid0.Coords) (x0 : Vec Ideal S1x1024x1024 .f32) (x1 : Vec Ideal S1x6x1024 .f32) (x2 : Vec Ideal S1x1024 .f32) (x3 : Vec Ideal S512x1024 .bf16) (x4 : Vec Ideal S1024x512 .bf16) (x5 : Vec Ideal S512x1024 .bf16) (x6 : Vec Ideal S1024x512 .bf16) (x7 : Vec Ideal S1024x128 .f32) (x8 : Vec Ideal S1024x128 .f32) (x9 : Vec Ideal S1024x128 .f32) (x10 : Vec Ideal S32x1024 .f32) (x11 : Vec Ideal S32x1024 .f32) (x16 : Vec Ideal S1x8x512 .f32) (x17 : Vec Ideal S272x512 .f32)

set_option maxHeartbeats 4000000 in
theorem key_pieces : ∀ p ∈ (run (F := Ideal) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c i x0 x1 x2 x3 x4 x5 x6 x7 x8 x9 x10 x11 x16 x17).2.1, ∀ x : p.1.shape.Idx, p.2 x = (fun y : S1x1024x512.Idx => keyAt x0 x1 x2 x4 x7 x8 x9 (y 1) (y 2)) (p.1.emb x) := by
  intro p hp x
  unfold run at hp
  dsimp only at hp
  simp only [List.mem_cons, List.not_mem_nil, or_false] at hp
  rcases hp with rfl | rfl | rfl | rfl | rfl | rfl | rfl | rfl | rfl | rfl | rfl | rfl | rfl | rfl | rfl | rfl
  all_goals
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread]
    dsimp only at x
    simp only [rows_2, rows_3, rows_4, keys_2, keys_3, keys_4, key_4_3, key_4_2, key_4_1, key_4_0, key_3_3, key_3_2, key_3_1, key_3_0, key_2_3, key_2_2, key_2_1, key_2_0, key_1_3, key_1_2, key_1_1, key_1_0]
    refine key_emb x0 x1 x2 x4 x7 x8 x9 _ ?_ ?_ ?_ ?_ x
    · decide
    · decide
    · decide
    · rfl

set_option maxHeartbeats 4000000 in
theorem query_pieces : ∀ p ∈ (run (F := Ideal) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c i x0 x1 x2 x3 x4 x5 x6 x7 x8 x9 x10 x11 x16 x17).1, ∀ x : p.1.shape.Idx, p.2 x = (fun y : S1x4x512x256.Idx => queryAt x0 x1 x2 x3 x10 x11 ⟨256 * (y 1).val + (y 3).val, by
        have h1 : (y 1).val < 4 := (y 1).isLt; have h3 : (y 3).val < 256 := (y 3).isLt; omega⟩ (y 2)) (p.1.emb x) := by
  intro p hp x
  unfold run at hp
  dsimp only at hp
  simp only [List.mem_cons, List.not_mem_nil, or_false] at hp
  rcases hp with rfl | rfl | rfl | rfl
  all_goals
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread]
    dsimp only at x
    simp only [rows_2, rows_3, rows_4, queries_2, queries_3, queries_4, query_4, query_3, query_2, query_1]
    refine query_emb x0 x1 x2 x3 x10 x11 _ _ rfl ?_ ?_ x
    · decide
    · rfl

set_option maxHeartbeats 4000000 in
theorem value_pieces : ∀ p ∈ (run (F := Ideal) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c i x0 x1 x2 x3 x4 x5 x6 x7 x8 x9 x10 x11 x16 x17).2.2.1, ∀ x : p.1.shape.Idx, p.2 x = (fun y : S1x4x640x256.Idx => valueAt x0 x1 x2 x5 ⟨256 * (y 1).val + (y 3).val, by
        have h1 : (y 1).val < 4 := (y 1).isLt; have h3 : (y 3).val < 256 := (y 3).isLt; omega⟩ (y 2)) (p.1.emb x) := by
  intro p hp x
  unfold run at hp
  dsimp only at hp
  simp only [List.mem_cons, List.not_mem_nil, or_false] at hp
  rcases hp with rfl | rfl | rfl | rfl
  all_goals
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread]
    dsimp only at x
    try simp only [rows_2, rows_3, rows_4]
    refine value_emb x0 x1 x2 x5 _ _ rfl ?_ ?_ x
    · decide
    · rfl

end Cert.MixIn

end
-- ==== Proof.MixRead.lean ====
/-
  The point's output blocks, read: after the body the query, key and value buffers hold the rotated queries, the rotated keys
  and the values of the point's rows.
-/
module

public import proofs.«01_k».proof.Proof.MixBlock

@[expose] public section

set_option maxRecDepth 16384

noncomputable section

namespace Cert.MixIn

open Idealize.ShloMosaic Idealize.ShloMosaic.TcCoe Idealize.ShloMosaic.Tactic Cert.MixIdeal Cert.MixIdeal.Gen

variable (arg2 : Memref sig .tc .vmem S1x1024x1024 .f32) (harg2 : arg2.IsWhole)
variable (arg3 : Memref sig .tc .vmem S1x6x1024 .f32) (harg3 : arg3.IsWhole)
variable (arg4 : Memref sig .tc .vmem S1x1024 .f32) (harg4 : arg4.IsWhole)
variable (arg5 : Memref sig .tc .vmem S512x1024 .bf16) (harg5 : arg5.IsWhole)
variable (arg6 : Memref sig .tc .vmem S1024x512 .bf16) (harg6 : arg6.IsWhole)
variable (arg7 : Memref sig .tc .vmem S512x1024 .bf16) (harg7 : arg7.IsWhole)
variable (arg8 : Memref sig .tc .vmem S1024x512 .bf16) (harg8 : arg8.IsWhole)
variable (arg9 : Memref sig .tc .vmem S1024x128 .f32) (harg9 : arg9.IsWhole)
variable (arg10 : Memref sig .tc .vmem S1024x128 .f32) (harg10 : arg10.IsWhole)
variable (arg11 : Memref sig .tc .vmem S1024x128 .f32) (harg11 : arg11.IsWhole)
variable (arg12 : Memref sig .tc .vmem S32x1024 .f32) (harg12 : arg12.IsWhole)
variable (arg13 : Memref sig .tc .vmem S32x1024 .f32) (harg13 : arg13.IsWhole)
variable (arg14 : Memref sig .tc .vmem S1x4x512x256 .bf16) (harg14 : arg14.IsWhole)
variable (arg15 : Memref sig .tc .vmem S1x1024x512 .bf16) (harg15 : arg15.IsWhole)
variable (arg16 : Memref sig .tc .vmem S1x4x640x256 .bf16) (harg16 : arg16.IsWhole)
variable (arg17 : Memref sig .tc .vmem S1x1024x512 .bf16) (harg17 : arg17.IsWhole)
variable (arg18 : Memref sig .tc .vmem S1x8x512 .f32) (harg18 : arg18.IsWhole)
variable (arg19 : Memref sig .tc .vmem S272x512 .f32) (harg19 : arg19.IsWhole)
variable (c : Dev nD) (i : grid0.Coords) (x0 : Vec Ideal S1x1024x1024 .f32) (x1 : Vec Ideal S1x6x1024 .f32) (x2 : Vec Ideal S1x1024 .f32) (x3 : Vec Ideal S512x1024 .bf16) (x4 : Vec Ideal S1024x512 .bf16) (x5 : Vec Ideal S512x1024 .bf16) (x6 : Vec Ideal S1024x512 .bf16) (x7 : Vec Ideal S1024x128 .f32) (x8 : Vec Ideal S1024x128 .f32) (x9 : Vec Ideal S1024x128 .f32) (x10 : Vec Ideal S32x1024 .f32) (x11 : Vec Ideal S32x1024 .f32) (x16 : Vec Ideal S1x8x512 .f32) (x17 : Vec Ideal S272x512 .f32)

/-- The pieces cover the block. -/
theorem query_cover (y : S1x4x512x256.Idx) : ∃ p ∈ (run (F := Ideal) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c i x0 x1 x2 x3 x4 x5 x6 x7 x8 x9 x10 x11 x16 x17).1, y ∈ p.1.set :=
  View.cover_of_tiledL (run (F := Ideal) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c i x0 x1 x2 x3 x4 x5 x6 x7 x8 x9 x10 x11 x16 x17).1 S1x1x512x256.size (by sl_kernel_rfl) y

/-- What the buffer holds after the stores, whatever it held before. -/
theorem query_read (f : Buf (Elt Ideal) (arg14.view.loc (c : Thread nD τ))) :
    arg14.view.read (Elt Ideal) (arg14.view.writes (Elt Ideal) f (run (F := Ideal) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c i x0 x1 x2 x3 x4 x5 x6 x7 x8 x9 x10 x11 x16 x17).1) =
      (fun y : S1x4x512x256.Idx => queryAt x0 x1 x2 x3 x10 x11 ⟨256 * (y 1).val + (y 3).val, by
        have h1 : (y 1).val < 4 := (y 1).isLt; have h3 : (y 3).val < 256 := (y 3).isLt; omega⟩ (y 2)) := by
  refine (View.read_writes_eq_canon _ _ _ (query_cover arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c i x0 x1 x2 x3 x4 x5 x6 x7 x8 x9 x10 x11 x16 x17)).trans (funext fun y => ?_)
  exact View.canon_apply_of_pieces (fun y : S1x4x512x256.Idx => queryAt x0 x1 x2 x3 x10 x11 ⟨256 * (y 1).val + (y 3).val, by
        have h1 : (y 1).val < 4 := (y 1).isLt; have h3 : (y 3).val < 256 := (y 3).isLt; omega⟩ (y 2)) _ (query_pieces arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c i x0 x1 x2 x3 x4 x5 x6 x7 x8 x9 x10 x11 x16 x17) y (query_cover arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c i x0 x1 x2 x3 x4 x5 x6 x7 x8 x9 x10 x11 x16 x17 y)

/-- The pieces cover the block. -/
theorem key_cover (y : S1x1024x512.Idx) : ∃ p ∈ (run (F := Ideal) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c i x0 x1 x2 x3 x4 x5 x6 x7 x8 x9 x10 x11 x16 x17).2.1, y ∈ p.1.set :=
  View.cover_of_tiledL (run (F := Ideal) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c i x0 x1 x2 x3 x4 x5 x6 x7 x8 x9 x10 x11 x16 x17).2.1 S1x256x128.size (by sl_kernel_rfl) y

/-- What the buffer holds after the stores, whatever it held before. -/
theorem key_read (f : Buf (Elt Ideal) (arg15.view.loc (c : Thread nD τ))) :
    arg15.view.read (Elt Ideal) (arg15.view.writes (Elt Ideal) f (run (F := Ideal) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c i x0 x1 x2 x3 x4 x5 x6 x7 x8 x9 x10 x11 x16 x17).2.1) =
      (fun y : S1x1024x512.Idx => keyAt x0 x1 x2 x4 x7 x8 x9 (y 1) (y 2)) := by
  refine (View.read_writes_eq_canon _ _ _ (key_cover arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c i x0 x1 x2 x3 x4 x5 x6 x7 x8 x9 x10 x11 x16 x17)).trans (funext fun y => ?_)
  exact View.canon_apply_of_pieces (fun y : S1x1024x512.Idx => keyAt x0 x1 x2 x4 x7 x8 x9 (y 1) (y 2)) _ (key_pieces arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c i x0 x1 x2 x3 x4 x5 x6 x7 x8 x9 x10 x11 x16 x17) y (key_cover arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c i x0 x1 x2 x3 x4 x5 x6 x7 x8 x9 x10 x11 x16 x17 y)

/-- The pieces cover the block. -/
theorem value_cover (y : S1x4x640x256.Idx) : ∃ p ∈ (run (F := Ideal) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c i x0 x1 x2 x3 x4 x5 x6 x7 x8 x9 x10 x11 x16 x17).2.2.1, y ∈ p.1.set :=
  View.cover_of_tiledL (run (F := Ideal) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c i x0 x1 x2 x3 x4 x5 x6 x7 x8 x9 x10 x11 x16 x17).2.2.1 S1x1x640x256.size (by sl_kernel_rfl) y

/-- What the buffer holds after the stores, whatever it held before. -/
theorem value_read (f : Buf (Elt Ideal) (arg16.view.loc (c : Thread nD τ))) :
    arg16.view.read (Elt Ideal) (arg16.view.writes (Elt Ideal) f (run (F := Ideal) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c i x0 x1 x2 x3 x4 x5 x6 x7 x8 x9 x10 x11 x16 x17).2.2.1) =
      (fun y : S1x4x640x256.Idx => valueAt x0 x1 x2 x5 ⟨256 * (y 1).val + (y 3).val, by
        have h1 : (y 1).val < 4 := (y 1).isLt; have h3 : (y 3).val < 256 := (y 3).isLt; omega⟩ (y 2)) := by
  refine (View.read_writes_eq_canon _ _ _ (value_cover arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c i x0 x1 x2 x3 x4 x5 x6 x7 x8 x9 x10 x11 x16 x17)).trans (funext fun y => ?_)
  exact View.canon_apply_of_pieces (fun y : S1x4x640x256.Idx => valueAt x0 x1 x2 x5 ⟨256 * (y 1).val + (y 3).val, by
        have h1 : (y 1).val < 4 := (y 1).isLt; have h3 : (y 3).val < 256 := (y 3).isLt; omega⟩ (y 2)) _ (value_pieces arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c i x0 x1 x2 x3 x4 x5 x6 x7 x8 x9 x10 x11 x16 x17) y (value_cover arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c i x0 x1 x2 x3 x4 x5 x6 x7 x8 x9 x10 x11 x16 x17 y)

end Cert.MixIn

end
-- ==== Proof.MixPool.lean ====
/-
  The pooled rows that one group of 128 tokens stores: the body doubles a trailing sum over 144 rows of the scratch by adding
  it to itself rotated, divides by how many tokens the window has seen, and subtracts the token. Read at an index as a function
  of the rows in order.
-/
module

public import Idealize.ShloMosaic.Lib.KernelVsHost
public import Idealize.ShloMosaic.Lib.Pointwise
public import proofs.«01_k».proof.Proof.Gen.MixIdeal.Skeleton

@[expose] public section

set_option maxRecDepth 16384

noncomputable section

namespace Cert.MixIn

open Idealize.ShloMosaic Idealize.ShloMosaic.TcCoe Idealize.ShloMosaic.Tactic Cert.MixIdeal Cert.MixIdeal.Gen

/-- One doubling of the trailing sums: each row plus the one `s` above it. -/
abbrev step (s : BitVec 32) (e : FVec Ideal S144x128 .f32) : FVec Ideal S144x128 .f32 :=
  addf e (dynamicRotate 0 s none e rotates_S144x128_d0)

/-- What is stored for 128 tokens: `z` holds the trailing sums, `e` the rows, `b + o` is the first token's position. -/
abbrev poolOut (b o w : BitVec 32) (z e : FVec Ideal S144x128 .f32) : FVec Ideal S1x128x128 .bf16 :=
  shapeCast S1x128x128 (truncf .bf16 (subf (divf (extractStridedSlice S128x128 ![16, 0] z slices_S144x128_o16_0_S128x128)
    (broadcastTo S128x128 (sitofp .f32 (minsi (addi (addi (broadcast S128x1 (Scalar.addi b o)) (iota .tc S128x1 32 [0] iota_S128x1_d0_w32))
      (broadcast S128x1 1#32)) (broadcast S128x1 w))) broadcasts_S128x1_S128x128))
    (extractStridedSlice S128x128 ![16, 0] e slices_S144x128_o16_0_S128x128)) bitsLt_bf16_f32) shapeCasts_S128x128_S1x128x128

/-! The generator splits the same computation differently at each of the 32 stores. -/

variable (b : BitVec 32) (e : Vec Ideal S144x128 .f32)

theorem pool_0_0 : k0_pay52 (k0_pay51 b e) = poolOut b 0#32 2#32 (step 1#32 e) e := rfl
theorem pool_0_128 : k0_pay53 (k0_pay50 b) e = poolOut b 0#32 4#32 (step 2#32 (step 1#32 e)) e := rfl
theorem pool_0_256 : k0_pay54 (k0_pay50 b) e = poolOut b 0#32 8#32 (step 4#32 (step 2#32 (step 1#32 e))) e := rfl
theorem pool_0_384 : k0_pay55 (k0_pay50 b) e = poolOut b 0#32 16#32 (step 8#32 (step 4#32 (step 2#32 (step 1#32 e)))) e := rfl
theorem pool_128_0 : k0_pay57 b e = poolOut b 128#32 2#32 (step 1#32 e) e := rfl
theorem pool_128_128 : k0_pay58 (k0_pay56 b) e = poolOut b 128#32 4#32 (step 2#32 (step 1#32 e)) e := rfl
theorem pool_128_256 : k0_pay59 (k0_pay56 b) e = poolOut b 128#32 8#32 (step 4#32 (step 2#32 (step 1#32 e))) e := rfl
theorem pool_128_384 : k0_pay61 (k0_pay56 b) e (k0_pay60 e) = poolOut b 128#32 16#32 (step 8#32 (step 4#32 (step 2#32 (step 1#32 e)))) e := rfl
theorem pool_256_0 : k0_pay116 (iota .tc S128x1 32 [0] iota_S128x1_d0_w32) (k0_pay114 b) e = poolOut b 0#32 2#32 (step 1#32 e) e := rfl
theorem pool_256_128 : k0_pay117 (iota .tc S128x1 32 [0] iota_S128x1_d0_w32) (k0_pay114 b) e = poolOut b 0#32 4#32 (step 2#32 (step 1#32 e)) e := rfl
theorem pool_256_256 : k0_pay120 (k0_pay115 (iota .tc S128x1 32 [0] iota_S128x1_d0_w32) (k0_pay114 b)) (k0_pay118 e) (k0_pay119 e) = poolOut b 0#32 8#32 (step 4#32 (step 2#32 (step 1#32 e))) e := rfl
theorem pool_256_384 : k0_pay121 (k0_pay115 (iota .tc S128x1 32 [0] iota_S128x1_d0_w32) (k0_pay114 b)) e = poolOut b 0#32 16#32 (step 8#32 (step 4#32 (step 2#32 (step 1#32 e)))) e := rfl
theorem pool_384_0 : k0_pay124 (k0_pay122 b) (1#32) e = poolOut b 128#32 2#32 (step 1#32 e) e := rfl
theorem pool_384_128 : k0_pay125 (k0_pay122 b) (1#32) e = poolOut b 128#32 4#32 (step 2#32 (step 1#32 e)) e := rfl
theorem pool_384_256 : k0_pay129 (k0_pay123 (k0_pay122 b) 1#32) (k0_pay126 e) (k0_pay127 e) (k0_pay128 e) = poolOut b 128#32 8#32 (step 4#32 (step 2#32 (step 1#32 e))) e := rfl
theorem pool_384_384 : k0_pay130 (k0_pay123 (k0_pay122 b) 1#32) e = poolOut b 128#32 16#32 (step 8#32 (step 4#32 (step 2#32 (step 1#32 e)))) e := rfl
theorem pool_512_0 : k0_pay177 b e = poolOut b 0#32 2#32 (step 1#32 e) e := rfl
theorem pool_512_128 : k0_pay181 (k0_pay176 b) (k0_pay178 e) (k0_pay179 e) (k0_pay180 e) = poolOut b 0#32 4#32 (step 2#32 (step 1#32 e)) e := rfl
theorem pool_512_256 : k0_pay182 (k0_pay176 b) e = poolOut b 0#32 8#32 (step 4#32 (step 2#32 (step 1#32 e))) e := rfl
theorem pool_512_384 : k0_pay185 (k0_pay176 b) (k0_pay183 e) (k0_pay184 e) (8#32) = poolOut b 0#32 16#32 (step 8#32 (step 4#32 (step 2#32 (step 1#32 e)))) e := rfl
theorem pool_640_0 : k0_pay187 b e = poolOut b 128#32 2#32 (step 1#32 e) e := rfl
theorem pool_640_128 : k0_pay190 (k0_pay186 b) (k0_pay188 e) (k0_pay189 e) (4#32) = poolOut b 128#32 4#32 (step 2#32 (step 1#32 e)) e := rfl
theorem pool_640_256 : k0_pay191 (k0_pay186 b) e = poolOut b 128#32 8#32 (step 4#32 (step 2#32 (step 1#32 e))) e := rfl
theorem pool_640_384 : k0_pay194 (k0_pay186 b) (k0_pay192 e) (k0_pay193 e) = poolOut b 128#32 16#32 (step 8#32 (step 4#32 (step 2#32 (step 1#32 e)))) e := rfl
theorem pool_768_0 : k0_pay226 (k0_pay223 b) (k0_pay224 e) (k0_pay225 e) (2#32) = poolOut b 0#32 2#32 (step 1#32 e) e := rfl
theorem pool_768_128 : k0_pay227 (k0_pay223 b) e = poolOut b 0#32 4#32 (step 2#32 (step 1#32 e)) e := rfl
theorem pool_768_256 : k0_pay231 (k0_pay228 e) (k0_pay229 e) (k0_pay230 (k0_pay223 b)) = poolOut b 0#32 8#32 (step 4#32 (step 2#32 (step 1#32 e))) e := rfl
theorem pool_768_384 : k0_pay232 (k0_pay223 b) e = poolOut b 0#32 16#32 (step 8#32 (step 4#32 (step 2#32 (step 1#32 e)))) e := rfl
theorem pool_896_0 : k0_pay237 (k0_pay234 e) (k0_pay235 e) (k0_pay236 b) = poolOut b 128#32 2#32 (step 1#32 e) e := rfl
theorem pool_896_128 : k0_pay238 (k0_pay233 b) e = poolOut b 128#32 4#32 (step 2#32 (step 1#32 e)) e := rfl
theorem pool_896_256 : k0_pay240 (k0_pay239 (k0_pay233 b) e) = poolOut b 128#32 8#32 (step 4#32 (step 2#32 (step 1#32 e))) e := rfl
theorem pool_896_384 : k0_pay1 (k0_pay233 b) (k0_pay241 e) (k0_pay242 e) (16#32) = poolOut b 128#32 16#32 (step 8#32 (step 4#32 (step 2#32 (step 1#32 e)))) e := rfl

/-! The rows that the scratch is filled with: the projection to the pooled columns. -/

variable (h : FVec Ideal S256x1024 .bf16) (w : Vec Ideal S1024x512 .bf16)

theorem fill_2 : k0_pay113 (k0_pay64 h w) = k0_pay49 (k0_pay15 h w) := rfl
theorem fill_3 : k0_pay175 (k0_pay133 h w) = k0_pay49 (k0_pay15 h w) := rfl
theorem fill_4 : k0_pay222 (k0_pay197 h w) = k0_pay49 (k0_pay15 h w) := rfl

variable (v : Vec Ideal S16x512 .f32)

theorem carry_2 : k0_pay131 v = k0_pay62 v := rfl
theorem carry_3 : k0_pay195 v = k0_pay62 v := rfl
theorem carry_4 : k0_pay2 v = k0_pay62 v := rfl

theorem carry_apply (a : Fin 16) (j : Fin 512) : k0_pay62 v (ix2 a j) = v (ix2 a j) := by pointwise [k0_pay62]
theorem zero_apply (a : Fin 16) (j : Fin 512) : k0_pay3 (F := Ideal) (ix2 a j) = 0 := by pointwise [k0_pay3]

/-! Read at an index. -/

/-- Trailing sums of `2 ^ k` entries, by doubling. -/
def dbl : ℕ → (ℕ → EReal) → ℕ → EReal
  | 0, S, n => S n
  | k + 1, S, n => dbl k S n + dbl k S (n - 2 ^ k)

/-- How many tokens a window of `w` has seen at the `p`-th token. -/
def seen (p w : ℕ) : EReal := FloatOps.sitofp (F := Ideal) FTy.f32 (IntOp.minsi (BitVec.ofNat 32 p) (BitVec.ofNat 32 w))

/-- The pooled value at the `p`-th token, row `n` of `S`. -/
def pooled (k p : ℕ) (S : ℕ → EReal) (n : ℕ) : EReal := Ideal.div (dbl k S n) (seen p (2 ^ k)) - S n

theorem step_apply (s : ℕ) (hs : s < 144) (f : ℕ → EReal) (lo : ℕ) (c : Fin 128)
    (he : ∀ a : Fin 144, lo ≤ a.val → e (ix2 a c) = f a.val) (a : Fin 144) (ha : lo + s ≤ a.val) :
    step (BitVec.ofNat 32 s) e (ix2 a c) = f a.val + f (a.val - s) := by
  have h1 : dynamicRotate 0 (BitVec.ofNat 32 s) none e rotates_S144x128_d0 (ix2 a c) = e (ix2 ⟨a.val - s, by omega⟩ c) :=
    dynamicRotate_apply _ _ _ _ _ _ fun q => by
      fin_cases q
      · show a.val - s = (a.val + 144 - (BitVec.ofNat 32 s).toNat % 144) % 144
        rw [BitVec.toNat_ofNat]; omega
      · rfl
  show e (ix2 a c) + dynamicRotate 0 (BitVec.ofNat 32 s) none e rotates_S144x128_d0 (ix2 a c) = _
  rw [h1, he a (by omega), he ⟨a.val - s, by omega⟩ (by show lo ≤ a.val - s; omega)]

/-- A further doubling. -/
theorem step_dbl (S : ℕ → EReal) (R k lo : ℕ) (hk : 2 ^ k < 144) (c : Fin 128)
    (he : ∀ a : Fin 144, lo ≤ a.val → e (ix2 a c) = dbl k S (R + a.val)) (a : Fin 144) (ha : lo + 2 ^ k ≤ a.val) :
    step (BitVec.ofNat 32 (2 ^ k)) e (ix2 a c) = dbl (k + 1) S (R + a.val) := by
  rw [step_apply e (2 ^ k) hk (fun n => dbl k S (R + n)) lo c he a ha]
  show _ = dbl k S (R + a.val) + dbl k S (R + a.val - 2 ^ k)
  rw [Nat.add_sub_assoc (by omega)]

theorem poolOut_apply (b o w : BitVec 32) (z e : FVec Ideal S144x128 .f32) (t c : Fin 128) :
    poolOut b o w z e (ix3 0 t c) = Ideal.div (z (ix2 ⟨16 + t.val, by omega⟩ c))
      (FloatOps.sitofp (F := Ideal) FTy.f32 (IntOp.minsi (b + o + BitVec.ofNat 32 t.val + 1#32) w)) - e (ix2 ⟨16 + t.val, by omega⟩ c) := by
  unfold poolOut
  pointwise
  rfl

variable (S : ℕ → EReal) (R p : ℕ) (o : ℕ) (c : Fin 128)
  (he : ∀ a : Fin 144, e (ix2 a c) = S (R + a.val)) (hb : b + BitVec.ofNat 32 o = BitVec.ofNat 32 p) (t : Fin 128)

include he hb

theorem poolOut_of (z : FVec Ideal S144x128 .f32) (k : ℕ) (hz : z (ix2 ⟨16 + t.val, by omega⟩ c) = dbl k S (R + (16 + t.val))) :
    poolOut b (BitVec.ofNat 32 o) (BitVec.ofNat 32 (2 ^ k)) z e (ix3 0 t c) = pooled k (p + t.val + 1) S (R + 16 + t.val) := by
  rw [poolOut_apply, pooled, seen, hb, hz, he, ← BitVec.ofNat_add, show (1#32) = BitVec.ofNat 32 1 from rfl, ← BitVec.ofNat_add, Nat.add_assoc R]

theorem pool_1 : poolOut b (BitVec.ofNat 32 o) 2#32 (step 1#32 e) e (ix3 0 t c) = pooled 1 (p + t.val + 1) S (R + 16 + t.val) :=
  poolOut_of b e S R p o c he hb t _ 1 (step_dbl e S R 0 0 (by decide) c (fun a _ => he a) ⟨16 + t.val, by omega⟩ (by show 1 ≤ 16 + t.val; omega))

theorem pool_2 : poolOut b (BitVec.ofNat 32 o) 4#32 (step 2#32 (step 1#32 e)) e (ix3 0 t c) = pooled 2 (p + t.val + 1) S (R + 16 + t.val) :=
  poolOut_of b e S R p o c he hb t _ 2 (step_dbl _ S R 1 1 (by decide) c
    (fun a ha => step_dbl e S R 0 0 (by decide) c (fun a _ => he a) a (by show 1 ≤ a.val; omega)) ⟨16 + t.val, by omega⟩ (by show 1 + 2 ≤ 16 + t.val; omega))

theorem pool_3 : poolOut b (BitVec.ofNat 32 o) 8#32 (step 4#32 (step 2#32 (step 1#32 e))) e (ix3 0 t c) = pooled 3 (p + t.val + 1) S (R + 16 + t.val) :=
  poolOut_of b e S R p o c he hb t _ 3 (step_dbl _ S R 2 3 (by decide) c (fun a ha => step_dbl _ S R 1 1 (by decide) c
    (fun a ha => step_dbl e S R 0 0 (by decide) c (fun a _ => he a) a (by show 1 ≤ a.val; omega)) a (by show 1 + 2 ≤ a.val; omega))
    ⟨16 + t.val, by omega⟩ (by show 3 + 4 ≤ 16 + t.val; omega))

theorem pool_4 : poolOut b (BitVec.ofNat 32 o) 16#32 (step 8#32 (step 4#32 (step 2#32 (step 1#32 e)))) e (ix3 0 t c)
    = pooled 4 (p + t.val + 1) S (R + 16 + t.val) :=
  poolOut_of b e S R p o c he hb t _ 4 (step_dbl _ S R 3 7 (by decide) c (fun a ha => step_dbl _ S R 2 3 (by decide) c (fun a ha => step_dbl _ S R 1 1 (by decide) c
    (fun a ha => step_dbl e S R 0 0 (by decide) c (fun a _ => he a) a (by show 1 ≤ a.val; omega)) a (by show 1 + 2 ≤ a.val; omega)) a (by show 3 + 4 ≤ a.val; omega))
    ⟨16 + t.val, by omega⟩ (by show 7 + 8 ≤ 16 + t.val; omega))

end Cert.MixIn

end
-- ==== Proof.MixRing.lean ====
/-
  The scratch that the pooled rows are read from: 16 rows carried over, then the group's 256 rows. Every window that the body
  reads from it is 144 rows of one stream, the rows carried into the point and then the point's own 1024.
-/
module

public import Idealize.ShloMosaic.Lib.Pipeline.FrameBody
public import proofs.«01_k».proof.Proof.MixPool
public import proofs.«01_k».proof.Proof.MixForms

@[expose] public section

set_option maxRecDepth 16384

noncomputable section

namespace Cert.MixIn

open Idealize.ShloMosaic Idealize.ShloMosaic.TcCoe Idealize.ShloMosaic.Tactic Cert.MixIdeal Cert.MixIdeal.Gen

/-- Row `n` of the stream: 16 carried rows, then the point's. -/
def stream (C : Fin 16 → Fin 512 → EReal) (U : Fin 1024 → Fin 512 → EReal) (n : ℕ) (j : Fin 512) : EReal :=
  if h : n < 16 then C ⟨n, h⟩ j else if h' : n - 16 < 1024 then U ⟨n - 16, h'⟩ j else 0

theorem stream_of (C : Fin 16 → Fin 512 → EReal) (U : Fin 1024 → Fin 512 → EReal) (n : ℕ) (r : Fin 1024) (h : n = 16 + r.val) (j : Fin 512) :
    stream C U n j = U r j := by
  subst h
  unfold stream
  rw [dif_neg (by omega), dif_pos (by omega)]
  exact congrArg (fun q => U q j) (Fin.ext (by show 16 + r.val - 16 = r.val; omega))

/-- The pooled value that a point stores at row `r`, column `j`; `ib` is the point's block. -/
def poolAt (ib : ℕ) (C : Fin 16 → Fin 512 → EReal) (U : Fin 1024 → Fin 512 → EReal) (r : Fin 1024) (j : Fin 512) : EReal :=
  pooled (j.val / 128 + 1) (1024 * ib + r.val + 1) (fun n => stream C U n j) (16 + r.val)

/-- The pooled columns of the point's rows before pooling. -/
def uAt (x0 : Vec Ideal S1x1024x1024 .f32) (x1 : Vec Ideal S1x6x1024 .f32) (x2 : Vec Ideal S1x1024 .f32)
    (wu : Vec Ideal S1024x512 .bf16) (r : Fin 1024) (j : Fin 512) : EReal := colProj (hidRow x0 x1 x2 r) wu j

theorem fill_apply (x0 : Vec Ideal S1x1024x1024 .f32) (x1 : Vec Ideal S1x6x1024 .f32) (x2 : Vec Ideal S1x1024 .f32)
    (wu : Vec Ideal S1024x512 .bf16) (R : ℕ) (hR : InX R) (h : R + 256 ≤ 1024) (r : Fin 256) (j : Fin 512) :
    k0_pay49 (k0_pay15 (hid x0 x1 x2 R hR) (wcol wu)) (ix2 r j) = uAt x0 x1 x2 wu ⟨R + r.val, by omega⟩ j := by
  trans k0_pay15 (hid x0 x1 x2 R hR) (wcol wu) (ix2 r j)
  · generalize k0_pay15 (hid x0 x1 x2 R hR) (wcol wu) = z
    pointwise [k0_pay49]
  · exact (pay14_apply _ _ _ _).trans (congrArg (fun q => colProj q wu j) (funext fun k => hid_apply x0 x1 x2 R hR r k (by omega)))

abbrev ring : Type := List (View.Piece (Elt Ideal) S272x512 .f32)
abbrev fillP (P : FVec Ideal S256x512 .f32) : View.Piece (Elt Ideal) S272x512 .f32 :=
  ⟨Rect.unit ![16, 0] ![256, 512] inb_S272x512_S256x512_16_0, P⟩
abbrev topP (T : FVec Ideal S16x512 .f32) : View.Piece (Elt Ideal) S272x512 .f32 :=
  ⟨Rect.unit ![0, 0] ![16, 512] inb_S272x512_S16x512_0_0, T⟩

theorem fill_emb (r : Fin 256) (j : Fin 512) (n : ℕ) (hn : n < 272) (h : n = 16 + r.val) :
    (ix2 ⟨n, hn⟩ j : S272x512.Idx) = (Rect.unit (s := S272x512) ![16, 0] ![256, 512] inb_S272x512_S256x512_16_0).emb (ix2 r j : S256x512.Idx) := by
  funext a
  apply Fin.ext
  fin_cases a
  · show n = 16 + 1 * r.val; omega
  · show j.val = 0 + 1 * j.val; omega

theorem top_emb (r : Fin 16) (j : Fin 512) (n : ℕ) (hn : n < 272) (h : n = r.val) :
    (ix2 ⟨n, hn⟩ j : S272x512.Idx) = (Rect.unit (s := S272x512) ![0, 0] ![16, 512] inb_S272x512_S16x512_0_0).emb (ix2 r j : S16x512.Idx) := by
  funext a
  apply Fin.ext
  fin_cases a
  · show n = 0 + 1 * r.val; omega
  · show j.val = 0 + 1 * j.val; omega

theorem fill_not_mem (j : Fin 512) (n : ℕ) (hn : n < 272) (h : n < 16) :
    (ix2 ⟨n, hn⟩ j : S272x512.Idx) ∉ (Rect.unit (s := S272x512) ![16, 0] ![256, 512] inb_S272x512_S256x512_16_0).set := by
  rw [Rect.mem_set_unit]
  intro hh
  have h0 : 16 ≤ n := (hh 0).1
  omega

theorem canon_fill (L : ring) (P : FVec Ideal S256x512 .f32) (n : ℕ) (hn : n < 272) (h : 16 ≤ n) (j : Fin 512) :
    View.canon (fillP P :: L) (ix2 ⟨n, hn⟩ j) = P (ix2 ⟨n - 16, by omega⟩ j) := by
  rw [fill_emb ⟨n - 16, by omega⟩ j n hn (by show n = 16 + (n - 16); omega)]
  exact View.canon_cons_emb _ _ _ _

theorem canon_above (L : ring) (P : FVec Ideal S256x512 .f32) (n : ℕ) (hn : n < 272) (h : n < 16) (j : Fin 512) :
    View.canon (fillP P :: L) (ix2 ⟨n, hn⟩ j) = View.canon L (ix2 ⟨n, hn⟩ j) :=
  View.canon_cons_of_not_mem _ _ (fill_not_mem j n hn h)

theorem canon_top (L : ring) (T : FVec Ideal S16x512 .f32) (n : ℕ) (hn : n < 272) (h : n < 16) (j : Fin 512) :
    View.canon (topP T :: L) (ix2 ⟨n, hn⟩ j) = T (ix2 ⟨n, h⟩ j) := by
  rw [top_emb ⟨n, h⟩ j n hn rfl]
  exact View.canon_cons_emb _ _ _ _

abbrev InW (R C : ℕ) : Prop := ∀ a : Fin 2, (![R, C] : Fin 2 → ℕ) a + (![144, 128] : Fin 2 → ℕ) a ≤ S272x512.size a

/-- The rows that a point carries in: zeros at a sequence's first block, what the scratch held otherwise. -/
def carryIn (ib : ℕ) (s : Vec Ideal S272x512 .f32) (n : Fin 16) (j : Fin 512) : EReal :=
  if ib = 0 then 0 else s (ix2 ⟨n.val, by omega⟩ j)

section

variable (v : View sig .tc .vmem S272x512 .f32) (L L' : ring) (C : Fin 16 → Fin 512 → EReal) (U : Fin 1024 → Fin 512 → EReal)
  (P Q : FVec Ideal S256x512 .f32) (G : ℕ) (hG : G + 256 ≤ 1024)
  (hP : ∀ (r : Fin 256) (j : Fin 512), P (ix2 r j) = U ⟨G + r.val, by omega⟩ j)

theorem window_apply (R C0 : ℕ) (hW : InW R C0) (a : Fin 144) (c : Fin 128) (hR : R + a.val < 272) (hC : C0 + c.val < 512) :
    v.readCov L (Rect.unit (s := S272x512) ![R, C0] ![144, 128] hW).toLoadRect (ix2 a c)
      = View.canon L (ix2 ⟨R + a.val, hR⟩ ⟨C0 + c.val, hC⟩) := by
  rw [View.readCov_eq_canon']
  refine congrArg (View.canon L) (funext fun q => Fin.ext ?_)
  fin_cases q
  · show R + 1 * a.val = R + a.val; omega
  · show C0 + 1 * c.val = C0 + c.val; omega

include hP

/-- The last 16 rows, as the next group reads them. -/
theorem tail_apply (a : Fin 16) (j : Fin 512) :
    v.readCov (fillP P :: L) (Rect.unit (s := S272x512) ![256, 0] ![16, 512] inb_S272x512_S16x512_256_0).toLoadRect (ix2 a j)
      = U ⟨G + (240 + a.val), by omega⟩ j := by
  rw [View.readCov_eq_canon']
  trans View.canon (fillP P :: L) (ix2 ⟨256 + a.val, by omega⟩ j)
  · refine congrArg (View.canon (fillP P :: L)) (funext fun q => Fin.ext ?_)
    fin_cases q
    · show 256 + 1 * a.val = 256 + a.val; omega
    · show 0 + 1 * j.val = j.val; omega
  · rw [canon_fill L P _ (by omega) (by omega), hP]
    exact congrArg (fun q => U q j) (Fin.ext (by show G + (256 + a.val - 16) = G + (240 + a.val); omega))

/-- The lower window of a group. -/
theorem ring_hi (C0 : ℕ) (hC0 : C0 + 128 ≤ 512) (hW : InW 128 C0) (a : Fin 144) (c : Fin 128) :
    v.readCov (fillP P :: L) (Rect.unit (s := S272x512) ![128, C0] ![144, 128] hW).toLoadRect (ix2 a c)
      = stream C U (G + 128 + a.val) ⟨C0 + c.val, by omega⟩ := by
  rw [window_apply v _ 128 C0 hW a c (by omega) (by omega), canon_fill L P _ (by omega) (by omega), hP,
    stream_of C U (G + 128 + a.val) ⟨G + (128 + a.val - 16), by omega⟩ (by show G + 128 + a.val = 16 + (G + (128 + a.val - 16)); omega)]

/-- The upper window of a group after the first. -/
theorem ring_lo (G' : ℕ) (hG' : G = G' + 256) (hQ : ∀ (r : Fin 256) (j : Fin 512), Q (ix2 r j) = U ⟨G' + r.val, by omega⟩ j)
    (C0 : ℕ) (hC0 : C0 + 128 ≤ 512) (hW : InW 0 C0) (a : Fin 144) (c : Fin 128) :
    v.readCov (fillP P :: topP (k0_pay62 (v.readCov (fillP Q :: L') (Rect.unit (s := S272x512) ![256, 0] ![16, 512] inb_S272x512_S16x512_256_0).toLoadRect)) :: L)
        (Rect.unit (s := S272x512) ![0, C0] ![144, 128] hW).toLoadRect (ix2 a c)
      = stream C U (G + 0 + a.val) ⟨C0 + c.val, by omega⟩ := by
  rw [window_apply v _ 0 C0 hW a c (by omega) (by omega)]
  by_cases h : a.val < 16
  · rw [canon_above _ P _ (by omega) (by omega), canon_top _ _ _ (by omega) (by omega), carry_apply,
      tail_apply v L' U Q G' (by omega) hQ,
      stream_of C U (G + 0 + a.val) ⟨G' + (240 + (0 + a.val)), by omega⟩ (by show G + 0 + a.val = 16 + (G' + (240 + (0 + a.val))); omega)]
  · rw [canon_fill _ P _ (by omega) (by omega), hP,
      stream_of C U (G + 0 + a.val) ⟨G + (0 + a.val - 16), by omega⟩ (by show G + 0 + a.val = 16 + (G + (0 + a.val - 16)); omega)]

end

/-- The body's test for the first block. -/
theorem first_iff (ib : Fin 2) : Scalar.cmpi CmpIPredicate.ne (Scalar.extui (Scalar.cmpi CmpIPredicate.eq (BitVec.ofNat 32 ib.val) 0#32) : BitVec 32) 0#32 = 1#1
    ↔ ib.val = 0 := by
  revert ib; decide

/-- The upper window of the first group. -/
theorem ring_0 (U : Fin 1024 → Fin 512 → EReal) (P : FVec Ideal S256x512 .f32) (arg : Memref sig .tc .vmem S272x512 .f32) (harg : arg.IsWhole) (ib : Fin 2) (s : Vec Ideal S272x512 .f32)
    (hP0 : ∀ (r : Fin 256) (j : Fin 512), P (ix2 r j) = U ⟨0 + r.val, by omega⟩ j) (C0 : ℕ) (hC0 : C0 + 128 ≤ 512) (hW : InW 0 C0) (a : Fin 144) (c : Fin 128) :
    View.ld (View.read (Elt Ideal) arg.view (arg.view.writes (Elt Ideal)
        (if h : Scalar.cmpi CmpIPredicate.ne (Scalar.extui (Scalar.cmpi CmpIPredicate.eq (BitVec.ofNat 32 ib.val) 0#32) : BitVec 32) 0#32 = 1#1
          then arg.view.writes (Elt Ideal) (harg.unread s) [topP k0_pay3] else harg.unread s) [fillP P]))
        (Rect.unit (s := S272x512) ![0, C0] ![144, 128] hW) (ix2 a c)
      = stream (carryIn ib.val s) U (0 + 0 + a.val) ⟨C0 + c.val, by omega⟩ := by
  generalize hf : (if h : Scalar.cmpi CmpIPredicate.ne (Scalar.extui (Scalar.cmpi CmpIPredicate.eq (BitVec.ofNat 32 ib.val) 0#32) : BitVec 32) 0#32 = 1#1
          then arg.view.writes (Elt Ideal) (harg.unread s) [topP k0_pay3] else harg.unread s) = f
  trans View.read (Elt Ideal) arg.view (arg.view.writes (Elt Ideal) f [fillP P]) (ix2 ⟨a.val, by omega⟩ ⟨C0 + c.val, by omega⟩)
  · refine congrArg (View.read (Elt Ideal) arg.view (arg.view.writes (Elt Ideal) f [fillP P])) (funext fun q => Fin.ext ?_)
    fin_cases q
    · show 0 + 1 * a.val = a.val; omega
    · show C0 + 1 * c.val = C0 + c.val; omega
  by_cases h : a.val < 16
  · have hs := fill_not_mem ⟨C0 + c.val, by omega⟩ a.val (by omega) h
    rw [View.writes_cons, View.read_slice_write_of_not_mem _ _ _ _ (by rw [Rect.map_emb_univ]; exact hs), View.writes_nil, ← hf]
    unfold stream carryIn
    rw [dif_pos (show 0 + 0 + a.val < 16 by omega)]
    by_cases hi : ib.val = 0
    · rw [dif_pos ((first_iff ib).2 hi), if_pos hi, top_emb ⟨a.val, h⟩ ⟨C0 + c.val, by omega⟩ a.val (by omega) rfl]
      exact (View.read_writes_cons_emb _ _ _ _ _ _).trans (zero_apply _ _)
    · rw [dif_neg (fun q => hi ((first_iff ib).1 q)), if_neg hi, harg.read_unread]
      exact congrArg s (congrArg (fun q => ix2 q _) (Fin.ext (by show a.val = 0 + 0 + a.val; omega)))
  · rw [fill_emb ⟨a.val - 16, by omega⟩ ⟨C0 + c.val, by omega⟩ a.val (by omega) (by show a.val = 16 + (a.val - 16); omega)]
    refine (View.read_writes_cons_emb _ _ _ _ _ _).trans ((hP0 _ _).trans ?_)
    rw [stream_of (carryIn ib.val s) U (0 + 0 + a.val) ⟨0 + (a.val - 16), by omega⟩ (by show 0 + 0 + a.val = 16 + (0 + (a.val - 16)); omega)]

/-- A group's first position, as a word. -/
theorem base_eq (ib G o : ℕ) : Scalar.addi (Scalar.muli (BitVec.ofNat 32 ib) 1024#32) (BitVec.ofNat 32 G) + BitVec.ofNat 32 o
    = BitVec.ofNat 32 (1024 * ib + (G + o)) := by
  show BitVec.ofNat 32 ib * BitVec.ofNat 32 1024 + BitVec.ofNat 32 G + BitVec.ofNat 32 o = _
  rw [← BitVec.ofNat_mul, ← BitVec.ofNat_add, ← BitVec.ofNat_add]
  congr 1; omega

/-- A piece of the pooled block. -/
theorem pool_emb (C : Fin 16 → Fin 512 → EReal) (U : Fin 1024 → Fin 512 → EReal) (ib : ℕ) (k r C0 : ℕ) (inb : ∀ a : Fin 3, (![0, r, C0] : Fin 3 → ℕ) a + (![1, 128, 128] : Fin 3 → ℕ) a ≤ S1x1024x512.size a)
    (hr : r + 128 ≤ 1024) (hC0 : C0 + 128 ≤ 512) (hk : C0 + 128 = 128 * k) {p : FVec Ideal S1x128x128 .bf16}
    (hp : ∀ t c : Fin 128, p (ix3 0 t c) = pooled k (1024 * ib + r + t.val + 1) (fun n => stream C U n ⟨C0 + c.val, by omega⟩) (r + 16 + t.val))
    (x : S1x128x128.Idx) :
    p x = (fun y : S1x1024x512.Idx => poolAt ib C U (y 1) (y 2))
      ((Rect.unit (s := S1x1024x512) ![0, r, C0] ![1, 128, 128] inb).emb x) := by
  obtain ⟨u, t, c, rfl⟩ : ∃ (u : Fin 1) (t c : Fin 128), x = ix3 u t c := ⟨x 0, x 1, x 2, eq_ix3 x⟩
  obtain rfl : u = 0 := Subsingleton.elim _ _
  trans poolAt ib C U ⟨r + t.val, by omega⟩ ⟨C0 + c.val, by omega⟩
  · rw [hp, poolAt]
    congr 1
    · show k = (C0 + c.val) / 128 + 1; omega
    · show _ = 1024 * ib + (r + t.val) + 1; omega
    · show _ = 16 + (r + t.val); omega
  · refine congrArg₂ (poolAt ib C U) (Fin.ext ?_) (Fin.ext ?_)
    · show r + t.val = r + 1 * t.val; omega
    · show C0 + c.val = C0 + 1 * c.val; omega

end Cert.MixIn

end
-- ==== Proof.MixPoolBlock.lean ====
/-
  The pooled block: every piece that the body stores into it is the block's function at the piece's place, and the pieces cover
  it. Also what the body leaves in the scratch's first 16 rows: the point's last 16.
-/
module

public import proofs.«01_k».proof.Proof.MixBlock
public import proofs.«01_k».proof.Proof.MixRing

@[expose] public section

set_option maxRecDepth 16384

noncomputable section

namespace Cert.MixIn

open Idealize.ShloMosaic Idealize.ShloMosaic.TcCoe Idealize.ShloMosaic.Tactic Cert.MixIdeal Cert.MixIdeal.Gen

variable (arg2 : Memref sig .tc .vmem S1x1024x1024 .f32) (harg2 : arg2.IsWhole)
variable (arg3 : Memref sig .tc .vmem S1x6x1024 .f32) (harg3 : arg3.IsWhole)
variable (arg4 : Memref sig .tc .vmem S1x1024 .f32) (harg4 : arg4.IsWhole)
variable (arg5 : Memref sig .tc .vmem S512x1024 .bf16) (harg5 : arg5.IsWhole)
variable (arg6 : Memref sig .tc .vmem S1024x512 .bf16) (harg6 : arg6.IsWhole)
variable (arg7 : Memref sig .tc .vmem S512x1024 .bf16) (harg7 : arg7.IsWhole)
variable (arg8 : Memref sig .tc .vmem S1024x512 .bf16) (harg8 : arg8.IsWhole)
variable (arg9 : Memref sig .tc .vmem S1024x128 .f32) (harg9 : arg9.IsWhole)
variable (arg10 : Memref sig .tc .vmem S1024x128 .f32) (harg10 : arg10.IsWhole)
variable (arg11 : Memref sig .tc .vmem S1024x128 .f32) (harg11 : arg11.IsWhole)
variable (arg12 : Memref sig .tc .vmem S32x1024 .f32) (harg12 : arg12.IsWhole)
variable (arg13 : Memref sig .tc .vmem S32x1024 .f32) (harg13 : arg13.IsWhole)
variable (arg14 : Memref sig .tc .vmem S1x4x512x256 .bf16) (harg14 : arg14.IsWhole)
variable (arg15 : Memref sig .tc .vmem S1x1024x512 .bf16) (harg15 : arg15.IsWhole)
variable (arg16 : Memref sig .tc .vmem S1x4x640x256 .bf16) (harg16 : arg16.IsWhole)
variable (arg17 : Memref sig .tc .vmem S1x1024x512 .bf16) (harg17 : arg17.IsWhole)
variable (arg18 : Memref sig .tc .vmem S1x8x512 .f32) (harg18 : arg18.IsWhole)
variable (arg19 : Memref sig .tc .vmem S272x512 .f32) (harg19 : arg19.IsWhole)
variable (c : Dev nD) (i : grid0.Coords) (x0 : Vec Ideal S1x1024x1024 .f32) (x1 : Vec Ideal S1x6x1024 .f32) (x2 : Vec Ideal S1x1024 .f32) (x3 : Vec Ideal S512x1024 .bf16) (x4 : Vec Ideal S1024x512 .bf16) (x5 : Vec Ideal S512x1024 .bf16) (x6 : Vec Ideal S1024x512 .bf16) (x7 : Vec Ideal S1024x128 .f32) (x8 : Vec Ideal S1024x128 .f32) (x9 : Vec Ideal S1024x128 .f32) (x10 : Vec Ideal S32x1024 .f32) (x11 : Vec Ideal S32x1024 .f32) (x16 : Vec Ideal S1x8x512 .f32) (x17 : Vec Ideal S272x512 .f32)

set_option maxHeartbeats 8000000 in
theorem pool_pieces : ∀ p ∈ (run (F := Ideal) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c i x0 x1 x2 x3 x4 x5 x6 x7 x8 x9 x10 x11 x16 x17).2.2.2.1, ∀ x : p.1.shape.Idx, p.2 x = (fun y : S1x1024x512.Idx => poolAt (i 1).val (carryIn (i 1).val x17) (uAt x0 x1 x2 x6) (y 1) (y 2)) (p.1.emb x) := by
  intro p hp x
  unfold run at hp
  dsimp only at hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · sl_unfold_words
    simp only [View.readAt_eq_ld, harg2.read_unread, harg3.read_unread, harg4.read_unread, harg8.read_unread]
    dsimp only at x
    simp only [pool_896_384, rows_2, rows_3, rows_4, fill_2, fill_3, fill_4, carry_2, carry_3, carry_4]
    exact pool_emb (carryIn (i 1).val x17) (uAt x0 x1 x2 x6) (i 1).val 4 896 384 _ (by decide) (by decide) rfl
      (fun t c => pool_4 _ _ _ 896 (1024 * (i 1).val + 896) 128 c (fun a => ring_hi _ _ (carryIn (i 1).val x17) (uAt x0 x1 x2 x6) _ 768 (by decide) (fill_apply x0 x1 x2 x6 768 (inX_of (by decide)) (by decide)) 384 (by decide) _ a c) (base_eq _ 768 128) t) x
  · sl_unfold_words
    simp only [View.readAt_eq_ld, harg2.read_unread, harg3.read_unread, harg4.read_unread, harg8.read_unread]
    dsimp only at x
    simp only [pool_896_256, rows_2, rows_3, rows_4, fill_2, fill_3, fill_4, carry_2, carry_3, carry_4]
    exact pool_emb (carryIn (i 1).val x17) (uAt x0 x1 x2 x6) (i 1).val 3 896 256 _ (by decide) (by decide) rfl
      (fun t c => pool_3 _ _ _ 896 (1024 * (i 1).val + 896) 128 c (fun a => ring_hi _ _ (carryIn (i 1).val x17) (uAt x0 x1 x2 x6) _ 768 (by decide) (fill_apply x0 x1 x2 x6 768 (inX_of (by decide)) (by decide)) 256 (by decide) _ a c) (base_eq _ 768 128) t) x
  · sl_unfold_words
    simp only [View.readAt_eq_ld, harg2.read_unread, harg3.read_unread, harg4.read_unread, harg8.read_unread]
    dsimp only at x
    simp only [pool_896_128, rows_2, rows_3, rows_4, fill_2, fill_3, fill_4, carry_2, carry_3, carry_4]
    exact pool_emb (carryIn (i 1).val x17) (uAt x0 x1 x2 x6) (i 1).val 2 896 128 _ (by decide) (by decide) rfl
      (fun t c => pool_2 _ _ _ 896 (1024 * (i 1).val + 896) 128 c (fun a => ring_hi _ _ (carryIn (i 1).val x17) (uAt x0 x1 x2 x6) _ 768 (by decide) (fill_apply x0 x1 x2 x6 768 (inX_of (by decide)) (by decide)) 128 (by decide) _ a c) (base_eq _ 768 128) t) x
  · sl_unfold_words
    simp only [View.readAt_eq_ld, harg2.read_unread, harg3.read_unread, harg4.read_unread, harg8.read_unread]
    dsimp only at x
    simp only [pool_896_0, rows_2, rows_3, rows_4, fill_2, fill_3, fill_4, carry_2, carry_3, carry_4]
    exact pool_emb (carryIn (i 1).val x17) (uAt x0 x1 x2 x6) (i 1).val 1 896 0 _ (by decide) (by decide) rfl
      (fun t c => pool_1 _ _ _ 896 (1024 * (i 1).val + 896) 128 c (fun a => ring_hi _ _ (carryIn (i 1).val x17) (uAt x0 x1 x2 x6) _ 768 (by decide) (fill_apply x0 x1 x2 x6 768 (inX_of (by decide)) (by decide)) 0 (by decide) _ a c) (base_eq _ 768 128) t) x
  · sl_unfold_words
    simp only [View.readAt_eq_ld, harg2.read_unread, harg3.read_unread, harg4.read_unread, harg8.read_unread]
    dsimp only at x
    simp only [pool_768_384, rows_2, rows_3, rows_4, fill_2, fill_3, fill_4, carry_2, carry_3, carry_4]
    exact pool_emb (carryIn (i 1).val x17) (uAt x0 x1 x2 x6) (i 1).val 4 768 384 _ (by decide) (by decide) rfl
      (fun t c => pool_4 _ _ _ 768 (1024 * (i 1).val + 768) 0 c (fun a => ring_lo _ _ _ (carryIn (i 1).val x17) (uAt x0 x1 x2 x6) _ _ 768 (by decide) (fill_apply x0 x1 x2 x6 768 (inX_of (by decide)) (by decide)) 512 rfl (fill_apply x0 x1 x2 x6 512 (inX_of (by decide)) (by decide)) 384 (by decide) _ a c) (base_eq _ 768 0) t) x
  · sl_unfold_words
    simp only [View.readAt_eq_ld, harg2.read_unread, harg3.read_unread, harg4.read_unread, harg8.read_unread]
    dsimp only at x
    simp only [pool_768_256, rows_2, rows_3, rows_4, fill_2, fill_3, fill_4, carry_2, carry_3, carry_4]
    exact pool_emb (carryIn (i 1).val x17) (uAt x0 x1 x2 x6) (i 1).val 3 768 256 _ (by decide) (by decide) rfl
      (fun t c => pool_3 _ _ _ 768 (1024 * (i 1).val + 768) 0 c (fun a => ring_lo _ _ _ (carryIn (i 1).val x17) (uAt x0 x1 x2 x6) _ _ 768 (by decide) (fill_apply x0 x1 x2 x6 768 (inX_of (by decide)) (by decide)) 512 rfl (fill_apply x0 x1 x2 x6 512 (inX_of (by decide)) (by decide)) 256 (by decide) _ a c) (base_eq _ 768 0) t) x
  · sl_unfold_words
    simp only [View.readAt_eq_ld, harg2.read_unread, harg3.read_unread, harg4.read_unread, harg8.read_unread]
    dsimp only at x
    simp only [pool_768_128, rows_2, rows_3, rows_4, fill_2, fill_3, fill_4, carry_2, carry_3, carry_4]
    exact pool_emb (carryIn (i 1).val x17) (uAt x0 x1 x2 x6) (i 1).val 2 768 128 _ (by decide) (by decide) rfl
      (fun t c => pool_2 _ _ _ 768 (1024 * (i 1).val + 768) 0 c (fun a => ring_lo _ _ _ (carryIn (i 1).val x17) (uAt x0 x1 x2 x6) _ _ 768 (by decide) (fill_apply x0 x1 x2 x6 768 (inX_of (by decide)) (by decide)) 512 rfl (fill_apply x0 x1 x2 x6 512 (inX_of (by decide)) (by decide)) 128 (by decide) _ a c) (base_eq _ 768 0) t) x
  · sl_unfold_words
    simp only [View.readAt_eq_ld, harg2.read_unread, harg3.read_unread, harg4.read_unread, harg8.read_unread]
    dsimp only at x
    simp only [pool_768_0, rows_2, rows_3, rows_4, fill_2, fill_3, fill_4, carry_2, carry_3, carry_4]
    exact pool_emb (carryIn (i 1).val x17) (uAt x0 x1 x2 x6) (i 1).val 1 768 0 _ (by decide) (by decide) rfl
      (fun t c => pool_1 _ _ _ 768 (1024 * (i 1).val + 768) 0 c (fun a => ring_lo _ _ _ (carryIn (i 1).val x17) (uAt x0 x1 x2 x6) _ _ 768 (by decide) (fill_apply x0 x1 x2 x6 768 (inX_of (by decide)) (by decide)) 512 rfl (fill_apply x0 x1 x2 x6 512 (inX_of (by decide)) (by decide)) 0 (by decide) _ a c) (base_eq _ 768 0) t) x
  · sl_unfold_words
    simp only [View.readAt_eq_ld, harg2.read_unread, harg3.read_unread, harg4.read_unread, harg8.read_unread]
    dsimp only at x
    simp only [pool_640_384, rows_2, rows_3, rows_4, fill_2, fill_3, fill_4, carry_2, carry_3, carry_4]
    exact pool_emb (carryIn (i 1).val x17) (uAt x0 x1 x2 x6) (i 1).val 4 640 384 _ (by decide) (by decide) rfl
      (fun t c => pool_4 _ _ _ 640 (1024 * (i 1).val + 640) 128 c (fun a => ring_hi _ _ (carryIn (i 1).val x17) (uAt x0 x1 x2 x6) _ 512 (by decide) (fill_apply x0 x1 x2 x6 512 (inX_of (by decide)) (by decide)) 384 (by decide) _ a c) (base_eq _ 512 128) t) x
  · sl_unfold_words
    simp only [View.readAt_eq_ld, harg2.read_unread, harg3.read_unread, harg4.read_unread, harg8.read_unread]
    dsimp only at x
    simp only [pool_640_256, rows_2, rows_3, rows_4, fill_2, fill_3, fill_4, carry_2, carry_3, carry_4]
    exact pool_emb (carryIn (i 1).val x17) (uAt x0 x1 x2 x6) (i 1).val 3 640 256 _ (by decide) (by decide) rfl
      (fun t c => pool_3 _ _ _ 640 (1024 * (i 1).val + 640) 128 c (fun a => ring_hi _ _ (carryIn (i 1).val x17) (uAt x0 x1 x2 x6) _ 512 (by decide) (fill_apply x0 x1 x2 x6 512 (inX_of (by decide)) (by decide)) 256 (by decide) _ a c) (base_eq _ 512 128) t) x
  · sl_unfold_words
    simp only [View.readAt_eq_ld, harg2.read_unread, harg3.read_unread, harg4.read_unread, harg8.read_unread]
    dsimp only at x
    simp only [pool_640_128, rows_2, rows_3, rows_4, fill_2, fill_3, fill_4, carry_2, carry_3, carry_4]
    exact pool_emb (carryIn (i 1).val x17) (uAt x0 x1 x2 x6) (i 1).val 2 640 128 _ (by decide) (by decide) rfl
      (fun t c => pool_2 _ _ _ 640 (1024 * (i 1).val + 640) 128 c (fun a => ring_hi _ _ (carryIn (i 1).val x17) (uAt x0 x1 x2 x6) _ 512 (by decide) (fill_apply x0 x1 x2 x6 512 (inX_of (by decide)) (by decide)) 128 (by decide) _ a c) (base_eq _ 512 128) t) x
  · sl_unfold_words
    simp only [View.readAt_eq_ld, harg2.read_unread, harg3.read_unread, harg4.read_unread, harg8.read_unread]
    dsimp only at x
    simp only [pool_640_0, rows_2, rows_3, rows_4, fill_2, fill_3, fill_4, carry_2, carry_3, carry_4]
    exact pool_emb (carryIn (i 1).val x17) (uAt x0 x1 x2 x6) (i 1).val 1 640 0 _ (by decide) (by decide) rfl
      (fun t c => pool_1 _ _ _ 640 (1024 * (i 1).val + 640) 128 c (fun a => ring_hi _ _ (carryIn (i 1).val x17) (uAt x0 x1 x2 x6) _ 512 (by decide) (fill_apply x0 x1 x2 x6 512 (inX_of (by decide)) (by decide)) 0 (by decide) _ a c) (base_eq _ 512 128) t) x
  · sl_unfold_words
    simp only [View.readAt_eq_ld, harg2.read_unread, harg3.read_unread, harg4.read_unread, harg8.read_unread]
    dsimp only at x
    simp only [pool_512_384, rows_2, rows_3, rows_4, fill_2, fill_3, fill_4, carry_2, carry_3, carry_4]
    exact pool_emb (carryIn (i 1).val x17) (uAt x0 x1 x2 x6) (i 1).val 4 512 384 _ (by decide) (by decide) rfl
      (fun t c => pool_4 _ _ _ 512 (1024 * (i 1).val + 512) 0 c (fun a => ring_lo _ _ _ (carryIn (i 1).val x17) (uAt x0 x1 x2 x6) _ _ 512 (by decide) (fill_apply x0 x1 x2 x6 512 (inX_of (by decide)) (by decide)) 256 rfl (fill_apply x0 x1 x2 x6 256 (inX_of (by decide)) (by decide)) 384 (by decide) _ a c) (base_eq _ 512 0) t) x
  · sl_unfold_words
    simp only [View.readAt_eq_ld, harg2.read_unread, harg3.read_unread, harg4.read_unread, harg8.read_unread]
    dsimp only at x
    simp only [pool_512_256, rows_2, rows_3, rows_4, fill_2, fill_3, fill_4, carry_2, carry_3, carry_4]
    exact pool_emb (carryIn (i 1).val x17) (uAt x0 x1 x2 x6) (i 1).val 3 512 256 _ (by decide) (by decide) rfl
      (fun t c => pool_3 _ _ _ 512 (1024 * (i 1).val + 512) 0 c (fun a => ring_lo _ _ _ (carryIn (i 1).val x17) (uAt x0 x1 x2 x6) _ _ 512 (by decide) (fill_apply x0 x1 x2 x6 512 (inX_of (by decide)) (by decide)) 256 rfl (fill_apply x0 x1 x2 x6 256 (inX_of (by decide)) (by decide)) 256 (by decide) _ a c) (base_eq _ 512 0) t) x
  · sl_unfold_words
    simp only [View.readAt_eq_ld, harg2.read_unread, harg3.read_unread, harg4.read_unread, harg8.read_unread]
    dsimp only at x
    simp only [pool_512_128, rows_2, rows_3, rows_4, fill_2, fill_3, fill_4, carry_2, carry_3, carry_4]
    exact pool_emb (carryIn (i 1).val x17) (uAt x0 x1 x2 x6) (i 1).val 2 512 128 _ (by decide) (by decide) rfl
      (fun t c => pool_2 _ _ _ 512 (1024 * (i 1).val + 512) 0 c (fun a => ring_lo _ _ _ (carryIn (i 1).val x17) (uAt x0 x1 x2 x6) _ _ 512 (by decide) (fill_apply x0 x1 x2 x6 512 (inX_of (by decide)) (by decide)) 256 rfl (fill_apply x0 x1 x2 x6 256 (inX_of (by decide)) (by decide)) 128 (by decide) _ a c) (base_eq _ 512 0) t) x
  · sl_unfold_words
    simp only [View.readAt_eq_ld, harg2.read_unread, harg3.read_unread, harg4.read_unread, harg8.read_unread]
    dsimp only at x
    simp only [pool_512_0, rows_2, rows_3, rows_4, fill_2, fill_3, fill_4, carry_2, carry_3, carry_4]
    exact pool_emb (carryIn (i 1).val x17) (uAt x0 x1 x2 x6) (i 1).val 1 512 0 _ (by decide) (by decide) rfl
      (fun t c => pool_1 _ _ _ 512 (1024 * (i 1).val + 512) 0 c (fun a => ring_lo _ _ _ (carryIn (i 1).val x17) (uAt x0 x1 x2 x6) _ _ 512 (by decide) (fill_apply x0 x1 x2 x6 512 (inX_of (by decide)) (by decide)) 256 rfl (fill_apply x0 x1 x2 x6 256 (inX_of (by decide)) (by decide)) 0 (by decide) _ a c) (base_eq _ 512 0) t) x
  · sl_unfold_words
    simp only [View.readAt_eq_ld, harg2.read_unread, harg3.read_unread, harg4.read_unread, harg8.read_unread]
    dsimp only at x
    simp only [pool_384_384, rows_2, rows_3, rows_4, fill_2, fill_3, fill_4, carry_2, carry_3, carry_4]
    exact pool_emb (carryIn (i 1).val x17) (uAt x0 x1 x2 x6) (i 1).val 4 384 384 _ (by decide) (by decide) rfl
      (fun t c => pool_4 _ _ _ 384 (1024 * (i 1).val + 384) 128 c (fun a => ring_hi _ _ (carryIn (i 1).val x17) (uAt x0 x1 x2 x6) _ 256 (by decide) (fill_apply x0 x1 x2 x6 256 (inX_of (by decide)) (by decide)) 384 (by decide) _ a c) (base_eq _ 256 128) t) x
  · sl_unfold_words
    simp only [View.readAt_eq_ld, harg2.read_unread, harg3.read_unread, harg4.read_unread, harg8.read_unread]
    dsimp only at x
    simp only [pool_384_256, rows_2, rows_3, rows_4, fill_2, fill_3, fill_4, carry_2, carry_3, carry_4]
    exact pool_emb (carryIn (i 1).val x17) (uAt x0 x1 x2 x6) (i 1).val 3 384 256 _ (by decide) (by decide) rfl
      (fun t c => pool_3 _ _ _ 384 (1024 * (i 1).val + 384) 128 c (fun a => ring_hi _ _ (carryIn (i 1).val x17) (uAt x0 x1 x2 x6) _ 256 (by decide) (fill_apply x0 x1 x2 x6 256 (inX_of (by decide)) (by decide)) 256 (by decide) _ a c) (base_eq _ 256 128) t) x
  · sl_unfold_words
    simp only [View.readAt_eq_ld, harg2.read_unread, harg3.read_unread, harg4.read_unread, harg8.read_unread]
    dsimp only at x
    simp only [pool_384_128, rows_2, rows_3, rows_4, fill_2, fill_3, fill_4, carry_2, carry_3, carry_4]
    exact pool_emb (carryIn (i 1).val x17) (uAt x0 x1 x2 x6) (i 1).val 2 384 128 _ (by decide) (by decide) rfl
      (fun t c => pool_2 _ _ _ 384 (1024 * (i 1).val + 384) 128 c (fun a => ring_hi _ _ (carryIn (i 1).val x17) (uAt x0 x1 x2 x6) _ 256 (by decide) (fill_apply x0 x1 x2 x6 256 (inX_of (by decide)) (by decide)) 128 (by decide) _ a c) (base_eq _ 256 128) t) x
  · sl_unfold_words
    simp only [View.readAt_eq_ld, harg2.read_unread, harg3.read_unread, harg4.read_unread, harg8.read_unread]
    dsimp only at x
    simp only [pool_384_0, rows_2, rows_3, rows_4, fill_2, fill_3, fill_4, carry_2, carry_3, carry_4]
    exact pool_emb (carryIn (i 1).val x17) (uAt x0 x1 x2 x6) (i 1).val 1 384 0 _ (by decide) (by decide) rfl
      (fun t c => pool_1 _ _ _ 384 (1024 * (i 1).val + 384) 128 c (fun a => ring_hi _ _ (carryIn (i 1).val x17) (uAt x0 x1 x2 x6) _ 256 (by decide) (fill_apply x0 x1 x2 x6 256 (inX_of (by decide)) (by decide)) 0 (by decide) _ a c) (base_eq _ 256 128) t) x
  · sl_unfold_words
    simp only [View.readAt_eq_ld, harg2.read_unread, harg3.read_unread, harg4.read_unread, harg8.read_unread]
    dsimp only at x
    simp only [pool_256_384, rows_2, rows_3, rows_4, fill_2, fill_3, fill_4, carry_2, carry_3, carry_4]
    exact pool_emb (carryIn (i 1).val x17) (uAt x0 x1 x2 x6) (i 1).val 4 256 384 _ (by decide) (by decide) rfl
      (fun t c => pool_4 _ _ _ 256 (1024 * (i 1).val + 256) 0 c (fun a => ring_lo _ _ _ (carryIn (i 1).val x17) (uAt x0 x1 x2 x6) _ _ 256 (by decide) (fill_apply x0 x1 x2 x6 256 (inX_of (by decide)) (by decide)) 0 rfl (fill_apply x0 x1 x2 x6 0 (inX_of (by decide)) (by decide)) 384 (by decide) _ a c) (base_eq _ 256 0) t) x
  · sl_unfold_words
    simp only [View.readAt_eq_ld, harg2.read_unread, harg3.read_unread, harg4.read_unread, harg8.read_unread]
    dsimp only at x
    simp only [pool_256_256, rows_2, rows_3, rows_4, fill_2, fill_3, fill_4, carry_2, carry_3, carry_4]
    exact pool_emb (carryIn (i 1).val x17) (uAt x0 x1 x2 x6) (i 1).val 3 256 256 _ (by decide) (by decide) rfl
      (fun t c => pool_3 _ _ _ 256 (1024 * (i 1).val + 256) 0 c (fun a => ring_lo _ _ _ (carryIn (i 1).val x17) (uAt x0 x1 x2 x6) _ _ 256 (by decide) (fill_apply x0 x1 x2 x6 256 (inX_of (by decide)) (by decide)) 0 rfl (fill_apply x0 x1 x2 x6 0 (inX_of (by decide)) (by decide)) 256 (by decide) _ a c) (base_eq _ 256 0) t) x
  · sl_unfold_words
    simp only [View.readAt_eq_ld, harg2.read_unread, harg3.read_unread, harg4.read_unread, harg8.read_unread]
    dsimp only at x
    simp only [pool_256_128, rows_2, rows_3, rows_4, fill_2, fill_3, fill_4, carry_2, carry_3, carry_4]
    exact pool_emb (carryIn (i 1).val x17) (uAt x0 x1 x2 x6) (i 1).val 2 256 128 _ (by decide) (by decide) rfl
      (fun t c => pool_2 _ _ _ 256 (1024 * (i 1).val + 256) 0 c (fun a => ring_lo _ _ _ (carryIn (i 1).val x17) (uAt x0 x1 x2 x6) _ _ 256 (by decide) (fill_apply x0 x1 x2 x6 256 (inX_of (by decide)) (by decide)) 0 rfl (fill_apply x0 x1 x2 x6 0 (inX_of (by decide)) (by decide)) 128 (by decide) _ a c) (base_eq _ 256 0) t) x
  · sl_unfold_words
    simp only [View.readAt_eq_ld, harg2.read_unread, harg3.read_unread, harg4.read_unread, harg8.read_unread]
    dsimp only at x
    simp only [pool_256_0, rows_2, rows_3, rows_4, fill_2, fill_3, fill_4, carry_2, carry_3, carry_4]
    exact pool_emb (carryIn (i 1).val x17) (uAt x0 x1 x2 x6) (i 1).val 1 256 0 _ (by decide) (by decide) rfl
      (fun t c => pool_1 _ _ _ 256 (1024 * (i 1).val + 256) 0 c (fun a => ring_lo _ _ _ (carryIn (i 1).val x17) (uAt x0 x1 x2 x6) _ _ 256 (by decide) (fill_apply x0 x1 x2 x6 256 (inX_of (by decide)) (by decide)) 0 rfl (fill_apply x0 x1 x2 x6 0 (inX_of (by decide)) (by decide)) 0 (by decide) _ a c) (base_eq _ 256 0) t) x
  · sl_unfold_words
    simp only [View.readAt_eq_ld, harg2.read_unread, harg3.read_unread, harg4.read_unread, harg8.read_unread]
    dsimp only at x
    simp only [pool_128_384, rows_2, rows_3, rows_4, fill_2, fill_3, fill_4, carry_2, carry_3, carry_4]
    exact pool_emb (carryIn (i 1).val x17) (uAt x0 x1 x2 x6) (i 1).val 4 128 384 _ (by decide) (by decide) rfl
      (fun t c => pool_4 _ _ _ 128 (1024 * (i 1).val + 128) 128 c (fun a => ring_hi _ _ (carryIn (i 1).val x17) (uAt x0 x1 x2 x6) _ 0 (by decide) (fill_apply x0 x1 x2 x6 0 (inX_of (by decide)) (by decide)) 384 (by decide) _ a c) (base_eq _ 0 128) t) x
  · sl_unfold_words
    simp only [View.readAt_eq_ld, harg2.read_unread, harg3.read_unread, harg4.read_unread, harg8.read_unread]
    dsimp only at x
    simp only [pool_128_256, rows_2, rows_3, rows_4, fill_2, fill_3, fill_4, carry_2, carry_3, carry_4]
    exact pool_emb (carryIn (i 1).val x17) (uAt x0 x1 x2 x6) (i 1).val 3 128 256 _ (by decide) (by decide) rfl
      (fun t c => pool_3 _ _ _ 128 (1024 * (i 1).val + 128) 128 c (fun a => ring_hi _ _ (carryIn (i 1).val x17) (uAt x0 x1 x2 x6) _ 0 (by decide) (fill_apply x0 x1 x2 x6 0 (inX_of (by decide)) (by decide)) 256 (by decide) _ a c) (base_eq _ 0 128) t) x
  · sl_unfold_words
    simp only [View.readAt_eq_ld, harg2.read_unread, harg3.read_unread, harg4.read_unread, harg8.read_unread]
    dsimp only at x
    simp only [pool_128_128, rows_2, rows_3, rows_4, fill_2, fill_3, fill_4, carry_2, carry_3, carry_4]
    exact pool_emb (carryIn (i 1).val x17) (uAt x0 x1 x2 x6) (i 1).val 2 128 128 _ (by decide) (by decide) rfl
      (fun t c => pool_2 _ _ _ 128 (1024 * (i 1).val + 128) 128 c (fun a => ring_hi _ _ (carryIn (i 1).val x17) (uAt x0 x1 x2 x6) _ 0 (by decide) (fill_apply x0 x1 x2 x6 0 (inX_of (by decide)) (by decide)) 128 (by decide) _ a c) (base_eq _ 0 128) t) x
  · sl_unfold_words
    simp only [View.readAt_eq_ld, harg2.read_unread, harg3.read_unread, harg4.read_unread, harg8.read_unread]
    dsimp only at x
    simp only [pool_128_0, rows_2, rows_3, rows_4, fill_2, fill_3, fill_4, carry_2, carry_3, carry_4]
    exact pool_emb (carryIn (i 1).val x17) (uAt x0 x1 x2 x6) (i 1).val 1 128 0 _ (by decide) (by decide) rfl
      (fun t c => pool_1 _ _ _ 128 (1024 * (i 1).val + 128) 128 c (fun a => ring_hi _ _ (carryIn (i 1).val x17) (uAt x0 x1 x2 x6) _ 0 (by decide) (fill_apply x0 x1 x2 x6 0 (inX_of (by decide)) (by decide)) 0 (by decide) _ a c) (base_eq _ 0 128) t) x
  · sl_unfold_words
    simp only [View.readAt_eq_ld, harg2.read_unread, harg3.read_unread, harg4.read_unread, harg8.read_unread]
    dsimp only at x
    simp only [pool_0_384, rows_2, rows_3, rows_4, fill_2, fill_3, fill_4, carry_2, carry_3, carry_4]
    exact pool_emb (carryIn (i 1).val x17) (uAt x0 x1 x2 x6) (i 1).val 4 0 384 _ (by decide) (by decide) rfl
      (fun t c => pool_4 _ _ _ 0 (1024 * (i 1).val + 0) 0 c (fun a => ring_0 (uAt x0 x1 x2 x6) _ arg19 harg19 (i 1) x17 (fill_apply x0 x1 x2 x6 0 (inX_of (by decide)) (by decide)) 384 (by decide) _ a c) (base_eq _ 0 0) t) x
  · sl_unfold_words
    simp only [View.readAt_eq_ld, harg2.read_unread, harg3.read_unread, harg4.read_unread, harg8.read_unread]
    dsimp only at x
    simp only [pool_0_256, rows_2, rows_3, rows_4, fill_2, fill_3, fill_4, carry_2, carry_3, carry_4]
    exact pool_emb (carryIn (i 1).val x17) (uAt x0 x1 x2 x6) (i 1).val 3 0 256 _ (by decide) (by decide) rfl
      (fun t c => pool_3 _ _ _ 0 (1024 * (i 1).val + 0) 0 c (fun a => ring_0 (uAt x0 x1 x2 x6) _ arg19 harg19 (i 1) x17 (fill_apply x0 x1 x2 x6 0 (inX_of (by decide)) (by decide)) 256 (by decide) _ a c) (base_eq _ 0 0) t) x
  · sl_unfold_words
    simp only [View.readAt_eq_ld, harg2.read_unread, harg3.read_unread, harg4.read_unread, harg8.read_unread]
    dsimp only at x
    simp only [pool_0_128, rows_2, rows_3, rows_4, fill_2, fill_3, fill_4, carry_2, carry_3, carry_4]
    exact pool_emb (carryIn (i 1).val x17) (uAt x0 x1 x2 x6) (i 1).val 2 0 128 _ (by decide) (by decide) rfl
      (fun t c => pool_2 _ _ _ 0 (1024 * (i 1).val + 0) 0 c (fun a => ring_0 (uAt x0 x1 x2 x6) _ arg19 harg19 (i 1) x17 (fill_apply x0 x1 x2 x6 0 (inX_of (by decide)) (by decide)) 128 (by decide) _ a c) (base_eq _ 0 0) t) x
  · sl_unfold_words
    simp only [View.readAt_eq_ld, harg2.read_unread, harg3.read_unread, harg4.read_unread, harg8.read_unread]
    dsimp only at x
    simp only [pool_0_0, rows_2, rows_3, rows_4, fill_2, fill_3, fill_4, carry_2, carry_3, carry_4]
    exact pool_emb (carryIn (i 1).val x17) (uAt x0 x1 x2 x6) (i 1).val 1 0 0 _ (by decide) (by decide) rfl
      (fun t c => pool_1 _ _ _ 0 (1024 * (i 1).val + 0) 0 c (fun a => ring_0 (uAt x0 x1 x2 x6) _ arg19 harg19 (i 1) x17 (fill_apply x0 x1 x2 x6 0 (inX_of (by decide)) (by decide)) 0 (by decide) _ a c) (base_eq _ 0 0) t) x

/-- The pieces cover the block. -/
theorem pool_cover (y : S1x1024x512.Idx) : ∃ p ∈ (run (F := Ideal) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c i x0 x1 x2 x3 x4 x5 x6 x7 x8 x9 x10 x11 x16 x17).2.2.2.1, y ∈ p.1.set :=
  View.cover_of_tiledL (run (F := Ideal) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c i x0 x1 x2 x3 x4 x5 x6 x7 x8 x9 x10 x11 x16 x17).2.2.2.1 S1x128x128.size (by sl_kernel_rfl) y

/-- What the buffer holds after the stores, whatever it held before. -/
theorem pool_read (f : Buf (Elt Ideal) (arg17.view.loc (c : Thread nD τ))) :
    arg17.view.read (Elt Ideal) (arg17.view.writes (Elt Ideal) f (run (F := Ideal) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c i x0 x1 x2 x3 x4 x5 x6 x7 x8 x9 x10 x11 x16 x17).2.2.2.1) =
      (fun y : S1x1024x512.Idx => poolAt (i 1).val (carryIn (i 1).val x17) (uAt x0 x1 x2 x6) (y 1) (y 2)) := by
  refine (View.read_writes_eq_canon _ _ _ (pool_cover arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c i x0 x1 x2 x3 x4 x5 x6 x7 x8 x9 x10 x11 x16 x17)).trans (funext fun y => ?_)
  exact View.canon_apply_of_pieces (fun y : S1x1024x512.Idx => poolAt (i 1).val (carryIn (i 1).val x17) (uAt x0 x1 x2 x6) (y 1) (y 2)) _ (pool_pieces arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c i x0 x1 x2 x3 x4 x5 x6 x7 x8 x9 x10 x11 x16 x17) y (pool_cover arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c i x0 x1 x2 x3 x4 x5 x6 x7 x8 x9 x10 x11 x16 x17 y)

/-- The scratch's first 16 rows after the body. -/
theorem scratch_read (n : Fin 16) (j : Fin 512) :
    arg19.view.read (Elt Ideal) (run (F := Ideal) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c i x0 x1 x2 x3 x4 x5 x6 x7 x8 x9 x10 x11 x16 x17).2.2.2.2.2.val (ix2 ⟨n.val, by omega⟩ j) = uAt x0 x1 x2 x6 ⟨1008 + n.val, by omega⟩ j := by
  unfold run
  dsimp only
  sl_unfold_words
  simp only [View.readAt_eq_ld, harg2.read_unread, harg3.read_unread, harg4.read_unread, harg8.read_unread]
  simp only [rows_4, fill_4, carry_4]
  rw [top_emb n j n.val (by omega) rfl]
  refine (View.read_writes_cons_emb _ _ _ _ _ _).trans ((carry_apply _ _ _).trans ?_)
  refine (tail_apply _ _ (uAt x0 x1 x2 x6) _ 768 (by decide) (fill_apply x0 x1 x2 x6 768 (inX_of (by decide)) (by decide)) n j).trans ?_
  exact congrArg (fun q => uAt x0 x1 x2 x6 q j) (Fin.ext (by show 768 + (240 + n.val) = 1008 + n.val; omega))

end Cert.MixIn

end
-- ==== Proof.MixLaunch.lean ====
/-
  The launch of the mixer's input projections. Four outputs are held to what a point leaves there: the rotated queries, the
  rotated keys and the values of the point's rows, and the pooled rows. The block means are held to nothing. Between points the
  scratch's first 16 rows are the last 16 that the point before it projected.
-/
module

public import Idealize.ShloMosaic.Lib.Pipeline.DatRel
public import Idealize.ShloMosaic.Lib.Pipeline.ArrRel
public import proofs.«01_k».proof.Proof.MixRead
public import proofs.«01_k».proof.Proof.MixPoolBlock

@[expose] public section

set_option maxRecDepth 16384

noncomputable section

namespace Cert.MixIn

open Cert.MixIdeal Cert.MixIdeal.Gen
open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (m : (ℓ : Loc nD τ sig) → Buf (Elt Ideal) ℓ) (ρ : Dev nD → PrngReg)

/-- The queries that point `t` leaves. -/
def queryBlk (c : Dev nD) (t : Fin cfg0.N) : S1x4x512x256.Idx → Elt Ideal .bf16 := fun y =>
  queryAt (iblk m c 0 t) (iblk m c 1 t) (iblk m c 2 t) (iblk m c 3 t) (iblk m c 10 t) (iblk m c 11 t)
    ⟨256 * (y 1).val + (y 3).val, by
        have h1 : (y 1).val < 4 := (y 1).isLt; have h3 : (y 3).val < 256 := (y 3).isLt; omega⟩ (y 2)

/-- The keys that point `t` leaves. -/
def keyBlk (c : Dev nD) (t : Fin cfg0.N) : S1x1024x512.Idx → Elt Ideal .bf16 := fun y =>
  keyAt (iblk m c 0 t) (iblk m c 1 t) (iblk m c 2 t) (iblk m c 4 t) (iblk m c 7 t) (iblk m c 8 t) (iblk m c 9 t) (y 1) (y 2)

/-- The values that point `t` leaves. -/
def valueBlk (c : Dev nD) (t : Fin cfg0.N) : S1x4x640x256.Idx → Elt Ideal .bf16 := fun y =>
  valueAt (iblk m c 0 t) (iblk m c 1 t) (iblk m c 2 t) (iblk m c 5 t)
    ⟨256 * (y 1).val + (y 3).val, by
        have h1 : (y 1).val < 4 := (y 1).isLt; have h3 : (y 3).val < 256 := (y 3).isLt; omega⟩ (y 2)

/-- The columns to pool, of point `t`'s rows. -/
def uBlk (c : Dev nD) (t : Fin cfg0.N) : Fin 1024 → Fin 512 → EReal := uAt (iblk m c 0 t) (iblk m c 1 t) (iblk m c 2 t) (iblk m c 6 t)

/-- The rows before point `t`'s: zeros at a sequence's first block, the last 16 of the point before at its second. -/
def carryBlk (c : Dev nD) (t : Fin cfg0.N) (n : Fin 16) (j : Fin 512) : EReal :=
  if t.val % 2 = 0 then 0 else uBlk m c ⟨t.val - 1, lt_of_le_of_lt (Nat.sub_le _ _) t.isLt⟩ ⟨1008 + n.val, by omega⟩ j

/-- The pooled rows that point `t` leaves. -/
def poolBlk (c : Dev nD) (t : Fin cfg0.N) : S1x1024x512.Idx → Elt Ideal .bf16 := fun y =>
  poolAt (t.val % 2) (carryBlk m c t) (uBlk m c t) (y 1) (y 2)

/-- What the scratch holds before point `t`, or after the last. -/
def Held (c : Dev nD) (t : Fin (cfg0.N + 1)) (d : Vec Ideal S272x512 .f32) : Prop :=
  ∀ t' : Fin cfg0.N, t'.val + 1 = t.val → ∀ (n : Fin 16) (j : Fin 512), d (ix2 ⟨n.val, by omega⟩ j) = uBlk m c t' ⟨1008 + n.val, by omega⟩ j

theorem coords_1 : ∀ t : Fin grid0.N, (grid0.coords t 1).val = t.val % 2 := by decide +kernel

/-- The block that the body leaves, from what the scratch held. -/
theorem pool_blk (c : Dev nD) (t : Fin cfg0.N) (s : Vec Ideal S272x512 .f32) (hs : Held m c t.castSucc s) :
    (fun y : S1x1024x512.Idx => poolAt (grid0.coords t 1).val (carryIn (grid0.coords t 1).val s)
      (uAt (iblk m c 0 t) (iblk m c 1 t) (iblk m c 2 t) (iblk m c 6 t)) (y 1) (y 2)) = poolBlk m c t := by
  have hc : carryIn (grid0.coords t 1).val s = carryBlk m c t := by
    funext n j
    unfold carryIn carryBlk
    rw [coords_1 t]
    by_cases h : t.val % 2 = 0
    · rw [if_pos h, if_pos h]
    · rw [if_neg h, if_neg h]
      exact hs ⟨t.val - 1, lt_of_le_of_lt (Nat.sub_le _ _) t.isLt⟩ (by show t.val - 1 + 1 = t.val; omega) n j
  rw [hc, coords_1 t]
  rfl

/-- What is carried between points. -/
def carried (c : Dev nD) (t : Fin (cfg0.N + 1)) : sProp 𝕄 :=
  iprop(iprop((∃ d, ⌜Held m c t d⌝ ∗ owns (c : Thread nD τ) (Memref.whole cc0_scratch0) fullShare d)) ∗ (∃ r, prngReg c r))

/-- What each output is held to. -/
def Rl (c : Dev nD) : (w : Fin cfg0.W) → Fin cfg0.N → ((cfg0.win w).block.Idx → Elt Ideal (cfg0.win w).elt) → Prop
  | ⟨12, _⟩, t, X => X = queryBlk m c t
  | ⟨13, _⟩, t, X => X = keyBlk m c t
  | ⟨14, _⟩, t, X => X = valueBlk m c t
  | ⟨15, _⟩, t, X => X = poolBlk m c t
  | _, _, _ => True

/-- The outputs. -/
def outs (w : Fin cfg0.W) : Bool := Nat.ble 12 w.val

/-- The region's data: every input's buffer at its block after every point. -/
def dat (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨_ + 17, h⟩ => absurd h (Nat.not_lt.2 (Nat.le_add_left _ _))
  Φ t := carried m c t
  q _ := fullShare
  owed _ := 0

theorem dat_A (c : Dev nD) (w : Fin cfg0.W) : (dat m c).A w = V m c (Pipeline.arrRef spec0 w) := by
  dsimp only [dat]

theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = iblk m c 4 t := by dsimp only [dat]
theorem after_5 (c : Dev nD) (t : Fin cfg0.N) : (dat m c).after 5 t = iblk m c 5 t := by dsimp only [dat]
theorem after_6 (c : Dev nD) (t : Fin cfg0.N) : (dat m c).after 6 t = iblk m c 6 t := by dsimp only [dat]
theorem after_7 (c : Dev nD) (t : Fin cfg0.N) : (dat m c).after 7 t = iblk m c 7 t := by dsimp only [dat]
theorem after_8 (c : Dev nD) (t : Fin cfg0.N) : (dat m c).after 8 t = iblk m c 8 t := by dsimp only [dat]
theorem after_9 (c : Dev nD) (t : Fin cfg0.N) : (dat m c).after 9 t = iblk m c 9 t := by dsimp only [dat]
theorem after_10 (c : Dev nD) (t : Fin cfg0.N) : (dat m c).after 10 t = iblk m c 10 t := by dsimp only [dat]
theorem after_11 (c : Dev nD) (t : Fin cfg0.N) : (dat m c).after 11 t = iblk m c 11 t := by dsimp only [dat]
theorem before_0 (c : Dev nD) (t : Fin cfg0.N) (d) : (dat m c).before 0 t d = iblk m c 0 t :=
  before0_0_of m (dat m c) (dat_A m c 0) (after_0 m c) t d
theorem before_1 (c : Dev nD) (t : Fin cfg0.N) (d) : (dat m c).before 1 t d = iblk m c 1 t :=
  before0_1_of m (dat m c) (dat_A m c 1) (after_1 m c) t d
theorem before_2 (c : Dev nD) (t : Fin cfg0.N) (d) : (dat m c).before 2 t d = iblk m c 2 t :=
  before0_2_of m (dat m c) (dat_A m c 2) (after_2 m c) t d
theorem before_3 (c : Dev nD) (t : Fin cfg0.N) (d) : (dat m c).before 3 t d = iblk m c 3 t :=
  before0_3_of m (dat m c) (dat_A m c 3) (after_3 m c) t d
theorem before_4 (c : Dev nD) (t : Fin cfg0.N) (d) : (dat m c).before 4 t d = iblk m c 4 t :=
  before0_4_of m (dat m c) (dat_A m c 4) (after_4 m c) t d
theorem before_5 (c : Dev nD) (t : Fin cfg0.N) (d) : (dat m c).before 5 t d = iblk m c 5 t :=
  before0_5_of m (dat m c) (dat_A m c 5) (after_5 m c) t d
theorem before_6 (c : Dev nD) (t : Fin cfg0.N) (d) : (dat m c).before 6 t d = iblk m c 6 t :=
  before0_6_of m (dat m c) (dat_A m c 6) (after_6 m c) t d
theorem before_7 (c : Dev nD) (t : Fin cfg0.N) (d) : (dat m c).before 7 t d = iblk m c 7 t :=
  before0_7_of m (dat m c) (dat_A m c 7) (after_7 m c) t d
theorem before_8 (c : Dev nD) (t : Fin cfg0.N) (d) : (dat m c).before 8 t d = iblk m c 8 t :=
  before0_8_of m (dat m c) (dat_A m c 8) (after_8 m c) t d
theorem before_9 (c : Dev nD) (t : Fin cfg0.N) (d) : (dat m c).before 9 t d = iblk m c 9 t :=
  before0_9_of m (dat m c) (dat_A m c 9) (after_9 m c) t d
theorem before_10 (c : Dev nD) (t : Fin cfg0.N) (d) : (dat m c).before 10 t d = iblk m c 10 t :=
  before0_10_of m (dat m c) (dat_A m c 10) (after_10 m c) t d
theorem before_11 (c : Dev nD) (t : Fin cfg0.N) (d) : (dat m c).before 11 t d = iblk m c 11 t :=
  before0_11_of m (dat m c) (dat_A m c 11) (after_11 m c) t d

/-- What is carried, with the scratch as a buffer owned at some contents. -/
theorem carried_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]; try rfl

/-- What the body is called with at point `t`. -/
def bodyPre (c : Dev nD) (t : Fin cfg0.N) : sProp 𝕄 :=
  iprop((dat m c).Φ t.castSucc ∗ (dat m c).owesAt () t.castSucc
    ∗ (∃ d, owns (c : Thread nD τ) (win0_0.stage (cfg0.slots t 0)) fullShare ((dat m c).before 0 t d))
    ∗ (∃ d, owns (c : Thread nD τ) (win0_1.stage (cfg0.slots t 1)) fullShare ((dat m c).before 1 t d))
    ∗ (∃ d, owns (c : Thread nD τ) (win0_2.stage (cfg0.slots t 2)) fullShare ((dat m c).before 2 t d))
    ∗ (∃ d, owns (c : Thread nD τ) (win0_3.stage (cfg0.slots t 3)) fullShare ((dat m c).before 3 t d))
    ∗ (∃ d, owns (c : Thread nD τ) (win0_4.stage (cfg0.slots t 4)) fullShare ((dat m c).before 4 t d))
    ∗ (∃ d, owns (c : Thread nD τ) (win0_5.stage (cfg0.slots t 5)) fullShare ((dat m c).before 5 t d))
    ∗ (∃ d, owns (c : Thread nD τ) (win0_6.stage (cfg0.slots t 6)) fullShare ((dat m c).before 6 t d))
    ∗ (∃ d, owns (c : Thread nD τ) (win0_7.stage (cfg0.slots t 7)) fullShare ((dat m c).before 7 t d))
    ∗ (∃ d, owns (c : Thread nD τ) (win0_8.stage (cfg0.slots t 8)) fullShare ((dat m c).before 8 t d))
    ∗ (∃ d, owns (c : Thread nD τ) (win0_9.stage (cfg0.slots t 9)) fullShare ((dat m c).before 9 t d))
    ∗ (∃ d, owns (c : Thread nD τ) (win0_10.stage (cfg0.slots t 10)) fullShare ((dat m c).before 10 t d))
    ∗ (∃ d, owns (c : Thread nD τ) (win0_11.stage (cfg0.slots t 11)) fullShare ((dat m c).before 11 t d))
    ∗ (∃ Y, ⌜((dat m c).toRRel outs (Rl m c)).Finds 12 t Y⌝ ∗ owns (c : Thread nD τ) (win0_12.stage (cfg0.slots t 12)) fullShare Y)
    ∗ (∃ Y, ⌜((dat m c).toRRel outs (Rl m c)).Finds 13 t Y⌝ ∗ owns (c : Thread nD τ) (win0_13.stage (cfg0.slots t 13)) fullShare Y)
    ∗ (∃ Y, ⌜((dat m c).toRRel outs (Rl m c)).Finds 14 t Y⌝ ∗ owns (c : Thread nD τ) (win0_14.stage (cfg0.slots t 14)) fullShare Y)
    ∗ (∃ Y, ⌜((dat m c).toRRel outs (Rl m c)).Finds 15 t Y⌝ ∗ owns (c : Thread nD τ) (win0_15.stage (cfg0.slots t 15)) fullShare Y)
    ∗ (∃ Y, ⌜((dat m c).toRRel outs (Rl m c)).Finds 16 t Y⌝ ∗ owns (c : Thread nD τ) (win0_16.stage (cfg0.slots t 16)) fullShare Y))

/-- What it returns. -/
def bodyPost (c : Dev nD) (t : Fin cfg0.N) : sProp 𝕄 :=
  iprop((dat m c).Φ t.succ ∗ (dat m c).owesAt () t.succ
    ∗ owns (c : Thread nD τ) (win0_0.stage (cfg0.slots t 0)) fullShare ((dat m c).after 0 t)
    ∗ owns (c : Thread nD τ) (win0_1.stage (cfg0.slots t 1)) fullShare ((dat m c).after 1 t)
    ∗ owns (c : Thread nD τ) (win0_2.stage (cfg0.slots t 2)) fullShare ((dat m c).after 2 t)
    ∗ owns (c : Thread nD τ) (win0_3.stage (cfg0.slots t 3)) fullShare ((dat m c).after 3 t)
    ∗ owns (c : Thread nD τ) (win0_4.stage (cfg0.slots t 4)) fullShare ((dat m c).after 4 t)
    ∗ owns (c : Thread nD τ) (win0_5.stage (cfg0.slots t 5)) fullShare ((dat m c).after 5 t)
    ∗ owns (c : Thread nD τ) (win0_6.stage (cfg0.slots t 6)) fullShare ((dat m c).after 6 t)
    ∗ owns (c : Thread nD τ) (win0_7.stage (cfg0.slots t 7)) fullShare ((dat m c).after 7 t)
    ∗ owns (c : Thread nD τ) (win0_8.stage (cfg0.slots t 8)) fullShare ((dat m c).after 8 t)
    ∗ owns (c : Thread nD τ) (win0_9.stage (cfg0.slots t 9)) fullShare ((dat m c).after 9 t)
    ∗ owns (c : Thread nD τ) (win0_10.stage (cfg0.slots t 10)) fullShare ((dat m c).after 10 t)
    ∗ owns (c : Thread nD τ) (win0_11.stage (cfg0.slots t 11)) fullShare ((dat m c).after 11 t)
    ∗ (∃ X, ⌜Rl m c 12 t X⌝ ∗ owns (c : Thread nD τ) (win0_12.stage (cfg0.slots t 12)) fullShare X)
    ∗ (∃ X, ⌜Rl m c 13 t X⌝ ∗ owns (c : Thread nD τ) (win0_13.stage (cfg0.slots t 13)) fullShare X)
    ∗ (∃ X, ⌜Rl m c 14 t X⌝ ∗ owns (c : Thread nD τ) (win0_14.stage (cfg0.slots t 14)) fullShare X)
    ∗ (∃ X, ⌜Rl m c 15 t X⌝ ∗ owns (c : Thread nD τ) (win0_15.stage (cfg0.slots t 15)) fullShare X)
    ∗ (∃ X, ⌜Rl m c 16 t X⌝ ∗ owns (c : Thread nD τ) (win0_16.stage (cfg0.slots t 16)) fullShare X))

set_option maxHeartbeats 4000000 in
/-- The body at a point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dat m c).owesAt () t.succ = (dat m c).owesAt () t.castSucc from rfl, after_0, after_1, after_2, after_3, after_4, after_5, after_6, after_7, after_8, after_9, after_10, after_11]
  rw [show (dat m c).Φ t.succ = carried m c t.succ from rfl, show (dat m c).Φ t.castSucc = carried m c t.castSucc from rfl]
  unfold carried
  iintro ⟨⟨⟨%s, %hs, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, -, H12⟩, ⟨%d13, -, H13⟩, ⟨%d14, -, H14⟩, ⟨%d15, -, H15⟩, ⟨%d16, -, H16⟩⟩
  iapply ((run (F := Ideal) _ _ _ _ _ _ _ _ _ _ _ _ _ _ _ _ _ _ _ _ _ _ _ _ _ _ _ _ _ _ _ _ _ _ _ _ c (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) d16 s).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexact H16
  isplitl [HS0]; · iexact HS0
  iintro ⟨H0, H1, H2, H3, H4, H5, H6, H7, H8, H9, H10, H11, ⟨%e12, H12⟩, ⟨%e13, H13⟩, ⟨%e14, H14⟩, ⟨%e15, H15⟩, H16, HS0⟩
  isplitl [HS0 Hg]
  · isplitl [HS0]
    · iexists _; isplitr
      swap
      · unfold owns; iexists _; isplitr
        swap; · iexact HS0
        ipureintro; rfl
      ipureintro
      intro t' ht' n j
      obtain rfl : t' = t := Fin.ext (Nat.succ.inj ht')
      exact scratch_read _ _ _ _ _ _ _ _ _ _ _ _ _ _ _ _ _ _ _ _ _ _ _ _ _ _ _ _ _ _ _ _ _ _ _ _ c (grid0.coords t') (iblk m c 0 t') (iblk m c 1 t') (iblk m c 2 t') (iblk m c 3 t') (iblk m c 4 t') (iblk m c 5 t') (iblk m c 6 t') (iblk m c 7 t') (iblk m c 8 t') (iblk m c 9 t') (iblk m c 10 t') (iblk m c 11 t') d16 s n j
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iexists (queryBlk m c t); isplitr
    · ipureintro; exact rfl
    unfold owns; iexists _; isplitr
    swap; · iexact H12
    ipureintro; exact query_read _ _ _ _ _ _ _ _ _ _ _ _ _ _ _ _ _ _ _ _ _ _ _ _ _ _ _ _ _ _ _ _ _ _ _ _ c (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) d16 s _
  isplitl [H13]
  · iexists (keyBlk m c t); isplitr
    · ipureintro; exact rfl
    unfold owns; iexists _; isplitr
    swap; · iexact H13
    ipureintro; exact key_read _ _ _ _ _ _ _ _ _ _ _ _ _ _ _ _ _ _ _ _ _ _ _ _ _ _ _ _ _ _ _ _ _ _ _ _ c (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) d16 s _
  isplitl [H14]
  · iexists (valueBlk m c t); isplitr
    · ipureintro; exact rfl
    unfold owns; iexists _; isplitr
    swap; · iexact H14
    ipureintro; exact value_read _ _ _ _ _ _ _ _ _ _ _ _ _ _ _ _ _ _ _ _ _ _ _ _ _ _ _ _ _ _ _ _ _ _ _ _ c (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) d16 s _
  isplitl [H15]
  · iexists (poolBlk m c t); isplitr
    · ipureintro; exact rfl
    unfold owns; iexists _; isplitr
    swap; · iexact H15
    ipureintro; exact (pool_read _ _ _ _ _ _ _ _ _ _ _ _ _ _ _ _ _ _ _ _ _ _ _ _ _ _ _ _ _ _ _ _ _ _ _ _ c (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) d16 s _).trans (pool_blk m c t s hs)
  iexists _; isplitr
  swap
  · unfold owns; iexists _; isplitr
    swap; · iexact H16
    ipureintro; rfl
  ipureintro; exact trivial

/-- The body table's row at point `t`'s slots is the body. -/
theorem row_eq (t : Fin cfg0.N) :
    defs₀ (F := Ideal) .tc cfg0.body (cfg0.bodyArgs t (cfg0.slots t)) = bodyAt0 t := by
  unfold defs₀; rw [Defs.onTc_tc]

/-- The body meets its obligation at every point. -/
theorem obligation (c : Dev nD) : BodyObligationRel (dat m c) (defs₀ (F := Ideal)) Variants.none () Set.univ outs (Rl m c) := fun t => by
  rw [bigSep_W0, bigSep_W0, row_eq]
  exact triple_restated (sound_body m c t) rfl .rfl fun _ => .rfl

theorem carried_in (c : Dev nD) : (Pipeline.ΦA spec0 c : sProp 𝕄) ⊢ carried m c 0 := by
  rw [carried_eq]; unfold carried
  iintro ⟨⟨%s, HS0⟩, Hg⟩
  isplitl [HS0]
  · iexists s; isplitr
    · ipureintro; exact fun t' ht' => absurd ht' (Nat.succ_ne_zero _)
    iexact HS0
  iexact Hg

theorem carried_out (c : Dev nD) : carried m c (Fin.last cfg0.N) ⊢ (Pipeline.ΦA spec0 c : sProp 𝕄) := by
  rw [carried_eq]; unfold carried
  iintro ⟨⟨%s, -, HS0⟩, Hg⟩
  isplitl [HS0]
  · iexists s; iexact HS0
  iexact Hg

set_option backward.isDefEq.respectTransparency.types false in
/-- The launch. -/
theorem launch : θ_run defs (onTc (τ := τ) (main (F := Ideal))) (s₀ m ρ)
    (fun r => RDat.FramePost cfg0 (fun c => (dat m c).toRRel outs (Rl m c)) (V m) r ∧ r.2.sem = fun _ => 0) :=
  Pipeline.RDat.θ_run_frame_track (Q' := _) cfgs (0 : Fin 1) launch0 defs₀ Variants.none (fun c => (dat m c).toRRel outs (Rl m c)) m ρ main
    (hbody := fun c => (obligation m c).toRRel) (hshare := fun c => (dat m c).share_full fun _ => rfl)
    (howed := fun _ _ => rfl) (V := V m) (hmain := hmain m Variants.none) (hA := dat_A m) (hin := carried_in m) (hout := carried_out m)

/-- After a run the arguments are as they were. -/
theorem args_of (r : PUnit × MemSt nD τ sig (Elt Ideal)) (h : RDat.FramePost cfg0 (fun c => (dat m c).toRRel outs (Rl m c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(RDat.FramePost.arr_in h c 0 rfl).trans ((dat_A m c 0).trans (V_main_arg0 m c)),
    (RDat.FramePost.arr_in h c 1 rfl).trans ((dat_A m c 1).trans (V_main_arg1 m c)),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- The run ends, the arguments as they were and every semaphore at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨args_of m r h.1, h.2⟩) (launch m ρ)

end Cert.MixIn

end
-- ==== Proof.MixPoolSpec.lean ====
/-
  The pooled rows of the token functions: each group of 128 columns as the trailing mean over its window of 2, 4, 8 or 16
  positions, minus the token's own value; before the first position the window holds zeros.
-/
module

public import proofs.«01_k».proof.Proof.MixSpec
public import proofs.«01_k».proof.Proof.MixPool

@[expose] public section

set_option maxRecDepth 16384

noncomputable section

namespace Cert.MixIn

open Idealize.ShloMosaic Idealize.ShloMosaic.TcCoe Idealize.ShloMosaic.Tactic Cert.MixIdeal

theorem dbl_congr (k : ℕ) (S S' : ℕ → EReal) (n n' : ℕ) (h : ∀ d, d < 2 ^ k → S (n - d) = S' (n' - d)) : dbl k S n = dbl k S' n' := by
  induction k generalizing n n' with
  | zero => exact h 0 (by decide)
  | succ k ih =>
    have e : 2 ^ (k + 1) = 2 ^ k + 2 ^ k := by rw [pow_succ]; omega
    refine congrArg₂ (· + ·) (ih n n' fun d hd => h d (by omega)) (ih _ _ fun d hd => ?_)
    rw [Nat.sub_sub, Nat.sub_sub]
    exact h _ (by omega)

theorem pooled_congr (k p : ℕ) (S S' : ℕ → EReal) (n n' : ℕ) (h : ∀ d, d < 2 ^ k → S (n - d) = S' (n' - d)) :
    pooled k p S n = pooled k p S' n' := by
  unfold pooled
  rw [dbl_congr k S S' n n' h]
  exact congrArg _ (h 0 (Nat.two_pow_pos k))

theorem dbl_1 (S : ℕ → EReal) (s : ℕ) : dbl 1 S (16 + s) = S (16 + s) + S (15 + s) := by
  simp only [dbl, Nat.reducePow, show 16 + s - 1 = 15 + s by omega]

theorem dbl_2 (S : ℕ → EReal) (s : ℕ) : dbl 2 S (16 + s) = S (16 + s) + S (15 + s) + S (14 + s) + S (13 + s) := by
  simp only [dbl, Nat.reducePow]
  simp only [Nat.sub_sub, Nat.reduceAdd]
  simp only [show 16 + s - 1 = 15 + s by omega, show 16 + s - 2 = 14 + s by omega, show 16 + s - 3 = 13 + s by omega]
  ac_rfl

theorem dbl_3 (S : ℕ → EReal) (s : ℕ) : dbl 3 S (16 + s) = S (16 + s) + S (15 + s) + S (14 + s) + S (13 + s) + S (12 + s) + S (11 + s) + S (10 + s) + S (9 + s) := by
  simp only [dbl, Nat.reducePow]
  simp only [Nat.sub_sub, Nat.reduceAdd]
  simp only [show 16 + s - 1 = 15 + s by omega, show 16 + s - 2 = 14 + s by omega, show 16 + s - 3 = 13 + s by omega, show 16 + s - 4 = 12 + s by omega, show 16 + s - 5 = 11 + s by omega, show 16 + s - 6 = 10 + s by omega, show 16 + s - 7 = 9 + s by omega]
  ac_rfl

theorem dbl_4 (S : ℕ → EReal) (s : ℕ) : dbl 4 S (16 + s) = S (16 + s) + S (15 + s) + S (14 + s) + S (13 + s) + S (12 + s) + S (11 + s) + S (10 + s) + S (9 + s) + S (8 + s) + S (7 + s) + S (6 + s) + S (5 + s) + S (4 + s) + S (3 + s) + S (2 + s) + S (1 + s) := by
  simp only [dbl, Nat.reducePow]
  simp only [Nat.sub_sub, Nat.reduceAdd]
  simp only [show 16 + s - 1 = 15 + s by omega, show 16 + s - 2 = 14 + s by omega, show 16 + s - 3 = 13 + s by omega, show 16 + s - 4 = 12 + s by omega, show 16 + s - 5 = 11 + s by omega, show 16 + s - 6 = 10 + s by omega, show 16 + s - 7 = 9 + s by omega, show 16 + s - 8 = 8 + s by omega, show 16 + s - 9 = 7 + s by omega, show 16 + s - 10 = 6 + s by omega, show 16 + s - 11 = 5 + s by omega, show 16 + s - 12 = 4 + s by omega, show 16 + s - 13 = 3 + s by omega, show 16 + s - 14 = 2 + s by omega, show 16 + s - 15 = 1 + s by omega]
  ac_rfl

variable (x : FVec Ideal S32x2048x1024 .f32) (md : FVec Ideal S32x6x1024 .f32) (g : FVec Ideal S1x1024 .f32) (w : FVec Ideal S1x1024x2048 .f32)

/-- The sequence to pool in column `j`: 16 zeros, then the tokens' projections. -/
def seqU (b : Fin 32) (j : Fin 512) (n : ℕ) : EReal :=
  if h : 16 ≤ n ∧ n - 16 < 2048 then tokenProj x md g w b ⟨n - 16, h.2⟩ ⟨1536 + j.val, by omega⟩ else 0

/-- The token's pooled value, column `j`. -/
def tokenPool (b : Fin 32) (s : Fin 2048) (j : Fin 512) : EReal :=
  pooled (j.val / 128 + 1) (s.val + 1) (seqU x md g w b j) (16 + s.val)

end Cert.MixIn

end
-- ==== Proof.MixPoolArray.lean ====
/-
  The pooled array after a run: every entry is the token function of the arguments at its place.
-/
module

public import proofs.«01_k».proof.Proof.MixArray
public import proofs.«01_k».proof.Proof.MixLaunch
public import proofs.«01_k».proof.Proof.MixPoolSpec

@[expose] public section

set_option maxRecDepth 16384

noncomputable section

namespace Cert.MixIn

open Idealize.ShloMosaic Idealize.ShloMosaic.TcCoe Idealize.ShloMosaic.Tactic Cert.MixIdeal Cert.MixIdeal.Gen
open Idealize.ShloMosaic.Pipeline (Dat RDat)
open Idealize.SL.Sem

variable (m : (ℓ : Loc nD τ sig) → Buf (Elt Ideal) ℓ)

theorem idx_pool : ∀ t : Fin grid0.N, win0_6.index t = ![0, 0] ∧ win0_15.index t = ![t.val / 2, t.val % 2, 0] := by
  decide +kernel

/-- Window 6's block: the columns of the weights to pool. -/
theorem iblk6_apply (c : Dev nD) (t : Fin cfg0.N) (k : Fin 1024) (n : Fin 512) :
    iblk m c 6 t (ix2 k n) = argW m c (ix3 0 k ⟨1536 + n.val, by omega⟩) := by
  have e := (idx_pool t).1
  unfold iblk
  rw [View.read_apply]
  show V m c main_v23 _ = _
  trans V m c main_v23 (ix2 k n)
  · congr 1
    funext q
    apply Fin.ext
    fin_cases q
    · show win0_6.index t 0 * 1024 + 1 * k.val = k.val; rw [e]; simp
    · show win0_6.index t 1 * 512 + 1 * n.val = n.val; rw [e]; simp
  · entry_read
    pointwise

/-- A point's columns to pool. -/
theorem uBlk_eq (c : Dev nD) (t : Fin cfg0.N) (b : Fin 32) (h : Fin 2) (hb : t.val / 2 = b.val) (hh : t.val % 2 = h.val)
    (r : Fin 1024) (n : Fin 512) : uBlk m c t r n
      = tokenProj (argX m c) (argMod m c) (argG m c) (argW m c) b ⟨h.val * 1024 + r.val, by omega⟩ ⟨1536 + n.val, by omega⟩ := by
  unfold uBlk uAt colProj tokenProj
  rw [hidRow_eq m c t b h hb hh]
  simp only [iblk6_apply]

/-- The point's stream is the sequence's, from 16 positions before the point's first. -/
theorem stream_eq (c : Dev nD) (t : Fin cfg0.N) (b : Fin 32) (h : Fin 2) (hb : t.val / 2 = b.val) (hh : t.val % 2 = h.val)
    (n : ℕ) (hn : n < 1040) (j : Fin 512) :
    stream (carryBlk m c t) (uBlk m c t) n j = seqU (argX m c) (argMod m c) (argG m c) (argW m c) b j (h.val * 1024 + n) := by
  by_cases hlt : n < 16
  · unfold stream carryBlk
    rw [dif_pos hlt]
    by_cases h0 : t.val % 2 = 0
    · unfold seqU
      rw [if_pos h0, dif_neg (by omega)]
    · rw [if_neg h0, uBlk_eq m c _ b 0 (by show (t.val - 1) / 2 = b.val; omega) (by show (t.val - 1) % 2 = 0; omega)]
      unfold seqU
      rw [dif_pos (by omega)]
      exact congrArg (fun q => tokenProj (argX m c) (argMod m c) (argG m c) (argW m c) b q _)
        (Fin.ext (by show 0 * 1024 + (1008 + n) = h.val * 1024 + n - 16; omega))
  · rw [stream_of _ _ n ⟨n - 16, by omega⟩ (by show n = 16 + (n - 16); omega), uBlk_eq m c t b h hb hh]
    unfold seqU
    rw [dif_pos (by omega)]
    exact congrArg (fun q => tokenProj (argX m c) (argMod m c) (argG m c) (argW m c) b q _)
      (Fin.ext (by show h.val * 1024 + (n - 16) = h.val * 1024 + n - 16; omega))

theorem pool_point (c : Dev nD) (t : Fin cfg0.N) (b : Fin 32) (h : Fin 2) (hb : t.val / 2 = b.val) (hh : t.val % 2 = h.val)
    (r : Fin 1024) (j : Fin 512) : poolAt (t.val % 2) (carryBlk m c t) (uBlk m c t) r j
      = tokenPool (argX m c) (argMod m c) (argG m c) (argW m c) b ⟨h.val * 1024 + r.val, by omega⟩ j := by
  unfold poolAt tokenPool
  rw [show 1024 * (t.val % 2) + r.val + 1 = h.val * 1024 + r.val + 1 by omega]
  refine pooled_congr _ _ _ _ _ _ fun d hd => ?_
  have hk : j.val / 128 + 1 ≤ 4 := by omega
  have h16 : d < 16 := lt_of_lt_of_le hd (Nat.pow_le_pow_right (by decide) hk)
  rw [stream_eq m c t b h hb hh _ (by omega)]
  exact congrArg (seqU (argX m c) (argMod m c) (argG m c) (argW m c) b j)
    (by show h.val * 1024 + (16 + r.val - d) = 16 + (h.val * 1024 + r.val) - d; omega)

/-- The pooled array. -/
def poolArr (c : Dev nD) : Buf (Elt Ideal) ((c : Thread nD τ).loc main_v26_3) := fun i : S32x2048x512.Idx =>
  tokenPool (argX m c) (argMod m c) (argG m c) (argW m c) (i 0) (i 1) (i 2)

theorem pool_final (c : Dev nD) (d : Dat τ (Elt Ideal) Unit ℕ (UR sig nD τ) ℕ cfg0 c)
    (hd : ∀ t : Fin cfg0.N, d.after 15 t = poolBlk m c t) : d.arrAt 15 cfg0.N = poolArr m c := by
  refine d.arrAt_eq_of_cover 15 (poolArr m c) (fun t _ => ?_) fun i => ?_
  · show (cfg0.win 15).cut (grid0.coords t) (d.after 15 t) = _
    rw [hd]
    have hN : t.val < 64 := lt_of_lt_of_eq t.isLt N_eq
    have e := (idx_pool t).2
    funext y
    obtain ⟨u, r, n, rfl⟩ : ∃ (u : Fin 1) (r : Fin 1024) (n : Fin 512), y = ix3 u r n := ⟨y 0, y 1, y 2, eq_ix3 y⟩
    obtain rfl : u = 0 := Subsingleton.elim _ _
    refine (pool_point m c t ⟨t.val / 2, by omega⟩ ⟨t.val % 2, by omega⟩ rfl rfl r n).trans ?_
    rw [View.read_apply]
    show poolArr m c (ix3 ⟨t.val / 2, by omega⟩ ⟨t.val % 2 * 1024 + r.val, by omega⟩ n) = _
    congr 1
    funext q
    apply Fin.ext
    fin_cases q
    · show t.val / 2 = win0_15.index t 0 * 1 + 1 * 0; rw [e]; simp
    · show t.val % 2 * 1024 + r.val = win0_15.index t 1 * 1024 + 1 * r.val; rw [e]; simp
    · show n.val = win0_15.index t 2 * 512 + 1 * n.val; rw [e]; simp
  · have h0 : (i 0 : Nat) < 32 := (i 0).isLt
    have h1 : (i 1 : Nat) < 2048 := (i 1).isLt
    have h2 : (i 2 : Nat) < 512 := (i 2).isLt
    refine ⟨⟨2 * (i 0 : Nat) + (i 1 : Nat) / 1024, by rw [N_eq]; omega⟩, ?_, ?_⟩
    · exact flush0_15 _
    · generalize ht : (⟨2 * (i 0 : Nat) + (i 1 : Nat) / 1024, _⟩ : Fin cfg0.N) = t
      have htv : t.val = 2 * (i 0 : Nat) + (i 1 : Nat) / 1024 := by rw [← ht]
      have e := (idx_pool t).2
      show (show S32x2048x512.Idx from i) ∈ ((View.whole main_v26_3).slice (win0_15.rect t)).set
      rw [View.set_slice_whole, Rect.mem_set_unit]
      intro a
      fin_cases a
      · show win0_15.index t 0 * 1 ≤ (i 0 : Nat) ∧ (i 0 : Nat) < win0_15.index t 0 * 1 + 1
        rw [e]; simp; omega
      · show win0_15.index t 1 * 1024 ≤ (i 1 : Nat) ∧ (i 1 : Nat) < win0_15.index t 1 * 1024 + 1024
        rw [e]; simp; omega
      · show win0_15.index t 2 * 512 ≤ (i 2 : Nat) ∧ (i 2 : Nat) < win0_15.index t 2 * 512 + 512
        rw [e]; simp; omega

end Cert.MixIn

end
-- ==== Proof.MixFinal.lean ====
/-
  The result arrays after a run: every entry is the token function of the arguments at its place.
-/
module

public import proofs.«01_k».proof.Proof.MixArray
public import proofs.«01_k».proof.Proof.MixLaunch
public import proofs.«01_k».proof.Proof.MixPoolArray

@[expose] public section

set_option maxRecDepth 16384

noncomputable section

namespace Cert.MixIn

open Idealize.ShloMosaic Idealize.ShloMosaic.TcCoe Idealize.ShloMosaic.Tactic Cert.MixIdeal Cert.MixIdeal.Gen
open Idealize.ShloMosaic.Pipeline (Dat RDat)
open Idealize.SL.Sem

variable (m : (ℓ : Loc nD τ sig) → Buf (Elt Ideal) ℓ) (ρ : Dev nD → PrngReg)

/-- The query array: entry (batch, group, column, row) belongs to position 256 · group + row. -/
def queryArr (c : Dev nD) : Buf (Elt Ideal) ((c : Thread nD τ).loc main_v26_0) := fun i : S32x8x512x256.Idx =>
  tokenQuery (argX m c) (argMod m c) (argG m c) (argW m c) (argCos m c) (argSin m c) (i 0)
    ⟨256 * (i 1).val + (i 3).val, by have h1 : (i 1).val < 8 := (i 1).isLt; have h3 : (i 3).val < 256 := (i 3).isLt; omega⟩ (i 2)

theorem query_final (c : Dev nD) (d : Dat τ (Elt Ideal) Unit ℕ (UR sig nD τ) ℕ cfg0 c)
    (hd : ∀ t : Fin cfg0.N, d.after 12 t = queryBlk m c t) : d.arrAt 12 cfg0.N = queryArr m c := by
  refine d.arrAt_eq_of_cover 12 (queryArr m c) (fun t _ => ?_) fun i => ?_
  · show (cfg0.win 12).cut (grid0.coords t) (d.after 12 t) = _
    rw [hd]
    have hN : t.val < 64 := lt_of_lt_of_eq t.isLt N_eq
    have e := (idx_facts t).2.2.2.2.2.2.2.2.2.2.2.1
    funext y
    obtain ⟨u, g, n, r, rfl⟩ : ∃ (u : Fin 1) (g : Fin 4) (n : Fin 512) (r : Fin 256), y = ix4 u g n r := ⟨y 0, y 1, y 2, y 3, eq_ix4 y⟩
    obtain rfl : u = 0 := Subsingleton.elim _ _
    refine (query_point m c t ⟨t.val / 2, by omega⟩ ⟨t.val % 2, by omega⟩ rfl rfl ⟨256 * g.val + r.val, by omega⟩ n).trans ?_
    rw [View.read_apply]
    trans queryArr m c (ix4 ⟨t.val / 2, by omega⟩ ⟨4 * (t.val % 2) + g.val, by omega⟩ n r)
    · exact congrArg (fun s => tokenQuery (argX m c) (argMod m c) (argG m c) (argW m c) (argCos m c) (argSin m c) _ s n)
        (Fin.ext (by show t.val % 2 * 1024 + (256 * g.val + r.val) = 256 * (4 * (t.val % 2) + g.val) + r.val; omega))
    · congr 1
      funext q
      apply Fin.ext
      fin_cases q
      · show t.val / 2 = win0_12.index t 0 * 1 + 1 * 0; rw [e]; simp
      · show 4 * (t.val % 2) + g.val = win0_12.index t 1 * 4 + 1 * g.val; rw [e]; simp; omega
      · show n.val = win0_12.index t 2 * 512 + 1 * n.val; rw [e]; simp
      · show r.val = win0_12.index t 3 * 256 + 1 * r.val; rw [e]; simp
  · have h0 : (i 0 : Nat) < 32 := (i 0).isLt
    have h1 : (i 1 : Nat) < 8 := (i 1).isLt
    have h2 : (i 2 : Nat) < 512 := (i 2).isLt
    have h3 : (i 3 : Nat) < 256 := (i 3).isLt
    refine ⟨⟨2 * (i 0 : Nat) + (i 1 : Nat) / 4, by rw [N_eq]; omega⟩, ?_, ?_⟩
    · exact flush0_12 _
    · generalize ht : (⟨2 * (i 0 : Nat) + (i 1 : Nat) / 4, _⟩ : Fin cfg0.N) = t
      have htv : t.val = 2 * (i 0 : Nat) + (i 1 : Nat) / 4 := by rw [← ht]
      have e := (idx_facts t).2.2.2.2.2.2.2.2.2.2.2.1
      show (show S32x8x512x256.Idx from i) ∈ ((View.whole main_v26_0).slice (win0_12.rect t)).set
      rw [View.set_slice_whole, Rect.mem_set_unit]
      intro a
      fin_cases a
      · show win0_12.index t 0 * 1 ≤ (i 0 : Nat) ∧ (i 0 : Nat) < win0_12.index t 0 * 1 + 1
        rw [e]; simp; omega
      · show win0_12.index t 1 * 4 ≤ (i 1 : Nat) ∧ (i 1 : Nat) < win0_12.index t 1 * 4 + 4
        rw [e]; simp; omega
      · show win0_12.index t 2 * 512 ≤ (i 2 : Nat) ∧ (i 2 : Nat) < win0_12.index t 2 * 512 + 512
        rw [e]; simp; omega
      · show win0_12.index t 3 * 256 ≤ (i 3 : Nat) ∧ (i 3 : Nat) < win0_12.index t 3 * 256 + 256
        rw [e]; simp; omega

/-- The key array. -/
def keyArr (c : Dev nD) : Buf (Elt Ideal) ((c : Thread nD τ).loc main_v26_1) := fun i : S32x2048x512.Idx =>
  tokenKey (argX m c) (argMod m c) (argG m c) (argW m c) (argCos m c) (argSin m c) (i 0) (i 1) (i 2)

theorem key_final (c : Dev nD) (d : Dat τ (Elt Ideal) Unit ℕ (UR sig nD τ) ℕ cfg0 c)
    (hd : ∀ t : Fin cfg0.N, d.after 13 t = keyBlk m c t) : d.arrAt 13 cfg0.N = keyArr m c := by
  refine d.arrAt_eq_of_cover 13 (keyArr m c) (fun t _ => ?_) fun i => ?_
  · show (cfg0.win 13).cut (grid0.coords t) (d.after 13 t) = _
    rw [hd]
    have hN : t.val < 64 := lt_of_lt_of_eq t.isLt N_eq
    have e := (idx_facts t).2.2.2.2.2.2.2.2.2.2.2.2.1
    funext y
    obtain ⟨u, r, n, rfl⟩ : ∃ (u : Fin 1) (r : Fin 1024) (n : Fin 512), y = ix3 u r n := ⟨y 0, y 1, y 2, eq_ix3 y⟩
    obtain rfl : u = 0 := Subsingleton.elim _ _
    refine (key_point m c t ⟨t.val / 2, by omega⟩ ⟨t.val % 2, by omega⟩ rfl rfl r n).trans ?_
    rw [View.read_apply]
    show keyArr m c (ix3 ⟨t.val / 2, by omega⟩ ⟨t.val % 2 * 1024 + r.val, by omega⟩ n) = _
    congr 1
    funext q
    apply Fin.ext
    fin_cases q
    · show t.val / 2 = win0_13.index t 0 * 1 + 1 * 0; rw [e]; simp
    · show t.val % 2 * 1024 + r.val = win0_13.index t 1 * 1024 + 1 * r.val; rw [e]; simp
    · show n.val = win0_13.index t 2 * 512 + 1 * n.val; rw [e]; simp
  · have h0 : (i 0 : Nat) < 32 := (i 0).isLt
    have h1 : (i 1 : Nat) < 2048 := (i 1).isLt
    have h2 : (i 2 : Nat) < 512 := (i 2).isLt
    refine ⟨⟨2 * (i 0 : Nat) + (i 1 : Nat) / 1024, by rw [N_eq]; omega⟩, ?_, ?_⟩
    · exact flush0_13 _
    · generalize ht : (⟨2 * (i 0 : Nat) + (i 1 : Nat) / 1024, _⟩ : Fin cfg0.N) = t
      have htv : t.val = 2 * (i 0 : Nat) + (i 1 : Nat) / 1024 := by rw [← ht]
      have e := (idx_facts t).2.2.2.2.2.2.2.2.2.2.2.2.1
      show (show S32x2048x512.Idx from i) ∈ ((View.whole main_v26_1).slice (win0_13.rect t)).set
      rw [View.set_slice_whole, Rect.mem_set_unit]
      intro a
      fin_cases a
      · show win0_13.index t 0 * 1 ≤ (i 0 : Nat) ∧ (i 0 : Nat) < win0_13.index t 0 * 1 + 1
        rw [e]; simp; omega
      · show win0_13.index t 1 * 1024 ≤ (i 1 : Nat) ∧ (i 1 : Nat) < win0_13.index t 1 * 1024 + 1024
        rw [e]; simp; omega
      · show win0_13.index t 2 * 512 ≤ (i 2 : Nat) ∧ (i 2 : Nat) < win0_13.index t 2 * 512 + 512
        rw [e]; simp; omega

/-- The value array, laid out as the queries' is. -/
def valueArr (c : Dev nD) : Buf (Elt Ideal) ((c : Thread nD τ).loc main_v26_2) := fun i : S32x8x640x256.Idx =>
  tokenValue (argX m c) (argMod m c) (argG m c) (argW m c) (i 0)
    ⟨256 * (i 1).val + (i 3).val, by have h1 : (i 1).val < 8 := (i 1).isLt; have h3 : (i 3).val < 256 := (i 3).isLt; omega⟩ (i 2)

theorem value_final (c : Dev nD) (d : Dat τ (Elt Ideal) Unit ℕ (UR sig nD τ) ℕ cfg0 c)
    (hd : ∀ t : Fin cfg0.N, d.after 14 t = valueBlk m c t) : d.arrAt 14 cfg0.N = valueArr m c := by
  refine d.arrAt_eq_of_cover 14 (valueArr m c) (fun t _ => ?_) fun i => ?_
  · show (cfg0.win 14).cut (grid0.coords t) (d.after 14 t) = _
    rw [hd]
    have hN : t.val < 64 := lt_of_lt_of_eq t.isLt N_eq
    have e := (idx_facts t).2.2.2.2.2.2.2.2.2.2.2.2.2
    funext y
    obtain ⟨u, g, n, r, rfl⟩ : ∃ (u : Fin 1) (g : Fin 4) (n : Fin 640) (r : Fin 256), y = ix4 u g n r := ⟨y 0, y 1, y 2, y 3, eq_ix4 y⟩
    obtain rfl : u = 0 := Subsingleton.elim _ _
    refine (value_point m c t ⟨t.val / 2, by omega⟩ ⟨t.val % 2, by omega⟩ rfl rfl ⟨256 * g.val + r.val, by omega⟩ n).trans ?_
    rw [View.read_apply]
    trans valueArr m c (ix4 ⟨t.val / 2, by omega⟩ ⟨4 * (t.val % 2) + g.val, by omega⟩ n r)
    · exact congrArg (fun s => tokenValue (argX m c) (argMod m c) (argG m c) (argW m c) _ s n)
        (Fin.ext (by show t.val % 2 * 1024 + (256 * g.val + r.val) = 256 * (4 * (t.val % 2) + g.val) + r.val; omega))
    · congr 1
      funext q
      apply Fin.ext
      fin_cases q
      · show t.val / 2 = win0_14.index t 0 * 1 + 1 * 0; rw [e]; simp
      · show 4 * (t.val % 2) + g.val = win0_14.index t 1 * 4 + 1 * g.val; rw [e]; simp; omega
      · show n.val = win0_14.index t 2 * 640 + 1 * n.val; rw [e]; simp
      · show r.val = win0_14.index t 3 * 256 + 1 * r.val; rw [e]; simp
  · have h0 : (i 0 : Nat) < 32 := (i 0).isLt
    have h1 : (i 1 : Nat) < 8 := (i 1).isLt
    have h2 : (i 2 : Nat) < 640 := (i 2).isLt
    have h3 : (i 3 : Nat) < 256 := (i 3).isLt
    refine ⟨⟨2 * (i 0 : Nat) + (i 1 : Nat) / 4, by rw [N_eq]; omega⟩, ?_, ?_⟩
    · exact flush0_14 _
    · generalize ht : (⟨2 * (i 0 : Nat) + (i 1 : Nat) / 4, _⟩ : Fin cfg0.N) = t
      have htv : t.val = 2 * (i 0 : Nat) + (i 1 : Nat) / 4 := by rw [← ht]
      have e := (idx_facts t).2.2.2.2.2.2.2.2.2.2.2.2.2
      show (show S32x8x640x256.Idx from i) ∈ ((View.whole main_v26_2).slice (win0_14.rect t)).set
      rw [View.set_slice_whole, Rect.mem_set_unit]
      intro a
      fin_cases a
      · show win0_14.index t 0 * 1 ≤ (i 0 : Nat) ∧ (i 0 : Nat) < win0_14.index t 0 * 1 + 1
        rw [e]; simp; omega
      · show win0_14.index t 1 * 4 ≤ (i 1 : Nat) ∧ (i 1 : Nat) < win0_14.index t 1 * 4 + 4
        rw [e]; simp; omega
      · show win0_14.index t 2 * 640 ≤ (i 2 : Nat) ∧ (i 2 : Nat) < win0_14.index t 2 * 640 + 640
        rw [e]; simp; omega
      · show win0_14.index t 3 * 256 ≤ (i 3 : Nat) ∧ (i 3 : Nat) < win0_14.index t 3 * 256 + 256
        rw [e]; simp; omega

/-- After a run the four arrays hold these. -/
theorem results_of (r : PUnit × MemSt nD τ sig (Elt Ideal))
    (h : RDat.FramePost cfg0 (fun c => (dat m c).toRRel outs (Rl m c)) (V m) r) (c : Dev nD) :
    r.2.mem ((c.tc : Thread nD τ).loc main_v26_0) = queryArr m c ∧ r.2.mem ((c.tc : Thread nD τ).loc main_v26_1) = keyArr m c
      ∧ r.2.mem ((c.tc : Thread nD τ).loc main_v26_2) = valueArr m c
      ∧ r.2.mem ((c.tc : Thread nD τ).loc main_v26_3) = poolArr m c := by
  obtain ⟨after, hL, hA⟩ := RDat.FramePost.exists_exact h c
  refine ⟨(hA 12).trans (query_final m c _ fun t => ?_), (hA 13).trans (key_final m c _ fun t => ?_),
    (hA 14).trans (value_final m c _ fun t => ?_), (hA 15).trans (pool_final m c _ fun t => ?_)⟩
  · exact Dat.toRRel_leaves (dat m c) rfl (hL 12 t (flush0_12 t))
  · exact Dat.toRRel_leaves (dat m c) rfl (hL 13 t (flush0_13 t))
  · exact Dat.toRRel_leaves (dat m c) rfl (hL 14 t (flush0_14 t))
  · exact Dat.toRRel_leaves (dat m c) rfl (hL 15 t (flush0_15 t))

end Cert.MixIn

end
-- ==== Proof.MixRef.lean ====
/-
  The mixer reference's result arrays: every entry is the same function of the arguments as the kernel's.
-/
module

public import proofs.«01_k».proof.Proof.MixSpec
public import proofs.«01_k».proof.Proof.Gen.MixReferenceIdeal.Read

@[expose] public section

set_option maxRecDepth 16384

noncomputable section

namespace Cert.MixIn.Ref

open Idealize.ShloMosaic Idealize.ShloMosaic.TcCoe Idealize.ShloMosaic.Tactic Cert.MixReferenceIdeal Cert.MixReferenceIdeal.Gen Cert.MixReferenceIdeal.Read
open Cert.MixIn

variable (x0 : FVec Ideal S32x2048x1024 .f32) (x1 : FVec Ideal S32x6x1024 .f32) (x2 : FVec Ideal S1x1024 .f32)
  (x3 : FVec Ideal S1x1024x2048 .f32) (x4 x5 : FVec Ideal S2048x32 .f32)

/-- The modulated row. -/
theorem v21_at (b : Fin 32) (s : Fin 2048) (j : Fin 1024) :
    val_main_v21 (F := Ideal) x0 x1 x2 (ix3 b s j) = tokenRow x0 x1 x2 b s j := by
  unfold tokenRow OutMlp.modulated OutMlp.scale
  pointwise [val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rw [mul_assoc _ (x2 _)]

/-- The projection. -/
theorem v23_at (b : Fin 32) (s n : Fin 2048) :
    val_main_v23 (F := Ideal) x0 x1 x2 x3 (ix3 b s n) = tokenProj x0 x1 x2 x3 b s n := by
  unfold tokenProj
  simp only [← v21_at]
  unfold val_main_v23
  generalize val_main_v21 (F := Ideal) x0 x1 x2 = z
  pointwise [val_main_v22]

/-- A rotation of heads, as the reference writes it. -/
def rope (z : FVec Ideal S32x2048x8x64 .f32) (c s : FVec Ideal S2048x32 .f32) : FVec Ideal S32x2048x8x64 .f32 :=
  let lo := extractStridedSlice S32x2048x8x32 ![0, 0, 0, 0] z slices_S32x2048x8x64_S32x2048x8x32_0_0_0_0
  let hi := extractStridedSlice S32x2048x8x32 ![0, 0, 0, 32] z slices_S32x2048x8x64_S32x2048x8x32_0_0_0_32
  let cb : FVec Ideal S32x2048x8x32 .f32 := broadcastInDim S32x2048x8x32 ![0, 1, 2, 3] bcast_S1x2048x1x32_S32x2048x8x32_0_1_2_3 (broadcastInDim S1x2048x1x32 ![1, 3] bcast_S2048x32_S1x2048x1x32_1_3 c)
  let sb : FVec Ideal S32x2048x8x32 .f32 := broadcastInDim S32x2048x8x32 ![0, 1, 2, 3] bcast_S1x2048x1x32_S32x2048x8x32_0_1_2_3 (broadcastInDim S1x2048x1x32 ![1, 3] bcast_S2048x32_S1x2048x1x32_1_3 s)
  concatenate S32x2048x8x64 3 [⟨S32x2048x8x32, subf (φ := .f32) (mulf lo cb) (mulf hi sb)⟩, ⟨S32x2048x8x32, addf (φ := .f32) (mulf hi cb) (mulf lo sb)⟩]
    concatenates_S32x2048x8x32_S32x2048x8x32_S32x2048x8x64_d3

theorem rope_lo (z : FVec Ideal S32x2048x8x64 .f32) (c s : FVec Ideal S2048x32 .f32) (b : Fin 32) (t : Fin 2048) (h : Fin 8)
    (d : Fin 32) : rope z c s (ix4 b t h ⟨d.val, by omega⟩)
      = z (ix4 b t h ⟨d.val, by omega⟩) * c (ix2 t d) - z (ix4 b t h ⟨32 + d.val, by omega⟩) * s (ix2 t d) := by
  pointwise [rope]

theorem rope_hi (z : FVec Ideal S32x2048x8x64 .f32) (c s : FVec Ideal S2048x32 .f32) (b : Fin 32) (t : Fin 2048) (h : Fin 8)
    (d : Fin 32) : rope z c s (ix4 b t h ⟨32 + d.val, by omega⟩)
      = z (ix4 b t h ⟨32 + d.val, by omega⟩) * c (ix2 t d) + z (ix4 b t h ⟨d.val, by omega⟩) * s (ix2 t d) := by
  pointwise [rope]

/-- Its entry at head `n / 64`, column `n % 64`, where the heads are those of a row. -/
theorem rope_at (z : FVec Ideal S32x2048x8x64 .f32) (c s : FVec Ideal S2048x32 .f32) (p : Fin 512 → EReal) (b : Fin 32)
    (t : Fin 2048) (hz : ∀ n : Fin 512, z (ix4 b t ⟨n.val / 64, by omega⟩ ⟨n.val % 64, by omega⟩) = p n) (n : Fin 512) :
    rope z c s (ix4 b t ⟨n.val / 64, by omega⟩ ⟨n.val % 64, by omega⟩)
      = ropeRow p (fun d => c (ix2 t d)) (fun d => s (ix2 t d)) n := by
  have get : ∀ (k : Fin 512) (h : Fin 8) (d : Fin 64), h.val = k.val / 64 → d.val = k.val % 64 → z (ix4 b t h d) = p k := by
    intro k h d e1 e2
    rw [← hz k, ← (Fin.ext e1 : h = ⟨k.val / 64, by omega⟩), ← (Fin.ext e2 : d = ⟨k.val % 64, by omega⟩)]
  unfold ropeRow
  split_ifs with h
  · refine (rope_lo z c s b t _ ⟨n.val % 64, h⟩).trans ?_
    rw [get n _ _ rfl rfl, get ⟨n.val + 32, by omega⟩ _ _ (by show n.val / 64 = (n.val + 32) / 64; omega) (by show 32 + n.val % 64 = (n.val + 32) % 64; omega)]
  · have e : (⟨n.val % 64, by omega⟩ : Fin 64) = ⟨32 + (n.val % 64 - 32), by omega⟩ := Fin.ext (by show n.val % 64 = 32 + (n.val % 64 - 32); omega)
    rw [e]
    refine (rope_hi z c s b t _ ⟨n.val % 64 - 32, by omega⟩).trans ?_
    rw [get n _ _ rfl (by show 32 + (n.val % 64 - 32) = n.val % 64; omega),
      get ⟨n.val - 32, by omega⟩ _ _ (by show n.val / 64 = (n.val - 32) / 64; omega) (by show n.val % 64 - 32 = (n.val - 32) % 64; omega)]

/-- The queries', keys' and values' heads are columns of the projection. -/
theorem v25_at (b : Fin 32) (s : Fin 2048) (n : Fin 512) :
    val_main_v25 (F := Ideal) x0 x1 x2 x3 (ix4 b s ⟨n.val / 64, by omega⟩ ⟨n.val % 64, by omega⟩)
      = tokenProj x0 x1 x2 x3 b s ⟨n.val, by omega⟩ := by
  rw [← v23_at, val_main_v25_apply, val_main_v24_apply]
  refine congrArg _ (funext fun a => Fin.ext ?_)
  fin_cases a <;> simp [idx_main_v24, idx_main_v25, ix4, ix3] <;> omega

theorem v44_at (b : Fin 32) (s : Fin 2048) (n : Fin 512) :
    val_main_v44 (F := Ideal) x0 x1 x2 x3 (ix4 b s ⟨n.val / 64, by omega⟩ ⟨n.val % 64, by omega⟩)
      = tokenProj x0 x1 x2 x3 b s ⟨512 + n.val, by omega⟩ := by
  rw [← v23_at, val_main_v44_apply, val_main_v43_apply]
  refine congrArg _ (funext fun a => Fin.ext ?_)
  fin_cases a <;> simp [idx_main_v43, idx_main_v44, ix4, ix3] <;> omega

theorem v61_at (b : Fin 32) (s : Fin 2048) (h : Fin 8) (d : Fin 64) :
    val_main_v61 (F := Ideal) x0 x1 x2 x3 (ix4 b s h d) = tokenProj x0 x1 x2 x3 b s ⟨1024 + (64 * h.val + d.val), by omega⟩ := by
  rw [← v23_at, val_main_v61_apply, val_main_v60_apply]
  refine congrArg _ (funext fun a => Fin.ext ?_)
  fin_cases a <;> simp [idx_main_v60, idx_main_v61, ix4, ix3] <;> omega

theorem v40_eq : val_main_v40 (F := Ideal) x0 x1 x2 x3 x4 x5 = rope (val_main_v25 (F := Ideal) x0 x1 x2 x3) x4 x5 := rfl

theorem v59_eq : val_main_v59 (F := Ideal) x0 x1 x2 x3 x4 x5 = rope (val_main_v44 (F := Ideal) x0 x1 x2 x3) x4 x5 := rfl

/-- The query result. -/
theorem v71_at (b : Fin 32) (i : Fin 8) (n : Fin 512) (r : Fin 256) :
    val_main_v71 (F := Ideal) x0 x1 x2 x3 x4 x5 (ix4 b i n r) = tokenQuery x0 x1 x2 x3 x4 x5 b ⟨256 * i.val + r.val, by omega⟩ n := by
  unfold tokenQuery
  rw [← rope_at _ x4 x5 _ b _ (v25_at x0 x1 x2 x3 b ⟨256 * i.val + r.val, by omega⟩) n, ← v40_eq]
  trans val_main_v42 (F := Ideal) x0 x1 x2 x3 x4 x5 (ix4 b ⟨256 * i.val + r.val, by omega⟩ ⟨n.val / 64, by omega⟩ ⟨n.val % 64, by omega⟩)
  · show val_main_v63 (F := Ideal) x0 x1 x2 x3 x4 x5 (ix4 b i n r) = _
    rw [val_main_v63_apply, val_main_v62_apply]
    refine congrArg _ (funext fun a => Fin.ext ?_)
    fin_cases a <;> simp [idx_main_v63, idx_main_v62, ix4] <;> omega
  · unfold val_main_v42
    generalize val_main_v40 (F := Ideal) x0 x1 x2 x3 x4 x5 = z
    pointwise [val_main_v41, val_main_cst_3]

/-- The key result. -/
theorem v72_at (b : Fin 32) (s : Fin 2048) (n : Fin 512) :
    val_main_v72 (F := Ideal) x0 x1 x2 x3 x4 x5 (ix3 b s n) = tokenKey x0 x1 x2 x3 x4 x5 b s n := by
  unfold tokenKey
  rw [← rope_at _ x4 x5 _ b _ (v44_at x0 x1 x2 x3 b s) n, ← v59_eq]
  show val_main_v64 (F := Ideal) x0 x1 x2 x3 x4 x5 (ix3 b s n) = _
  rw [val_main_v64_apply]
  refine congrArg _ (funext fun a => Fin.ext ?_)
  fin_cases a <;> simp [idx_main_v64, ix4, ix3] <;> omega

theorem v68_lo (b : Fin 32) (s : Fin 2048) (h : Fin 8) (d : Fin 64) :
    val_main_v68 (F := Ideal) x0 x1 x2 x3 (ix4 b s h ⟨d.val, by omega⟩) = val_main_v61 (F := Ideal) x0 x1 x2 x3 (ix4 b s h d) := by
  unfold val_main_v68
  generalize val_main_v61 (F := Ideal) x0 x1 x2 x3 = z
  pointwise

theorem v68_hi (b : Fin 32) (s : Fin 2048) (h : Fin 8) (d : Fin 16) :
    val_main_v68 (F := Ideal) x0 x1 x2 x3 (ix4 b s h ⟨64 + d.val, by omega⟩) = val_main_v67 (F := Ideal) (ix4 b s h d) := by
  unfold val_main_v68
  generalize val_main_v61 (F := Ideal) x0 x1 x2 x3 = z
  generalize val_main_v67 (F := Ideal) = y
  pointwise

theorem v67_one (b : Fin 32) (s : Fin 2048) (h : Fin 8) :
    val_main_v67 (F := Ideal) (ix4 b s h 0) = 1 := by
  unfold val_main_v67
  refine (show _ = val_main_v65 (F := Ideal) (ix4 b s h 0) from ?_).trans ?_
  · generalize val_main_v65 (F := Ideal) = y
    generalize val_main_v66 (F := Ideal) = z
    pointwise
  · pointwise [val_main_v65, val_main_cst_4]

theorem v67_zero (b : Fin 32) (s : Fin 2048) (h : Fin 8) (d : Fin 15) :
    val_main_v67 (F := Ideal) (ix4 b s h ⟨1 + d.val, by omega⟩) = 0 := by
  unfold val_main_v67
  refine (show _ = val_main_v66 (F := Ideal) (ix4 b s h d) from ?_).trans ?_
  · generalize val_main_v65 (F := Ideal) = y
    generalize val_main_v66 (F := Ideal) = z
    pointwise
  · pointwise [val_main_v66, val_main_cst_5]

/-- The value result. -/
theorem v73_at (b : Fin 32) (i : Fin 8) (n : Fin 640) (r : Fin 256) :
    val_main_v73 (F := Ideal) x0 x1 x2 x3 (ix4 b i n r) = tokenValue x0 x1 x2 x3 b ⟨256 * i.val + r.val, by omega⟩ n := by
  unfold tokenValue valueRow
  trans val_main_v68 (F := Ideal) x0 x1 x2 x3 (ix4 b ⟨256 * i.val + r.val, by omega⟩ ⟨n.val / 80, by omega⟩ ⟨n.val % 80, by omega⟩)
  · show val_main_v70 (F := Ideal) x0 x1 x2 x3 (ix4 b i n r) = _
    rw [val_main_v70_apply, val_main_v69_apply]
    refine congrArg _ (funext fun a => Fin.ext ?_)
    fin_cases a <;> simp [idx_main_v70, idx_main_v69, ix4] <;> omega
  · split_ifs with h1 h2
    · exact (v68_lo x0 x1 x2 x3 b _ _ ⟨n.val % 80, h1⟩).trans (v61_at x0 x1 x2 x3 b _ _ _)
    · have e : (⟨n.val % 80, by omega⟩ : Fin 80) = ⟨64 + (0 : Fin 16).val, by decide⟩ := Fin.ext h2
      rw [e]
      exact (v68_hi x0 x1 x2 x3 b _ _ 0).trans (v67_one b _ _)
    · have e : (⟨n.val % 80, by omega⟩ : Fin 80) = ⟨64 + (1 + (n.val % 80 - 65)), by omega⟩ :=
        Fin.ext (by show n.val % 80 = 64 + (1 + (n.val % 80 - 65)); omega)
      rw [e]
      exact (v68_hi x0 x1 x2 x3 b _ _ ⟨1 + (n.val % 80 - 65), by omega⟩).trans (v67_zero b _ _ ⟨n.val % 80 - 65, by omega⟩)

end Cert.MixIn.Ref

end
-- ==== Proof.MixPoolRef.lean ====
/-
  The mixer reference's pooled rows: every entry is the token function of the arguments.
-/
module

public import proofs.«01_k».proof.Proof.MixRef
public import proofs.«01_k».proof.Proof.MixPoolSpec

@[expose] public section

set_option maxRecDepth 16384

noncomputable section

namespace Cert.MixIn.Ref

open Idealize.ShloMosaic Idealize.ShloMosaic.TcCoe Idealize.ShloMosaic.Tactic Cert.MixReferenceIdeal Cert.MixReferenceIdeal.Gen Cert.MixReferenceIdeal.Read
open Cert.MixIn

variable (x0 : FVec Ideal S32x2048x1024 .f32) (x1 : FVec Ideal S32x6x1024 .f32) (x2 : FVec Ideal S1x1024 .f32) (x3 : FVec Ideal S1x1024x2048 .f32)

theorem v76_lo (b : Fin 32) (n : Fin 16) (j : Fin 512) :
    val_main_v76 (F := Ideal) x0 x1 x2 x3 (ix3 b ⟨n.val, by omega⟩ j) = 0 := by
  unfold val_main_v76
  generalize val_main_v75 (F := Ideal) x0 x1 x2 x3 = z
  pointwise [val_main_v74, val_main_cst_6]

theorem v76_hi (b : Fin 32) (s : Fin 2048) (j : Fin 512) :
    val_main_v76 (F := Ideal) x0 x1 x2 x3 (ix3 b ⟨16 + s.val, by omega⟩ j) = tokenProj x0 x1 x2 x3 b s ⟨1536 + j.val, by omega⟩ := by
  rw [← v23_at]
  unfold val_main_v76 val_main_v75
  generalize val_main_v23 (F := Ideal) x0 x1 x2 x3 = z
  pointwise [val_main_v74]

/-- The padded sequence. -/
theorem v76_at (b : Fin 32) (n : ℕ) (hn : n < 2064) (j : Fin 512) :
    val_main_v76 (F := Ideal) x0 x1 x2 x3 (ix3 b ⟨n, hn⟩ j) = seqU x0 x1 x2 x3 b j n := by
  unfold seqU
  by_cases h : n < 16
  · rw [dif_neg (by omega)]
    exact v76_lo x0 x1 x2 x3 b ⟨n, h⟩ j
  · rw [dif_pos (by omega), ← v76_hi]
    exact congrArg (fun q => val_main_v76 (F := Ideal) x0 x1 x2 x3 (ix3 b q j)) (Fin.ext (by show n = 16 + (n - 16); omega))

/-- The number of positions seen, as the reference counts it. -/
theorem seen_at (s w : ℕ) : FloatOps.sitofp (F := Ideal) FTy.f32 (IntOp.minsi (IntOp.addi (BitVec.ofNat 32 s) 1#32) (BitVec.ofNat 32 w)) = seen (s + 1) w := by
  unfold seen
  rw [BitVec.ofNat_add]
  rfl

theorem v91_at (b : Fin 32) (s : Fin 2048) (c : Fin 128) :
    val_main_v91 (F := Ideal) x0 x1 x2 x3 (ix3 b s c) = pooled 1 (s.val + 1) (seqU x0 x1 x2 x3 b ⟨c.val, by omega⟩) (16 + s.val) := by
  unfold pooled
  rw [dbl_1, show 2 ^ 1 = 2 from rfl, ← seen_at]
  rw [← v76_at x0 x1 x2 x3 b (16 + s.val) (by omega), ← v76_at x0 x1 x2 x3 b (15 + s.val) (by omega)]
  unfold val_main_v91 val_main_v90 val_main_v89 val_main_v81 val_main_v80 val_main_v79 val_main_v78
  generalize val_main_v76 (F := Ideal) x0 x1 x2 x3 = z
  pointwise [val_main_v82, val_main_v83, val_main_v84, val_main_v85, val_main_v86, val_main_v87, val_main_v88, val_main_v77, val_main_c, val_main_c_7]

theorem v109_at (b : Fin 32) (s : Fin 2048) (c : Fin 128) :
    val_main_v109 (F := Ideal) x0 x1 x2 x3 (ix3 b s c) = pooled 2 (s.val + 1) (seqU x0 x1 x2 x3 b ⟨128 + c.val, by omega⟩) (16 + s.val) := by
  unfold pooled
  rw [dbl_2, show 2 ^ 2 = 4 from rfl, ← seen_at]
  rw [← v76_at x0 x1 x2 x3 b (16 + s.val) (by omega), ← v76_at x0 x1 x2 x3 b (15 + s.val) (by omega), ← v76_at x0 x1 x2 x3 b (14 + s.val) (by omega), ← v76_at x0 x1 x2 x3 b (13 + s.val) (by omega)]
  unfold val_main_v109 val_main_v108 val_main_v107 val_main_v99 val_main_v98 val_main_v97 val_main_v96 val_main_v95 val_main_v94 val_main_v93 val_main_v92
  generalize val_main_v76 (F := Ideal) x0 x1 x2 x3 = z
  pointwise [val_main_v100, val_main_v101, val_main_v102, val_main_v103, val_main_v104, val_main_v105, val_main_v106, val_main_v77, val_main_c_8, val_main_c_9]

theorem v135_at (b : Fin 32) (s : Fin 2048) (c : Fin 128) :
    val_main_v135 (F := Ideal) x0 x1 x2 x3 (ix3 b s c) = pooled 3 (s.val + 1) (seqU x0 x1 x2 x3 b ⟨256 + c.val, by omega⟩) (16 + s.val) := by
  unfold pooled
  rw [dbl_3, show 2 ^ 3 = 8 from rfl, ← seen_at]
  rw [← v76_at x0 x1 x2 x3 b (16 + s.val) (by omega), ← v76_at x0 x1 x2 x3 b (15 + s.val) (by omega), ← v76_at x0 x1 x2 x3 b (14 + s.val) (by omega), ← v76_at x0 x1 x2 x3 b (13 + s.val) (by omega), ← v76_at x0 x1 x2 x3 b (12 + s.val) (by omega), ← v76_at x0 x1 x2 x3 b (11 + s.val) (by omega), ← v76_at x0 x1 x2 x3 b (10 + s.val) (by omega), ← v76_at x0 x1 x2 x3 b (9 + s.val) (by omega)]
  unfold val_main_v135 val_main_v134 val_main_v133 val_main_v125 val_main_v124 val_main_v123 val_main_v122 val_main_v121 val_main_v120 val_main_v119 val_main_v118 val_main_v117 val_main_v116 val_main_v115 val_main_v114 val_main_v113 val_main_v112 val_main_v111 val_main_v110
  generalize val_main_v76 (F := Ideal) x0 x1 x2 x3 = z
  pointwise [val_main_v126, val_main_v127, val_main_v128, val_main_v129, val_main_v130, val_main_v131, val_main_v132, val_main_v77, val_main_c_10, val_main_c_11]

theorem v177_at (b : Fin 32) (s : Fin 2048) (c : Fin 128) :
    val_main_v177 (F := Ideal) x0 x1 x2 x3 (ix3 b s c) = pooled 4 (s.val + 1) (seqU x0 x1 x2 x3 b ⟨384 + c.val, by omega⟩) (16 + s.val) := by
  unfold pooled
  rw [dbl_4, show 2 ^ 4 = 16 from rfl, ← seen_at]
  rw [← v76_at x0 x1 x2 x3 b (16 + s.val) (by omega), ← v76_at x0 x1 x2 x3 b (15 + s.val) (by omega), ← v76_at x0 x1 x2 x3 b (14 + s.val) (by omega), ← v76_at x0 x1 x2 x3 b (13 + s.val) (by omega), ← v76_at x0 x1 x2 x3 b (12 + s.val) (by omega), ← v76_at x0 x1 x2 x3 b (11 + s.val) (by omega), ← v76_at x0 x1 x2 x3 b (10 + s.val) (by omega), ← v76_at x0 x1 x2 x3 b (9 + s.val) (by omega), ← v76_at x0 x1 x2 x3 b (8 + s.val) (by omega), ← v76_at x0 x1 x2 x3 b (7 + s.val) (by omega), ← v76_at x0 x1 x2 x3 b (6 + s.val) (by omega), ← v76_at x0 x1 x2 x3 b (5 + s.val) (by omega), ← v76_at x0 x1 x2 x3 b (4 + s.val) (by omega), ← v76_at x0 x1 x2 x3 b (3 + s.val) (by omega), ← v76_at x0 x1 x2 x3 b (2 + s.val) (by omega), ← v76_at x0 x1 x2 x3 b (1 + s.val) (by omega)]
  unfold val_main_v177 val_main_v176 val_main_v175 val_main_v167 val_main_v166 val_main_v165 val_main_v164 val_main_v163 val_main_v162 val_main_v161 val_main_v160 val_main_v159 val_main_v158 val_main_v157 val_main_v156 val_main_v155 val_main_v154 val_main_v153 val_main_v152 val_main_v151 val_main_v150 val_main_v149 val_main_v148 val_main_v147 val_main_v146 val_main_v145 val_main_v144 val_main_v143 val_main_v142 val_main_v141 val_main_v140 val_main_v139 val_main_v138 val_main_v137 val_main_v136
  generalize val_main_v76 (F := Ideal) x0 x1 x2 x3 = z
  pointwise [val_main_v168, val_main_v169, val_main_v170, val_main_v171, val_main_v172, val_main_v173, val_main_v174, val_main_v77, val_main_c_12, val_main_c_13]

theorem v179_0 (b : Fin 32) (s : Fin 2048) (c : Fin 128) :
    val_main_v179 (F := Ideal) x0 x1 x2 x3 (ix3 b s ⟨c.val, by omega⟩) = val_main_v91 (F := Ideal) x0 x1 x2 x3 (ix3 b s c) := by
  unfold val_main_v179 val_main_v178
  generalize val_main_v91 (F := Ideal) x0 x1 x2 x3 = z0
  generalize val_main_v109 (F := Ideal) x0 x1 x2 x3 = z1
  generalize val_main_v135 (F := Ideal) x0 x1 x2 x3 = z2
  generalize val_main_v177 (F := Ideal) x0 x1 x2 x3 = z3
  pointwise

theorem v179_1 (b : Fin 32) (s : Fin 2048) (c : Fin 128) :
    val_main_v179 (F := Ideal) x0 x1 x2 x3 (ix3 b s ⟨128 + c.val, by omega⟩) = val_main_v109 (F := Ideal) x0 x1 x2 x3 (ix3 b s c) := by
  unfold val_main_v179 val_main_v178
  generalize val_main_v91 (F := Ideal) x0 x1 x2 x3 = z0
  generalize val_main_v109 (F := Ideal) x0 x1 x2 x3 = z1
  generalize val_main_v135 (F := Ideal) x0 x1 x2 x3 = z2
  generalize val_main_v177 (F := Ideal) x0 x1 x2 x3 = z3
  pointwise

theorem v179_2 (b : Fin 32) (s : Fin 2048) (c : Fin 128) :
    val_main_v179 (F := Ideal) x0 x1 x2 x3 (ix3 b s ⟨256 + c.val, by omega⟩) = val_main_v135 (F := Ideal) x0 x1 x2 x3 (ix3 b s c) := by
  unfold val_main_v179 val_main_v178
  generalize val_main_v91 (F := Ideal) x0 x1 x2 x3 = z0
  generalize val_main_v109 (F := Ideal) x0 x1 x2 x3 = z1
  generalize val_main_v135 (F := Ideal) x0 x1 x2 x3 = z2
  generalize val_main_v177 (F := Ideal) x0 x1 x2 x3 = z3
  pointwise
  rw [dif_neg (show ¬ 256 + c.val < 128 by omega), dif_neg (show ¬ 256 + c.val - 128 < 128 by omega), dif_pos (show 256 + c.val - 128 - 128 < 128 by omega)]
  exact congrArg (fun l => z2 (ix3 b s l)) (Fin.ext (by show 256 + c.val - 128 - 128 = c.val; omega))

theorem v179_3 (b : Fin 32) (s : Fin 2048) (c : Fin 128) :
    val_main_v179 (F := Ideal) x0 x1 x2 x3 (ix3 b s ⟨384 + c.val, by omega⟩) = val_main_v177 (F := Ideal) x0 x1 x2 x3 (ix3 b s c) := by
  unfold val_main_v179 val_main_v178
  generalize val_main_v91 (F := Ideal) x0 x1 x2 x3 = z0
  generalize val_main_v109 (F := Ideal) x0 x1 x2 x3 = z1
  generalize val_main_v135 (F := Ideal) x0 x1 x2 x3 = z2
  generalize val_main_v177 (F := Ideal) x0 x1 x2 x3 = z3
  pointwise
  rw [dif_neg (show ¬ 384 + c.val < 128 by omega), dif_neg (show ¬ 384 + c.val - 128 < 128 by omega), dif_neg (show ¬ 384 + c.val - 128 - 128 < 128 by omega)]
  exact congrArg (fun l => z3 (ix3 b s l)) (Fin.ext (by show 384 + c.val - 128 - 128 - 128 = c.val; omega))

/-- The pooled rows. -/
theorem v179_at (b : Fin 32) (s : Fin 2048) (j : Fin 512) :
    val_main_v179 (F := Ideal) x0 x1 x2 x3 (ix3 b s j) = tokenPool x0 x1 x2 x3 b s j := by
  have hj : ∃ (q : Fin 4) (c : Fin 128), j = ⟨128 * q.val + c.val, by omega⟩ :=
    ⟨⟨j.val / 128, by omega⟩, ⟨j.val % 128, by omega⟩, Fin.ext (by show j.val = 128 * (j.val / 128) + j.val % 128; omega)⟩
  obtain ⟨q, c, rfl⟩ := hj
  unfold tokenPool
  have e : (128 * q.val + c.val) / 128 = q.val := by omega
  simp only [e]
  fin_cases q
  · have h0 : (⟨128 * 0 + c.val, by omega⟩ : Fin 512) = ⟨c.val, by omega⟩ := Fin.ext (by show 128 * 0 + c.val = c.val; omega)
    show val_main_v179 (F := Ideal) x0 x1 x2 x3 (ix3 b s ⟨128 * 0 + c.val, _⟩) = pooled 1 (s.val + 1) (seqU x0 x1 x2 x3 b ⟨128 * 0 + c.val, _⟩) (16 + s.val)
    rw [h0]
    exact (v179_0 x0 x1 x2 x3 b s c).trans (v91_at x0 x1 x2 x3 b s c)
  · exact (v179_1 x0 x1 x2 x3 b s c).trans (v109_at x0 x1 x2 x3 b s c)
  · exact (v179_2 x0 x1 x2 x3 b s c).trans (v135_at x0 x1 x2 x3 b s c)
  · exact (v179_3 x0 x1 x2 x3 b s c).trans (v177_at x0 x1 x2 x3 b s c)

end Cert.MixIn.Ref

end
-- ==== Proof.MixClaims.lean ====
/-
  The claims about the mixer's input projections: the frames, and that the kernel's four results are the reference's.
-/
module

public import proofs.«01_k».proof.Defs
public import proofs.«01_k».proof.Proof.MixBitsLaunch
public import proofs.«01_k».proof.Proof.MixFinal
public import proofs.«01_k».proof.Proof.MixRef
public import proofs.«01_k».proof.Proof.MixPoolRef
public import proofs.«01_k».proof.Proof.Gen.MixReferenceIdeal.Run

@[expose] public section

noncomputable section

namespace Cert.MixIn

open Idealize.ShloMosaic Idealize.ShloMosaic.TcCoe Idealize.ShloMosaic.Tactic Idealize.SL.Sem

/-- The kernel's frame, at bits. -/
theorem frame_kernel : Cert.quiescent_Mix := fun m ρ _ => Cert.MixBits.frame m ρ

/-- The idealized kernel's frame. -/
theorem frame_ideal : Cert.quiescent_MixIdeal := fun m ρ _ => frame m ρ

/-- The reference's frame: its run, which declares no semaphore. -/
theorem frame_reference : Cert.quiescent_MixReferenceIdeal := fun m ρ _ =>
  (θ_run Cert.MixReferenceIdeal.defs _ _).mono (fun r h => ⟨fun c => (h c).2.2.2.2, sem_eq_zero_of_no_sems (by decide) r.2⟩)
    (Cert.MixReferenceIdeal.Value.run (F := Ideal) m ρ)

/-- The idealization rewrote nothing. -/
theorem preserves : Cert.preserves_Mix_MixIdeal := trivial

/-- Kernel and reference end with the same four arrays. -/
theorem algebraic : Cert.algebraic_MixIdeal_MixReferenceIdeal := by
  intro m ρ m' ρ' _ hagree
  refine ⟨fun c => queryArr m c, fun c => keyArr m c, fun c => valueArr m c, fun c => poolArr m c, ?_, ?_⟩
  · refine (θ_run Cert.MixIdeal.defs _ _).mono (fun r h c => ?_) (launch m ρ)
    obtain ⟨hq, hk, hv, hp⟩ := results_of m r h.1 c
    exact ⟨hq, hk, hv, hp, args_of m r h.1 c⟩
  · refine (θ_run Cert.MixReferenceIdeal.defs _ _).mono
      (fun _ h c => ⟨(h c).1.trans ?_, (h c).2.1.trans ?_, (h c).2.2.1.trans ?_, (h c).2.2.2.1.trans ?_, (h c).2.2.2.2⟩)
      (Cert.MixReferenceIdeal.Value.run (F := Ideal) m' ρ')
    all_goals obtain ⟨e0, e1, e2, e3, e4, e5⟩ := hagree c
    all_goals replace e0 : StableHlo.launchContents m' c (Proc.devRef .tc Cert.MixReferenceIdeal.main_arg0) = _ := e0
    all_goals replace e1 : StableHlo.launchContents m' c (Proc.devRef .tc Cert.MixReferenceIdeal.main_arg1) = _ := e1
    all_goals replace e2 : StableHlo.launchContents m' c (Proc.devRef .tc Cert.MixReferenceIdeal.main_arg2) = _ := e2
    all_goals replace e3 : StableHlo.launchContents m' c (Proc.devRef .tc Cert.MixReferenceIdeal.main_arg3) = _ := e3
    all_goals replace e4 : StableHlo.launchContents m' c (Proc.devRef .tc Cert.MixReferenceIdeal.main_arg4) = _ := e4
    all_goals replace e5 : StableHlo.launchContents m' c (Proc.devRef .tc Cert.MixReferenceIdeal.main_arg5) = _ := e5
    · rw [Cert.MixReferenceIdeal.Read.val_main_v71_eq, e0, e1, e2, e3, e4, e5]
      funext i
      obtain ⟨b, g, n, r, rfl⟩ : ∃ (b : Fin 32) (g : Fin 8) (n : Fin 512) (r : Fin 256), i = ix4 b g n r := ⟨i 0, i 1, i 2, i 3, eq_ix4 i⟩
      exact Ref.v71_at _ _ _ _ _ _ b g n r
    · rw [Cert.MixReferenceIdeal.Read.val_main_v72_eq, e0, e1, e2, e3, e4, e5]
      funext i
      obtain ⟨b, s, n, rfl⟩ : ∃ (b : Fin 32) (s : Fin 2048) (n : Fin 512), i = ix3 b s n := ⟨i 0, i 1, i 2, eq_ix3 i⟩
      exact Ref.v72_at _ _ _ _ _ _ b s n
    · rw [Cert.MixReferenceIdeal.Read.val_main_v73_eq, e0, e1, e2, e3]
      funext i
      obtain ⟨b, g, n, r, rfl⟩ : ∃ (b : Fin 32) (g : Fin 8) (n : Fin 640) (r : Fin 256), i = ix4 b g n r := ⟨i 0, i 1, i 2, i 3, eq_ix4 i⟩
      exact Ref.v73_at _ _ _ _ b g n r
    · rw [Cert.MixReferenceIdeal.Read.val_main_v179_eq, e0, e1, e2, e3]
      funext i
      obtain ⟨b, s, n, rfl⟩ : ∃ (b : Fin 32) (s : Fin 2048) (n : Fin 512), i = ix3 b s n := ⟨i 0, i 1, i 2, eq_ix3 i⟩
      exact Ref.v179_at _ _ _ _ b s n

end Cert.MixIn

end
-- ==== Proof.FoldValue.lean ====
/-
  The pooling weights folded into the output projection: what the call's one point leaves, and the kernel's result array,
  as a sum over a group's 128 channels.
-/
module

public import proofs.«01_k».proof.Proof.Gen.FoldIdeal.Value
public import Idealize.ShloMosaic.Lib.Claim
public import Idealize.ShloMosaic.Lib.Pointwise
public import Idealize.ShloMosaic.Lib.KernelVsHost

@[expose] public section

set_option maxRecDepth 16384

noncomputable section

namespace Cert.PoolFold

open Idealize.ShloMosaic Idealize.ShloMosaic.TcCoe Idealize.ShloMosaic.Tactic Cert.FoldIdeal Cert.FoldIdeal.Gen
open Idealize.ShloMosaic.Pipeline (Dat)

/-- Row `r`, column `j` of the folded weights: the scaled mixing row of its group against the group's projection rows. -/
def folded (w : Fin 4 → Fin 128 → Fin 128 → EReal) (s : Fin 512 → EReal) (o : Fin 512 → Fin 1024 → EReal)
    (r : Fin 512) (j : Fin 1024) : EReal :=
  ∑ k : Fin 128, w ⟨r.val / 128, by omega⟩ ⟨r.val % 128, by omega⟩ k * s ⟨r.val / 128 * 128 + k.val, by omega⟩
    * o ⟨r.val / 128 * 128 + k.val, by omega⟩ j

/-- The same, at an offset inside a group. -/
theorem folded_group (w : Fin 4 → Fin 128 → Fin 128 → EReal) (s : Fin 512 → EReal) (o : Fin 512 → Fin 1024 → EReal)
    (g : Fin 4) (a : Fin 128) (j : Fin 1024) :
    folded w s o ⟨128 * g.val + a.val, by omega⟩ j
      = ∑ k : Fin 128, w g a k * s ⟨128 * g.val + k.val, by omega⟩ * o ⟨128 * g.val + k.val, by omega⟩ j := by
  unfold folded
  refine Finset.sum_congr rfl fun k _ => ?_
  have e1 : (⟨(128 * g.val + a.val) / 128, by omega⟩ : Fin 4) = g := Fin.ext (by show (128 * g.val + a.val) / 128 = g.val; omega)
  have e2 : (⟨(128 * g.val + a.val) % 128, by omega⟩ : Fin 128) = a := Fin.ext (by show (128 * g.val + a.val) % 128 = a.val; omega)
  have e3 : (⟨(128 * g.val + a.val) / 128 * 128 + k.val, by omega⟩ : Fin 512) = ⟨128 * g.val + k.val, by omega⟩ :=
    Fin.ext (by show (128 * g.val + a.val) / 128 * 128 + k.val = 128 * g.val + k.val; omega)
  simp only [e1, e2, e3]

/-- One group's stored product at an index. -/
theorem pay_apply (v0 : Vec Ideal S1x128x128 .f32) (v1 : Vec Ideal S1x128 .f32) (v2 : Vec Ideal S128x1024 .f32)
    (a : Fin 128) (j : Fin 1024) :
    k0_pay1 v0 v1 v2 (ix2 a j) = ∑ k : Fin 128, v0 (ix3 0 a k) * v1 (ix2 0 k) * v2 (ix2 k j) := by
  pointwise [k0_pay1]

/-- What the point leaves at an index. -/
theorem out_apply (x0 : Vec Ideal S4x128x128 .f32) (x1 : Vec Ideal S1x512 .f32) (x2 : Vec Ideal S512x1024 .f32)
    (r : Fin 512) (j : Fin 1024) :
    out0_3 x0 x1 x2 (ix2 r j)
      = folded (fun g a k => x0 (ix3 g a k)) (fun k => x1 (ix2 0 k)) (fun k j => x2 (ix2 k j)) r j := by
  have key : ∀ (g : Fin 4) (v0 : Vec Ideal S1x128x128 .f32) (v1 : Vec Ideal S1x128 .f32) (v2 : Vec Ideal S128x1024 .f32)
      (_ : ∀ a k, v0 (ix3 0 a k) = x0 (ix3 g a k)) (_ : ∀ k : Fin 128, v1 (ix2 0 k) = x1 (ix2 0 ⟨128 * g.val + k.val, by omega⟩))
      (_ : ∀ (k : Fin 128) j, v2 (ix2 k j) = x2 (ix2 ⟨128 * g.val + k.val, by omega⟩ j)) (a : Fin 128) (j : Fin 1024),
      k0_pay1 v0 v1 v2 (ix2 a j) = folded (fun g a k => x0 (ix3 g a k)) (fun k => x1 (ix2 0 k)) (fun k j => x2 (ix2 k j))
        ⟨128 * g.val + a.val, by omega⟩ j := by
    intro g v0 v1 v2 h0 h1 h2 a j
    rw [pay_apply, folded_group]
    simp only [h0, h1, h2]
  unfold out0_3
  let G : S512x1024.Idx → Elt Ideal .f32 := fun y =>
    folded (fun g a k => x0 (ix3 g a k)) (fun k => x1 (ix2 0 k)) (fun k j => x2 (ix2 k j)) (y 0) (y 1)
  refine View.canon_apply_of_pieces G _ ?_ (ix2 r j) (cover0_3 _ _ _ _ _)
  intro p hp x
  simp only [List.mem_cons, List.not_mem_nil, or_false] at hp
  rcases hp with rfl | rfl | rfl | rfl
  · obtain ⟨a, j', rfl⟩ : ∃ (a : Fin 128) (j' : Fin 1024), x = ix2 a j' := ⟨x 0, x 1, eq_ix2 x⟩
    refine (key 3 (View.ld x0 r0_9) (View.ld x1 r0_10) (View.ld x2 r0_11) ?_ ?_ ?_ a j').trans ?_
    · intro a k; pointwise
    · intro k; pointwise
    · intro k j; pointwise
    · refine congrArg₂ (folded _ _ _) (Fin.ext ?_) (Fin.ext ?_)
      · show 128 * 3 + a.val = 384 + 1 * a.val; omega
      · show j'.val = 0 + 1 * j'.val; omega
  · obtain ⟨a, j', rfl⟩ : ∃ (a : Fin 128) (j' : Fin 1024), x = ix2 a j' := ⟨x 0, x 1, eq_ix2 x⟩
    refine (key 2 (View.ld x0 r0_6) (View.ld x1 r0_7) (View.ld x2 r0_8) ?_ ?_ ?_ a j').trans ?_
    · intro a k; pointwise
    · intro k; pointwise
    · intro k j; pointwise
    · refine congrArg₂ (folded _ _ _) (Fin.ext ?_) (Fin.ext ?_)
      · show 128 * 2 + a.val = 256 + 1 * a.val; omega
      · show j'.val = 0 + 1 * j'.val; omega
  · obtain ⟨a, j', rfl⟩ : ∃ (a : Fin 128) (j' : Fin 1024), x = ix2 a j' := ⟨x 0, x 1, eq_ix2 x⟩
    refine (key 1 (View.ld x0 r0_3) (View.ld x1 r0_4) (View.ld x2 r0_5) ?_ ?_ ?_ a j').trans ?_
    · intro a k; pointwise
    · intro k; pointwise
    · intro k j; pointwise
    · refine congrArg₂ (folded _ _ _) (Fin.ext ?_) (Fin.ext ?_)
      · show 128 * 1 + a.val = 128 + 1 * a.val; omega
      · show j'.val = 0 + 1 * j'.val; omega
  · obtain ⟨a, j', rfl⟩ : ∃ (a : Fin 128) (j' : Fin 1024), x = ix2 a j' := ⟨x 0, x 1, eq_ix2 x⟩
    refine (key 0 (View.ld x0 r0_0) (View.ld x1 r0_1) (View.ld x2 r0_2) ?_ ?_ ?_ a j').trans ?_
    · intro a k; pointwise
    · intro k; pointwise
    · intro k j; pointwise
    · refine congrArg₂ (folded _ _ _) (Fin.ext ?_) (Fin.ext ?_)
      · show 128 * 0 + a.val = 0 + 1 * a.val; omega
      · show j'.val = 0 + 1 * j'.val; omega

/-- The result at row `r`, column `j`, from the arguments. -/
def result (w : FVec Ideal S1x4x128x128 .f32) (s : FVec Ideal S1x512 .f32) (o : FVec Ideal S1x1024x1024 .f32)
    (r : Fin 512) (j : Fin 1024) : EReal :=
  folded (fun g a k => w (ix4 0 g a k)) (fun k => s (ix2 0 k)) (fun k j => o (ix3 0 ⟨512 + k.val, by omega⟩ j)) r j

variable (m : (ℓ : Loc nD τ sig) → Buf (Elt Ideal) ℓ)

/-- The result array, as a function of the memory's arguments. -/
def resultArr (c : Dev nD) : Buf (Elt Ideal) ((c : Thread nD τ).loc main_v4) := fun i : S512x1024.Idx =>
  result (m ((c : Thread nD τ).loc main_arg0)) (m ((c : Thread nD τ).loc main_arg1)) (m ((c : Thread nD τ).loc main_arg2)) (i 0) (i 1)

theorem idx_facts : ∀ t : Fin grid0.N, win0_0.index t = ![0, 0, 0] ∧ win0_1.index t = ![0, 0] ∧ win0_2.index t = ![1, 0]
    ∧ win0_3.index t = ![0, 0] := by
  decide +kernel

/-- Window 0's block: the mixing weights, whole. -/
theorem iblk0_apply (c : Dev nD) (t : Fin cfg0.N) (g : Fin 4) (a k : Fin 128) :
    iblk m c 0 t (ix3 g a k) = m ((c : Thread nD τ).loc main_arg0) (ix4 0 g a k) := by
  have e := (idx_facts t).1
  unfold iblk
  rw [View.read_apply]
  show V m c main_v0 _ = _
  trans V m c main_v0 (ix3 g a k)
  · congr 1
    funext q
    apply Fin.ext
    fin_cases q
    · show win0_0.index t 0 * 4 + 1 * g.val = g.val; rw [e]; simp
    · show win0_0.index t 1 * 128 + 1 * a.val = a.val; rw [e]; simp
    · show win0_0.index t 2 * 128 + 1 * k.val = k.val; rw [e]; simp
  · entry_read
    pointwise

/-- Window 1's: the scales, whole. -/
theorem iblk1_apply (c : Dev nD) (t : Fin cfg0.N) (k : Fin 512) :
    iblk m c 1 t (ix2 0 k) = m ((c : Thread nD τ).loc main_arg1) (ix2 0 k) := by
  have e := (idx_facts t).2.1
  unfold iblk
  rw [View.read_apply]
  show V m c main_v2 _ = _
  trans V m c main_v2 (ix2 0 k)
  · congr 1
    funext q
    apply Fin.ext
    fin_cases q
    · show win0_1.index t 0 * 1 + 1 * 0 = 0; rw [e]; simp
    · show win0_1.index t 1 * 512 + 1 * k.val = k.val; rw [e]; simp
  · entry_read
    pointwise

/-- Window 2's: the output projection's rows from 512 on. -/
theorem iblk2_apply (c : Dev nD) (t : Fin cfg0.N) (k : Fin 512) (j : Fin 1024) :
    iblk m c 2 t (ix2 k j) = m ((c : Thread nD τ).loc main_arg2) (ix3 0 ⟨512 + k.val, by omega⟩ j) := by
  have e := (idx_facts t).2.2.1
  unfold iblk
  rw [View.read_apply]
  show V m c main_v3 _ = _
  trans V m c main_v3 (ix2 ⟨512 + k.val, by omega⟩ j)
  · congr 1
    funext q
    apply Fin.ext
    fin_cases q
    · show win0_2.index t 0 * 512 + 1 * k.val = 512 + k.val; rw [e]; simp
    · show win0_2.index t 1 * 1024 + 1 * j.val = j.val; rw [e]; simp
  · entry_read
    pointwise

/-- The array after the run is the result. -/
theorem final (c : Dev nD) : (dats m 0 c).arrAt 3 cfg0.N = resultArr m c := by
  refine (dats m 0 c).arrAt_eq_of_cover 3 (resultArr m c) (fun t _ => ?_) fun i => ?_
  · rw [Value.flushed3]
    have e := (idx_facts t).2.2.2
    funext y
    obtain ⟨r, j, rfl⟩ : ∃ (r : Fin 512) (j : Fin 1024), y = ix2 r j := ⟨y 0, y 1, eq_ix2 y⟩
    refine (out_apply (iblk m c 0 t) (iblk m c 1 t) (iblk m c 2 t) r j).trans ?_
    simp only [iblk0_apply, iblk1_apply, iblk2_apply]
    trans resultArr m c (ix2 r j)
    · rfl
    rw [View.read_apply]
    congr 1
    funext q
    apply Fin.ext
    fin_cases q
    · show r.val = win0_3.index t 0 * 512 + 1 * r.val; rw [e]; simp
    · show j.val = win0_3.index t 1 * 1024 + 1 * j.val; rw [e]; simp
  · have h0 : (i 0 : Nat) < 512 := (i 0).isLt
    have h1 : (i 1 : Nat) < 1024 := (i 1).isLt
    refine ⟨⟨0, by decide +kernel⟩, ?_, ?_⟩
    · exact flush0_3 _
    · generalize (⟨0, _⟩ : Fin cfg0.N) = t
      have e := (idx_facts t).2.2.2
      show (show S512x1024.Idx from i) ∈ ((View.whole main_v4).slice (win0_3.rect t)).set
      rw [View.set_slice_whole, Rect.mem_set_unit]
      intro a
      fin_cases a
      · show win0_3.index t 0 * 512 ≤ (i 0 : Nat) ∧ (i 0 : Nat) < win0_3.index t 0 * 512 + 512
        rw [e]; simp; omega
      · show win0_3.index t 1 * 1024 ≤ (i 1 : Nat) ∧ (i 1 : Nat) < win0_3.index t 1 * 1024 + 1024
        rw [e]; simp; omega

end Cert.PoolFold

end
-- ==== Proof.FoldClaims.lean ====
/-
  The claims about the folded pooling weights: the reference's array read at an index, the frames, and that the kernel's
  result is the reference's.
-/
module

public import proofs.«01_k».proof.Defs
public import proofs.«01_k».proof.Proof.FoldValue
public import proofs.«01_k».proof.Proof.Gen.Fold.Frame
public import proofs.«01_k».proof.Proof.Gen.FoldReferenceIdeal.Run
public import proofs.«01_k».proof.Proof.Gen.FoldReferenceIdeal.Read

@[expose] public section

noncomputable section

namespace Cert.PoolFold

open Idealize.ShloMosaic Idealize.ShloMosaic.TcCoe Idealize.ShloMosaic.Tactic Idealize.SL.Sem

open Cert.FoldReferenceIdeal Cert.FoldReferenceIdeal.Gen Cert.FoldReferenceIdeal.Read in
/-- The reference's array at an index. -/
theorem reference_at (w : FVec Ideal S1x4x128x128 .f32) (s : FVec Ideal S1x512 .f32) (o : FVec Ideal S1x1024x1024 .f32)
    (r : Fin 512) (j : Fin 1024) : val_main_v9 (F := Ideal) w s o (ix2 r j) = result w s o r j := by
  rw [val_main_v9_apply, val_main_v8_apply]
  unfold result folded
  refine Finset.sum_congr rfl fun k _ => ?_
  have hk := k.isLt
  rw [val_main_v4_apply, val_main_v3_apply, val_main_v2_apply, val_main_v1_apply, val_main_v0_apply, val_main_v7_apply,
    val_main_v6_apply, val_main_v5_apply]
  refine congrArg₂ (· * ·) (congrArg₂ (· * ·) (congrArg w ?_) (congrArg s ?_)) (congrArg o ?_) <;>
    (funext a; apply Fin.ext; fin_cases a) <;>
    simp [idx_main_v0, idx_main_v1, idx_main_v2, idx_main_v3, idx_main_v5, idx_main_v6, idx_main_v7, idx_main_v9,
      lidx_main_v8, ridx_main_v8, ix2, ix3, ix4] <;> omega

/-- The kernel's frame, at bits. -/
theorem frame_kernel : Cert.quiescent_Fold := fun m ρ _ => Cert.Fold.Gen.frame m ρ

/-- The idealized kernel's frame. -/
theorem frame_ideal : Cert.quiescent_FoldIdeal := fun m ρ _ => Cert.FoldIdeal.Gen.frame m ρ

/-- The reference's frame: its run, which declares no semaphore. -/
theorem frame_reference : Cert.quiescent_FoldReferenceIdeal := fun m ρ _ =>
  (θ_run Cert.FoldReferenceIdeal.defs _ _).mono (fun r h => ⟨fun c => (h c).2, sem_eq_zero_of_no_sems (by decide) r.2⟩)
    (Cert.FoldReferenceIdeal.Value.run (F := Ideal) m ρ)

/-- The idealization rewrote nothing. -/
theorem preserves : Cert.preserves_Fold_FoldIdeal := trivial

/-- Kernel and reference end with the same array. -/
theorem algebraic : Cert.algebraic_FoldIdeal_FoldReferenceIdeal := by
  intro m ρ m' ρ' _ hagree
  refine ⟨fun c => resultArr m c, ?_, ?_⟩
  · exact (θ_run Cert.FoldIdeal.defs _ _).mono (fun _ h c => ⟨(h c).1.trans (final m c), (h c).2⟩)
      (Cert.FoldIdeal.Value.run_blocks (F := Ideal) m ρ)
  · refine (θ_run Cert.FoldReferenceIdeal.defs _ _).mono (fun _ h c => ⟨(h c).1.trans ?_, (h c).2⟩)
      (Cert.FoldReferenceIdeal.Value.run (F := Ideal) m' ρ')
    obtain ⟨e0, e1, e2⟩ := hagree c
    rw [Cert.FoldReferenceIdeal.Read.val_main_v9_eq, e0, e1, e2]
    funext i
    obtain ⟨r, j, rfl⟩ : ∃ (r : Fin 512) (j : Fin 1024), i = ix2 r j := ⟨i 0, i 1, eq_ix2 i⟩
    exact reference_at _ _ _ r j

end Cert.PoolFold

end
-- ==== Proof.AdalnValue.lean ====
/-
  The modulation: what the call leaves at a point, and the kernel's result array, as one product of the activated
  conditioning rows and the weights, plus the bias. The kernel splits both factors into a rounded part and a rest and adds
  three products; over the extended reals the rests are zero where the entries are finite.
-/
module

public import proofs.«01_k».proof.Proof.Gen.AdalnIdeal.Value
public import Idealize.ShloMosaic.Lib.Claim
public import Idealize.ShloMosaic.Lib.Pointwise
public import Idealize.ShloMosaic.Lib.KernelVsHost

@[expose] public section

set_option maxRecDepth 16384

noncomputable section

namespace Cert.Modulation

open Idealize.ShloMosaic Idealize.ShloMosaic.TcCoe Idealize.ShloMosaic.Tactic Cert.AdalnIdeal Cert.AdalnIdeal.Gen
open Idealize.ShloMosaic.Pipeline (Dat)

/-- An extended real that is neither infinity. -/
def Finite (x : EReal) : Prop := x ≠ ⊤ ∧ x ≠ ⊥

/-- The activation of the conditioning: `x` times its logistic. -/
def act (x : EReal) : EReal := x * Ideal.logistic x

/-- A finite number's activation is finite. -/
theorem act_finite (x : EReal) (h : Finite x) : Finite (act x) := by
  induction x with
  | bot => exact absurd rfl h.2
  | top => exact absurd rfl h.1
  | coe r =>
    unfold act
    rw [Ideal.logistic_coe, ← EReal.coe_mul]
    exact ⟨EReal.coe_ne_top _, EReal.coe_ne_bot _⟩

/-- A finite number minus itself is zero. -/
theorem sub_self_of_finite (x : EReal) (h : Finite x) : x - x = 0 := EReal.sub_self h.1 h.2

/-- One entry: the activated row against the column, plus the bias. -/
def modulated (c w : Fin 1024 → EReal) (b : EReal) : EReal := (∑ k : Fin 1024, act (c k) * w k) + b

/-- The stored block at an index, of finite rows and weights. -/
theorem pay_apply (v0 : Vec Ideal S32x1024 .f32) (v1 : Vec Ideal S1024x1024 .f32) (v2 : Vec Ideal S1x1024 .f32)
    (h0 : ∀ r k, Finite (v0 (ix2 r k))) (h1 : ∀ k j, Finite (v1 (ix2 k j))) (r : Fin 32) (j : Fin 1024) :
    k0_pay1 v0 v1 v2 (ix2 r j) = modulated (fun k => v0 (ix2 r k)) (fun k => v1 (ix2 k j)) (v2 (ix2 0 j)) := by
  pointwise [k0_pay1]
  have e0 : ∀ k, v0 (ix2 r k) * Ideal.logistic (v0 (ix2 r k)) - v0 (ix2 r k) * Ideal.logistic (v0 (ix2 r k)) = 0 :=
    fun k => sub_self_of_finite _ (act_finite _ (h0 r k))
  have e1 : ∀ k, v1 (ix2 k j) - v1 (ix2 k j) = 0 := fun k => sub_self_of_finite _ (h1 k j)
  simp only [e0, e1, zero_mul, mul_zero, Finset.sum_const_zero, add_zero]
  rfl

/-- What a point leaves at an index. -/
theorem out_apply (x0 : Vec Ideal S32x1024 .f32) (x1 : Vec Ideal S1024x1024 .f32) (x2 : Vec Ideal S1x1024 .f32)
    (h0 : ∀ r k, Finite (x0 (ix2 r k))) (h1 : ∀ k j, Finite (x1 (ix2 k j))) (r : Fin 32) (j : Fin 1024) :
    out0_3 x0 x1 x2 (ix2 r j) = modulated (fun k => x0 (ix2 r k)) (fun k => x1 (ix2 k j)) (x2 (ix2 0 j)) := by
  have l0 : ∀ r k, View.ld x0 r0_0 (ix2 r k) = x0 (ix2 r k) := by intro r k; pointwise
  have l1 : ∀ k j, View.ld x1 r0_1 (ix2 k j) = x1 (ix2 k j) := by intro k j; pointwise
  have l2 : ∀ j, View.ld x2 r0_2 (ix2 0 j) = x2 (ix2 0 j) := by intro j; pointwise
  unfold out0_3
  let G : S32x1024.Idx → Elt Ideal .f32 := fun y =>
    modulated (fun k => x0 (ix2 (y 0) k)) (fun k => x1 (ix2 k (y 1))) (x2 (ix2 0 (y 1)))
  refine View.canon_apply_of_pieces G _ ?_ (ix2 r j) (cover0_3 _ _)
  intro p hp x
  simp only [List.mem_cons, List.not_mem_nil, or_false] at hp
  subst hp
  obtain ⟨r', j', rfl⟩ : ∃ (r' : Fin 32) (j' : Fin 1024), x = ix2 r' j' := ⟨x 0, x 1, eq_ix2 x⟩
  refine (pay_apply (View.ld x0 r0_0) (View.ld x1 r0_1) (View.ld x2 r0_2) (fun r k => by rw [l0]; exact h0 r k)
    (fun k j => by rw [l1]; exact h1 k j) r' j').trans ?_
  simp only [l0, l1, l2]
  trans G (ix2 r' j')
  · rfl
  · congr 1
    funext q
    apply Fin.ext
    fin_cases q
    · show r'.val = 0 + 1 * r'.val; omega
    · show j'.val = 0 + 1 * j'.val; omega

/-- The result at row `r`, column `j`, from the arguments. -/
def result (x : FVec Ideal S32x1024 .f32) (w : FVec Ideal S1x1024x6144 .f32) (b : FVec Ideal S1x6144 .f32)
    (r : Fin 32) (j : Fin 6144) : EReal :=
  modulated (fun k => x (ix2 r k)) (fun k => w (ix3 0 k j)) (b (ix2 0 j))

variable (m : (ℓ : Loc nD τ sig) → Buf (Elt Ideal) ℓ)

/-- The result array, as a function of the memory's arguments. -/
def resultArr (c : Dev nD) : Buf (Elt Ideal) ((c : Thread nD τ).loc main_v3) := fun i : S32x6144.Idx =>
  result (m ((c : Thread nD τ).loc main_arg0)) (m ((c : Thread nD τ).loc main_arg1)) (m ((c : Thread nD τ).loc main_arg2)) (i 0) (i 1)

theorem idx_facts : ∀ t : Fin grid0.N, win0_0.index t = ![0, 0] ∧ win0_1.index t = ![0, t.val] ∧ win0_2.index t = ![0, t.val]
    ∧ win0_3.index t = ![0, t.val] := by
  decide +kernel

theorem points (t : Fin cfg0.N) : t.val < 6 := t.isLt.trans_le (by decide +kernel)

/-- Window 0's block: the conditioning rows, whole. -/
theorem iblk0_apply (c : Dev nD) (t : Fin cfg0.N) (r : Fin 32) (k : Fin 1024) :
    iblk m c 0 t (ix2 r k) = m ((c : Thread nD τ).loc main_arg0) (ix2 r k) := by
  have e := (idx_facts t).1
  unfold iblk
  rw [View.read_apply]
  show V m c main_arg0 _ = _
  trans V m c main_arg0 (ix2 r k)
  · congr 1
    funext q
    apply Fin.ext
    fin_cases q
    · show win0_0.index t 0 * 32 + 1 * r.val = r.val; rw [e]; simp
    · show win0_0.index t 1 * 1024 + 1 * k.val = k.val; rw [e]; simp
  · rw [V_main_arg0]

/-- Window 1's: the point's 1024 columns of the weights. -/
theorem iblk1_apply (c : Dev nD) (t : Fin cfg0.N) (k j : Fin 1024) :
    iblk m c 1 t (ix2 k j)
      = m ((c : Thread nD τ).loc main_arg1) (ix3 0 k ⟨t.val * 1024 + j.val, by have := points t; omega⟩) := by
  have e := (idx_facts t).2.1
  have ht := points t
  unfold iblk
  rw [View.read_apply]
  show V m c main_v0 _ = _
  trans V m c main_v0 (ix2 k ⟨t.val * 1024 + j.val, by omega⟩)
  · congr 1
    funext q
    apply Fin.ext
    fin_cases q
    · show win0_1.index t 0 * 1024 + 1 * k.val = k.val; rw [e]; simp
    · show win0_1.index t 1 * 1024 + 1 * j.val = t.val * 1024 + j.val; rw [e]; simp
  · entry_read
    pointwise

/-- Window 2's: the point's 1024 columns of the bias. -/
theorem iblk2_apply (c : Dev nD) (t : Fin cfg0.N) (j : Fin 1024) :
    iblk m c 2 t (ix2 0 j)
      = m ((c : Thread nD τ).loc main_arg2) (ix2 0 ⟨t.val * 1024 + j.val, by have := points t; omega⟩) := by
  have e := (idx_facts t).2.2.1
  have ht := points t
  unfold iblk
  rw [View.read_apply]
  show V m c main_v2 _ = _
  trans V m c main_v2 (ix2 0 ⟨t.val * 1024 + j.val, by omega⟩)
  · congr 1
    funext q
    apply Fin.ext
    fin_cases q
    · show win0_2.index t 0 * 1 + 1 * 0 = 0; rw [e]; simp
    · show win0_2.index t 1 * 1024 + 1 * j.val = t.val * 1024 + j.val; rw [e]; simp
  · entry_read
    pointwise

/-- The array after the run is the result, of finite conditioning rows and weights. -/
theorem final (c : Dev nD) (h0 : ∀ r k, Finite (m ((c : Thread nD τ).loc main_arg0) (ix2 r k)))
    (h1 : ∀ (k : Fin 1024) (j : Fin 6144), Finite (m ((c : Thread nD τ).loc main_arg1) (ix3 0 k j))) :
    (dats m 0 c).arrAt 3 cfg0.N = resultArr m c := by
  refine (dats m 0 c).arrAt_eq_of_cover 3 (resultArr m c) (fun t _ => ?_) fun i => ?_
  · rw [Value.flushed3]
    have e := (idx_facts t).2.2.2
    have ht := points t
    funext y
    obtain ⟨r, j, rfl⟩ : ∃ (r : Fin 32) (j : Fin 1024), y = ix2 r j := ⟨y 0, y 1, eq_ix2 y⟩
    refine (out_apply (iblk m c 0 t) (iblk m c 1 t) (iblk m c 2 t) (fun r k => by rw [iblk0_apply]; exact h0 r k)
      (fun k j => by rw [iblk1_apply]; exact h1 k _) r j).trans ?_
    simp only [iblk0_apply, iblk1_apply, iblk2_apply]
    trans resultArr m c (ix2 r ⟨t.val * 1024 + j.val, by omega⟩)
    · rfl
    rw [View.read_apply]
    congr 1
    funext q
    apply Fin.ext
    fin_cases q
    · show r.val = win0_3.index t 0 * 32 + 1 * r.val; rw [e]; simp
    · show t.val * 1024 + j.val = win0_3.index t 1 * 1024 + 1 * j.val; rw [e]; simp
  · have h0 : (i 0 : Nat) < 32 := (i 0).isLt
    have h1 : (i 1 : Nat) < 6144 := (i 1).isLt
    have hN : cfg0.N = 6 := by decide +kernel
    refine ⟨⟨(i 1 : Nat) / 1024, by rw [hN]; omega⟩, ?_, ?_⟩
    · exact flush0_3 _
    · have hv : (⟨(i 1 : Nat) / 1024, by rw [hN]; omega⟩ : Fin cfg0.N).val = (i 1 : Nat) / 1024 := rfl
      generalize (⟨(i 1 : Nat) / 1024, _⟩ : Fin cfg0.N) = t at hv
      have e := (idx_facts t).2.2.2
      show (show S32x6144.Idx from i) ∈ ((View.whole main_v3).slice (win0_3.rect t)).set
      rw [View.set_slice_whole, Rect.mem_set_unit]
      intro a
      fin_cases a
      · show win0_3.index t 0 * 32 ≤ (i 0 : Nat) ∧ (i 0 : Nat) < win0_3.index t 0 * 32 + 32
        rw [e]; simp; omega
      · show win0_3.index t 1 * 1024 ≤ (i 1 : Nat) ∧ (i 1 : Nat) < win0_3.index t 1 * 1024 + 1024
        rw [e]; simp; omega

end Cert.Modulation

end
-- ==== Proof.AdalnClaims.lean ====
/-
  The claims about the modulation: the precondition read as finiteness of the entries, the reference's array read at an
  index, the frames, and that the kernel's result is the reference's.
-/
module

public import proofs.«01_k».proof.Defs
public import proofs.«01_k».proof.Proof.AdalnValue
public import proofs.«01_k».proof.Proof.Gen.Adaln.Frame
public import proofs.«01_k».proof.Proof.Gen.AdalnReferenceIdeal.Run
public import proofs.«01_k».proof.Proof.Gen.AdalnReferenceIdeal.Read
public import Idealize.ShloMosaic.Lib.ReduceAll

@[expose] public section

noncomputable section

namespace Cert.Modulation

open Idealize.ShloMosaic Idealize.ShloMosaic.TcCoe Idealize.ShloMosaic.Tactic Idealize.SL.Sem

/-- The side conditions of the printed precondition. -/
instance preFacts : Cert.Pre_adaln_finite.Facts where
  bcast_S_S32x1024 := by decide
  reducesTo_S32x1024_S_d0_1 := by decide
  h_S_ := by decide
  bcast_S_S1x1024x6144 := by decide
  reducesTo_S1x1024x6144_S_d0_1_2 := by decide

/-- A number whose absolute value compares below infinity is finite. -/
theorem finite_of_cmp (x : EReal)
    (h : FloatOps.cmpf (F := Ideal) (φ := .f32) .olt (FloatOps.hostAbsf x) (FloatOps.ofBits (F := Ideal) .f32 0x7F800000#32) = 1#1) :
    Finite x := by
  have htop : Ideal.ofBits .f32 0x7F800000#32 = ⊤ := by simp [Ideal.ofBits, Ideal.ieee]
  have h' : Ideal.cmp .olt (max x (-x)) (Ideal.ofBits .f32 0x7F800000#32) = 1 := h
  rw [htop, Ideal.cmp_olt_eq_one, max_lt_iff] at h'
  refine ⟨h'.1.ne, fun e => ?_⟩
  rw [e] at h'
  simp at h'

open Cert.Pre_adaln_finite in
/-- The precondition: every conditioning entry and every weight is finite. -/
theorem finite_of_pre (x : FVec Ideal S32x1024 .f32) (w : FVec Ideal S1x1024x6144 .f32) (b : FVec Ideal S1x6144 .f32)
    (h : Cert.Pre_adaln_finite.fn (F := Ideal) x w b = fun _ => 1#1) : (∀ i, Finite (x i)) ∧ ∀ i, Finite (w i) := by
  have : Subsingleton S_.Idx := ⟨fun a b => funext fun q => q.elim0⟩
  have e := congrFun h (fun q => q.elim0)
  obtain ⟨hx, hw⟩ := IntOp.andi_eq_one.1 e
  exact ⟨fun i => finite_of_cmp _ (Host.reduce_andi_all _ _ _ _ _ hx i), fun i => finite_of_cmp _ (Host.reduce_andi_all _ _ _ _ _ hw i)⟩

open Cert.AdalnReferenceIdeal Cert.AdalnReferenceIdeal.Gen Cert.AdalnReferenceIdeal.Read in
/-- The reference's activation at an index. -/
theorem reference_act (x : FVec Ideal S32x1024 .f32) (r : Fin 32) (k : Fin 1024) :
    val_main_v0 (F := Ideal) x (ix2 r k) = act (x (ix2 r k)) := by
  have one : Ideal.ofBits .f32 0x3F800000#32 = 1 := by
    simp [Ideal.ofBits, Ideal.ieee]
    rw [← EReal.coe_mul]
    norm_num
  rw [val_main_v0_apply, val_main_call0_v5_apply, val_main_call0_v4_apply, val_main_call0_cst_0_apply, val_main_call0_v3_apply,
    val_main_call0_v2_apply, val_main_call0_cst_apply, val_main_call0_v1_apply, val_main_call0_v0_apply]
  show x (ix2 r k) * Ideal.div (Ideal.ofBits .f32 0x3F800000#32) (Ideal.ofBits .f32 0x3F800000#32 + Ideal.exp (-x (ix2 r k))) = _
  rw [one]
  rfl

open Cert.AdalnReferenceIdeal Cert.AdalnReferenceIdeal.Gen Cert.AdalnReferenceIdeal.Read in
/-- The reference's array at an index. -/
theorem reference_at (x : FVec Ideal S32x1024 .f32) (w : FVec Ideal S1x1024x6144 .f32) (b : FVec Ideal S1x6144 .f32)
    (r : Fin 32) (j : Fin 6144) : val_main_v6 (F := Ideal) x w b (ix2 r j) = result x w b r j := by
  rw [val_main_v6_apply, val_main_v2_apply]
  have hj := j.isLt
  have eb : val_main_v5 (F := Ideal) b (ix2 r j) = b (ix2 0 j) := by
    rw [val_main_v5_apply, val_main_v4_apply, val_main_v3_apply]
    congr 1
    funext a
    apply Fin.ext
    fin_cases a <;> simp [ix2]
  rw [eb]
  refine congrArg (· + b (ix2 0 j)) (Finset.sum_congr rfl fun k _ => ?_)
  have hk := k.isLt
  have el : lidx_main_v2 (ix2 r j) k = ix2 r k := by
    funext a
    apply Fin.ext
    fin_cases a <;> rfl
  rw [el, reference_act, val_main_v1_apply]
  refine congrArg (act (x (ix2 r k)) * ·) (congrArg w ?_)
  funext a
  apply Fin.ext
  fin_cases a <;> simp [idx_main_v1, ridx_main_v2, ix2, ix3] <;> omega

/-- The kernel's frame, at bits. -/
theorem frame_kernel : Cert.quiescent_Adaln := fun m ρ _ => Cert.Adaln.Gen.frame m ρ

/-- The idealized kernel's frame. -/
theorem frame_ideal : Cert.quiescent_AdalnIdeal := fun m ρ _ => Cert.AdalnIdeal.Gen.frame m ρ

/-- The same of the memories that the precondition holds of. -/
theorem frame_ideal_pre : Cert.quiescent_AdalnIdeal_pre_adaln_finite := fun m ρ _ => Cert.AdalnIdeal.Gen.frame m ρ

/-- The reference's run, which declares no semaphore, from any memory. -/
theorem frame_reference : Cert.quiescent_AdalnReferenceIdeal := fun m ρ _ =>
  (θ_run Cert.AdalnReferenceIdeal.defs _ _).mono (fun r h => ⟨fun c => (h c).2, sem_eq_zero_of_no_sems (by decide) r.2⟩)
    (Cert.AdalnReferenceIdeal.Value.run (F := Ideal) m ρ)

/-- The same of the memories that the precondition holds of. -/
theorem frame_reference_pre : Cert.quiescent_AdalnReferenceIdeal_pre_adaln_finite := fun m ρ _ => frame_reference m ρ trivial

/-- The idealization rewrote nothing. -/
theorem preserves : Cert.preserves_Adaln_AdalnIdeal := trivial

/-- Kernel and reference end with the same array. -/
theorem algebraic : Cert.algebraic_AdalnIdeal_AdalnReferenceIdeal_pre_adaln_finite := by
  intro m ρ m' ρ' hpre hagree
  refine ⟨fun c => resultArr m c, ?_, ?_⟩
  · refine (θ_run Cert.AdalnIdeal.defs _ _).mono (fun _ h c => ⟨(h c).1.trans (final m c (fun r k => ?_) fun k j => ?_), (h c).2⟩)
      (Cert.AdalnIdeal.Value.run_blocks (F := Ideal) m ρ)
    · exact (finite_of_pre _ _ _ (hpre c)).1 (ix2 r k)
    · exact (finite_of_pre _ _ _ (hpre c)).2 (ix3 0 k j)
  · refine (θ_run Cert.AdalnReferenceIdeal.defs _ _).mono (fun _ h c => ⟨(h c).1.trans ?_, (h c).2⟩)
      (Cert.AdalnReferenceIdeal.Value.run (F := Ideal) m' ρ')
    obtain ⟨e0, e1, e2⟩ := hagree c
    rw [Cert.AdalnReferenceIdeal.Read.val_main_v6_eq, e0, e1, e2]
    funext i
    obtain ⟨r, j, rfl⟩ : ∃ (r : Fin 32) (j : Fin 6144), i = ix2 r j := ⟨i 0, i 1, eq_ix2 i⟩
    exact reference_at _ _ _ r j

end Cert.Modulation

end
-- ==== Proof.lean ====
/- The certificate's claims, assembled. -/
module

public import proofs.«01_k».proof.Proof.Claims
public import proofs.«01_k».proof.Proof.MixClaims
public import proofs.«01_k».proof.Proof.FoldClaims
public import proofs.«01_k».proof.Proof.AdalnClaims

@[expose] public section

noncomputable section

namespace Cert.Proof

/-- Every claim of the output projection and MLP, of the mixer's input projections, of the folded pooling weights and of the modulation. -/
theorem claim : Cert.Claim := ⟨Cert.Kernel.Gen.facts, Cert.KernelIdeal.Gen.facts, Cert.ReferenceIdeal.Gen.facts,
  Cert.Mix.Gen.facts, Cert.MixIdeal.Gen.facts, Cert.MixReferenceIdeal.Gen.facts,
  Cert.Fold.Gen.facts, Cert.FoldIdeal.Gen.facts, Cert.FoldReferenceIdeal.Gen.facts,
  Cert.Adaln.Gen.facts, Cert.AdalnIdeal.Gen.facts, Cert.AdalnReferenceIdeal.Gen.facts, Cert.Modulation.preFacts,
  Cert.OutMlp.frame_kernel, Cert.OutMlp.frame_ideal, Cert.OutMlp.frame_reference,
  Cert.MixIn.frame_kernel, Cert.MixIn.frame_ideal, Cert.MixIn.frame_reference,
  Cert.PoolFold.frame_kernel, Cert.PoolFold.frame_ideal, Cert.PoolFold.frame_reference,
  Cert.Modulation.frame_kernel, Cert.Modulation.frame_ideal, Cert.Modulation.frame_ideal_pre,
  Cert.Modulation.frame_reference, Cert.Modulation.frame_reference_pre,
  Cert.OutMlp.preserves, Cert.OutMlp.algebraic, Cert.MixIn.preserves, Cert.MixIn.algebraic,
  Cert.PoolFold.preserves, Cert.PoolFold.algebraic,
  Cert.Modulation.preserves, Cert.Modulation.algebraic⟩

end Cert.Proof

end
